-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v19)) (v4 : (c : Dev Cert.KernelIdeal.nD) → Buf (Elt Ideal) ((c.tc : Thread Cert.KernelIdeal.nD Cert.KernelIdeal.τ).loc Cert.KernelIdeal.main_v21)) (v5 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_v24) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v426) = v0 c
          ∧ r.2.mem ((c.tc : Thread Cert.ReferenceIdeal.nD Cert.ReferenceIdeal.τ).loc Cert.ReferenceIdeal.main_v412) = v1 c
          ∧ r.2.mem ((c.tc : Thread Cert.ReferenceIdeal.nD Cert.ReferenceIdeal.τ).loc Cert.ReferenceIdeal.main_v429) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v432) = v4 c
          ∧ r.2.mem ((c.tc : Thread Cert.ReferenceIdeal.nD Cert.ReferenceIdeal.τ).loc Cert.ReferenceIdeal.main_v57) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x640x24x128 : Shape := ⟨4, ![2, 640, 24, 128]⟩
abbrev S2x640x24x256 : Shape := ⟨4, ![2, 640, 24, 256]⟩
abbrev S2x640x24 : Shape := ⟨3, ![2, 640, 24]⟩
abbrev S2x24x128x256 : Shape := ⟨4, ![2, 24, 128, 256]⟩
abbrev S_ : Shape := ⟨0, ![]⟩

class Facts : Prop where
  bitsLt_bf16_f32 : FTy.bits .bf16 < FTy.bits .f32
  bcast_S_S2x640x24x128 : S_.BroadcastsInDim S2x640x24x128 (![] : Fin 0 → Fin S2x640x24x128.rank)
  reducesTo_S2x640x24x128_S_d0_1_2_3 : S2x640x24x128.ReducesTo [0, 1, 2, 3] S_
  h_S_ : 0 < S_.numel
  bcast_S_S2x640x24x256 : S_.BroadcastsInDim S2x640x24x256 (![] : Fin 0 → Fin S2x640x24x256.rank)
  reducesTo_S2x640x24x256_S_d0_1_2_3 : S2x640x24x256.ReducesTo [0, 1, 2, 3] S_
  bcast_S_S2x640x24 : S_.BroadcastsInDim S2x640x24 (![] : Fin 0 → Fin S2x640x24.rank)
  reducesTo_S2x640x24_S_d0_1_2 : S2x640x24.ReducesTo [0, 1, 2] S_
  bcast_S_S2x24x128x256 : S_.BroadcastsInDim S2x24x128x256 (![] : Fin 0 → Fin S2x24x128x256.rank)
  reducesTo_S2x24x128x256_S_d0_1_2_3 : S2x24x128x256.ReducesTo [0, 1, 2, 3] S_

variable [Facts]

def fn_part1 {F : FTy → Type} [FloatOps F] (main_arg4 : FVec F S2x640x24 .f32) (main_arg5 : FVec F S2x24x128x256 .f32) (main_v4 : IVec S_ 1) (main_v9 : IVec S_ 1) (main_v14 : IVec S_ 1) (main_v15 : FVec F S2x640x24 .f32) (main_v16 : FVec F S2x640x24 .f32) : IVec S_ 1 :=
  let main_v17 : IVec S2x640x24 1 := cmpf .ole main_v15 main_v16
  let main_c_5 : IVec S_ 1 := constantI S_ 1 1#1
  let main_v18 : IVec S_ 1 := (fun x v => Host.reduce IntOp.andi x v reducesTo_S2x640x24_S_d0_1_2 h_S_) main_v17 main_c_5
  let main_v19 : FVec F S2x640x24 .f32 := Host.absf main_arg4
  let main_cst_6 : FVec F S_ .f32 := constant S_ .f32 0x7F7FFFFF#32
  let main_v20 : FVec F S2x640x24 .f32 := broadcastInDim S2x640x24 ![] bcast_S_S2x640x24 main_cst_6
  let main_v21 : IVec S2x640x24 1 := cmpf .ole main_v19 main_v20
  let main_c_7 : IVec S_ 1 := constantI S_ 1 1#1
  let main_v22 : IVec S_ 1 := (fun x v => Host.reduce IntOp.andi x v reducesTo_S2x640x24_S_d0_1_2 h_S_) main_v21 main_c_7
  let main_v23 : FVec F S2x24x128x256 .f32 := Host.absf main_arg5
  let main_cst_8 : FVec F S_ .f32 := constant S_ .f32 0x7F7FFFFF#32
  let main_v24 : FVec F S2x24x128x256 .f32 := broadcastInDim S2x24x128x256 ![] bcast_S_S2x24x128x256 main_cst_8
  let main_v25 : IVec S2x24x128x256 1 := cmpf .ole main_v23 main_v24
  let main_c_9 : IVec S_ 1 := constantI S_ 1 1#1
  let main_v26 : IVec S_ 1 := (fun x v => Host.reduce IntOp.andi x v reducesTo_S2x24x128x256_S_d0_1_2_3 h_S_) main_v25 main_c_9
  let main_v27 : IVec S_ 1 := andi main_v4 main_v9
  let main_v28 : IVec S_ 1 := andi main_v27 main_v14
  let main_v29 : IVec S_ 1 := andi main_v28 main_v18
  let main_v30 : IVec S_ 1 := andi main_v29 main_v22
  let main_v31 : IVec S_ 1 := andi main_v30 main_v26
  main_v31

def fn {F : FTy → Type} [FloatOps F] (main_arg0 : FVec F S2x640x24x128 .bf16) (main_arg1 : FVec F S2x640x24x128 .bf16) (main_arg2 : FVec F S2x640x24x256 .bf16) (main_arg3 : FVec F S2x640x24 .f32) (main_arg4 : FVec F S2x640x24 .f32) (main_arg5 : FVec F S2x24x128x256 .f32) : IVec S_ 1 :=
  let main_v0 : FVec F S2x640x24x128 .f32 := (extf .f32 · bitsLt_bf16_f32) main_arg0
  let main_v1 : FVec F S2x640x24x128 .f32 := Host.absf main_v0
  let main_cst : FVec F S_ .f32 := constant S_ .f32 0x7F7F0000#32
  let main_v2 : FVec F S2x640x24x128 .f32 := broadcastInDim S2x640x24x128 ![] bcast_S_S2x640x24x128 main_cst
  let main_v3 : IVec S2x640x24x128 1 := cmpf .ole main_v1 main_v2
  let main_c : IVec S_ 1 := constantI S_ 1 1#1
  let main_v4 : IVec S_ 1 := (fun x v => Host.reduce IntOp.andi x v reducesTo_S2x640x24x128_S_d0_1_2_3 h_S_) main_v3 main_c
  let main_v5 : FVec F S2x640x24x128 .f32 := (extf .f32 · bitsLt_bf16_f32) main_arg1
  let main_v6 : FVec F S2x640x24x128 .f32 := Host.absf main_v5
  let main_cst_0 : FVec F S_ .f32 := constant S_ .f32 0x7F7F0000#32
  let main_v7 : FVec F S2x640x24x128 .f32 := broadcastInDim S2x640x24x128 ![] bcast_S_S2x640x24x128 main_cst_0
  let main_v8 : IVec S2x640x24x128 1 := cmpf .ole main_v6 main_v7
  let main_c_1 : IVec S_ 1 := constantI S_ 1 1#1
  let main_v9 : IVec S_ 1 := (fun x v => Host.reduce IntOp.andi x v reducesTo_S2x640x24x128_S_d0_1_2_3 h_S_) main_v8 main_c_1
  let main_v10 : FVec F S2x640x24x256 .f32 := (extf .f32 · bitsLt_bf16_f32) main_arg2
  let main_v11 : FVec F S2x640x24x256 .f32 := Host.absf main_v10
  let main_cst_2 : FVec F S_ .f32 := constant S_ .f32 0x7F7F0000#32
  let main_v12 : FVec F S2x640x24x256 .f32 := broadcastInDim S2x640x24x256 ![] bcast_S_S2x640x24x256 main_cst_2
  let main_v13 : IVec S2x640x24x256 1 := cmpf .ole main_v11 main_v12
  let main_c_3 : IVec S_ 1 := constantI S_ 1 1#1
  let main_v14 : IVec S_ 1 := (fun x v => Host.reduce IntOp.andi x v reducesTo_S2x640x24x256_S_d0_1_2_3 h_S_) main_v13 main_c_3
  let main_v15 : FVec F S2x640x24 .f32 := Host.absf main_arg3
  let main_cst_4 : FVec F S_ .f32 := constant S_ .f32 0x7F7FFFFF#32
  let main_v16 : FVec F S2x640x24 .f32 := broadcastInDim S2x640x24 ![] bcast_S_S2x640x24 main_cst_4
  fn_part1 (F := F) main_arg4 main_arg5 main_v4 main_v9 main_v14 main_v15 main_v16
-- ==== Kernel.lean ====
abbrev S2x640x24x128 : Shape := ⟨4, ![2, 640, 24, 128]⟩
abbrev S2x640x24x256 : Shape := ⟨4, ![2, 640, 24, 256]⟩
abbrev S2x640x24 : Shape := ⟨3, ![2, 640, 24]⟩
abbrev S2x24x128x256 : Shape := ⟨4, ![2, 24, 128, 256]⟩
abbrev S2x10x64x24x128 : Shape := ⟨5, ![2, 10, 64, 24, 128]⟩
abbrev S2x24x10x64x128 : Shape := ⟨5, ![2, 24, 10, 64, 128]⟩
abbrev S2x10x64x24x256 : Shape := ⟨5, ![2, 10, 64, 24, 256]⟩
abbrev S2x24x10x64x256 : Shape := ⟨5, ![2, 24, 10, 64, 256]⟩
abbrev S2x10x64x24x1 : Shape := ⟨5, ![2, 10, 64, 24, 1]⟩
abbrev S2x24x10x64x1 : Shape := ⟨5, ![2, 24, 10, 64, 1]⟩
abbrev S2x24x10x64 : Shape := ⟨4, ![2, 24, 10, 64]⟩
abbrev S2x24x10x128 : Shape := ⟨4, ![2, 24, 10, 128]⟩
abbrev S1x1x10x64x128 : Shape := ⟨5, ![1, 1, 10, 64, 128]⟩
abbrev S1x1x10x64x256 : Shape := ⟨5, ![1, 1, 10, 64, 256]⟩
abbrev S1x1x10x64 : Shape := ⟨4, ![1, 1, 10, 64]⟩
abbrev S1x1x128x256 : Shape := ⟨4, ![1, 1, 128, 256]⟩
abbrev S1x1x10x128 : Shape := ⟨4, ![1, 1, 10, 128]⟩
abbrev S64x64 : Shape := ⟨2, ![64, 64]⟩
abbrev S1x1x1x64x128 : Shape := ⟨5, ![1, 1, 1, 64, 128]⟩
abbrev S64x128 : Shape := ⟨2, ![64, 128]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x128 : Shape := ⟨2, ![1, 128]⟩
abbrev S1x1x1x128 : Shape := ⟨4, ![1, 1, 1, 128]⟩
abbrev S1x1x1x64 : Shape := ⟨4, ![1, 1, 1, 64]⟩
abbrev S1x64 : Shape := ⟨2, ![1, 64]⟩
abbrev S1x1x1x64x256 : Shape := ⟨5, ![1, 1, 1, 64, 256]⟩
abbrev S64x256 : Shape := ⟨2, ![64, 256]⟩
abbrev S128x256 : Shape := ⟨2, ![128, 256]⟩
abbrev S2x24x10x1 : Shape := ⟨4, ![2, 24, 10, 1]⟩
abbrev S2x24x10 : Shape := ⟨3, ![2, 24, 10]⟩
abbrev S2x10x24 : Shape := ⟨3, ![2, 10, 24]⟩

abbrev nBuf : Space → Nat
  | .hbm => 36
  | .vmem => 24
  | .smem => 0
  | _ => 0

abbrev bufTy : (tb : Table) → Fin (tcTables nBuf tb) → BufTy
  | .hbm, ⟨0, _⟩ => ⟨S2x640x24x128, .bf16⟩
  | .hbm, ⟨1, _⟩ => ⟨S2x640x24x128, .bf16⟩
  | .hbm, ⟨2, _⟩ => ⟨S2x640x24x256, .bf16⟩
  | .hbm, ⟨3, _⟩ => ⟨S2x640x24, .f32⟩
  | .hbm, ⟨4, _⟩ => ⟨S2x640x24, .f32⟩
  | .hbm, ⟨5, _⟩ => ⟨S2x24x128x256, .f32⟩
  | .hbm, ⟨6, _⟩ => ⟨S2x10x64x24x128, .bf16⟩
  | .hbm, ⟨7, _⟩ => ⟨S2x24x10x64x128, .bf16⟩
  | .hbm, ⟨8, _⟩ => ⟨S2x10x64x24x128, .bf16⟩
  | .hbm, ⟨9, _⟩ => ⟨S2x24x10x64x128, .bf16⟩
  | .hbm, ⟨10, _⟩ => ⟨S2x10x64x24x256, .bf16⟩
  | .hbm, ⟨11, _⟩ => ⟨S2x24x10x64x256, .bf16⟩
  | .hbm, ⟨12, _⟩ => ⟨S2x10x64x24x1, .f32⟩
  | .hbm, ⟨13, _⟩ => ⟨S2x24x10x64x1, .f32⟩
  | .hbm, ⟨14, _⟩ => ⟨S2x24x10x64, .f32⟩
  | .hbm, ⟨15, _⟩ => ⟨S2x10x64x24x1, .f32⟩
  | .hbm, ⟨16, _⟩ => ⟨S2x24x10x64x1, .f32⟩
  | .hbm, ⟨17, _⟩ => ⟨S2x24x10x64, .f32⟩
  | .hbm, ⟨18, _⟩ => ⟨S2x24x10x64x256, .bf16⟩
  | .hbm, ⟨19, _⟩ => ⟨S2x24x128x256, .f32⟩
  | .hbm, ⟨20, _⟩ => ⟨S2x24x10x64x128, .fp8e4m3⟩
  | .hbm, ⟨21, _⟩ => ⟨S2x24x10x128, .f32⟩
  | .hbm, ⟨22, _⟩ => ⟨S2x24x10x64x128, .fp8e4m3⟩
  | .hbm, ⟨23, _⟩ => ⟨S2x24x10x128, .f32⟩
  | .hbm, ⟨24, _⟩ => ⟨S2x10x64x24x256, .bf16⟩
  | .hbm, ⟨25, _⟩ => ⟨S2x640x24x256, .bf16⟩
  | .hbm, ⟨26, _⟩ => ⟨S2x10x64x24x128, .fp8e4m3⟩
  | .hbm, ⟨27, _⟩ => ⟨S2x640x24x128, .fp8e4m3⟩
  | .hbm, ⟨28, _⟩ => ⟨S2x24x10x1, .f32⟩
  | .hbm, ⟨29, _⟩ => ⟨S2x24x10, .f32⟩
  | .hbm, ⟨30, _⟩ => ⟨S2x10x24, .f32⟩
  | .hbm, ⟨31, _⟩ => ⟨S2x10x64x24x128, .fp8e4m3⟩
  | .hbm, ⟨32, _⟩ => ⟨S2x640x24x128, .fp8e4m3⟩
  | .hbm, ⟨33, _⟩ => ⟨S2x24x10x1, .f32⟩
  | .hbm, ⟨34, _⟩ => ⟨S2x24x10, .f32⟩
  | .hbm, ⟨35, _⟩ => ⟨S2x10x24, .f32⟩
  | .local _ .vmem, ⟨0, _⟩ => ⟨S1x1x10x64x128, .bf16⟩
  | .local _ .vmem, ⟨1, _⟩ => ⟨S1x1x10x64x128, .bf16⟩
  | .local _ .vmem, ⟨2, _⟩ => ⟨S1x1x10x64x128, .bf16⟩
  | .local _ .vmem, ⟨3, _⟩ => ⟨S1x1x10x64x128, .bf16⟩
  | .local _ .vmem, ⟨4, _⟩ => ⟨S1x1x10x64x256, .bf16⟩
  | .local _ .vmem, ⟨5, _⟩ => ⟨S1x1x10x64x256, .bf16⟩
  | .local _ .vmem, ⟨6, _⟩ => ⟨S1x1x10x64, .f32⟩
  | .local _ .vmem, ⟨7, _⟩ => ⟨S1x1x10x64, .f32⟩
  | .local _ .vmem, ⟨8, _⟩ => ⟨S1x1x10x64, .f32⟩
  | .local _ .vmem, ⟨9, _⟩ => ⟨S1x1x10x64, .f32⟩
  | .local _ .vmem, ⟨10, _⟩ => ⟨S1x1x128x256, .f32⟩
  | .local _ .vmem, ⟨11, _⟩ => ⟨S1x1x128x256, .f32⟩
  | .local _ .vmem, ⟨12, _⟩ => ⟨S1x1x10x64x256, .bf16⟩
  | .local _ .vmem, ⟨13, _⟩ => ⟨S1x1x10x64x256, .bf16⟩
  | .local _ .vmem, ⟨14, _⟩ => ⟨S1x1x128x256, .f32⟩
  | .local _ .vmem, ⟨15, _⟩ => ⟨S1x1x128x256, .f32⟩
  | .local _ .vmem, ⟨16, _⟩ => ⟨S1x1x10x64x128, .fp8e4m3⟩
  | .local _ .vmem, ⟨17, _⟩ => ⟨S1x1x10x64x128, .fp8e4m3⟩
  | .local _ .vmem, ⟨18, _⟩ => ⟨S1x1x10x128, .f32⟩
  | .local _ .vmem, ⟨19, _⟩ => ⟨S1x1x10x128, .f32⟩
  | .local _ .vmem, ⟨20, _⟩ => ⟨S1x1x10x64x128, .fp8e4m3⟩
  | .local _ .vmem, ⟨21, _⟩ => ⟨S1x1x10x64x128, .fp8e4m3⟩
  | .local _ .vmem, ⟨22, _⟩ => ⟨S1x1x10x128, .f32⟩
  | .local _ .vmem, ⟨23, _⟩ => ⟨S1x1x10x128, .f32⟩
  | _, _ => ⟨S2x640x24x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev main_v12_3 : Ref sig .tc := ⟨.hbm, 21, rfl⟩
abbrev main_v12_4 : Ref sig .tc := ⟨.hbm, 22, rfl⟩
abbrev main_v12_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![2, 24], ![false, false]⟩

@[reducible] def k0_t1_loop : Scf.Loop 32 :=
  let c0_i32 : BitVec 32 := 0#32
  let c10_i32 : BitVec 32 := 10#32
  let v13 : BitVec 32 := Scalar.addi c0_i32 c10_i32
  let c1_i32 : BitVec 32 := 1#32
  ⟨c0_i32, v13, c1_i32⟩
def k0_off1 (k0_t1 : Fin k0_t1_loop.trips) : Fin 5 → Nat :=
  let c0_11 : Index := 0#32
  let c0_12 : Index := 0#32
  let c0_i32 : BitVec 32 := 0#32
  let c1_i32 : BitVec 32 := 1#32
  let arg14 : BitVec 32 := Scf.iv c0_i32 c1_i32 k0_t1
  let v14 : Index := Scalar.indexCast arg14
  let c0_13 : Index := 0#32
  let c0_14 : Index := 0#32
  ![0, 0, v14.toNat, 0, 0]
def k0_off2 (k0_t1 : Fin k0_t1_loop.trips) : Fin 4 → Nat :=
  let c0_75 : Index := 0#32
  let c0_76 : Index := 0#32
  let c0_i32 : BitVec 32 := 0#32
  let c1_i32 : BitVec 32 := 1#32
  let arg14 : BitVec 32 := Scf.iv c0_i32 c1_i32 k0_t1
  let v206 : Index := Scalar.indexCast arg14
  let c0_77 : Index := 0#32
  ![0, 0, v206.toNat, 0]
def k0_off3 (k0_t1 : Fin k0_t1_loop.trips) : Fin 4 → Nat :=
  let c0_85 : Index := 0#32
  let c0_86 : Index := 0#32
  let c0_i32 : BitVec 32 := 0#32
  let c1_i32 : BitVec 32 := 1#32
  let arg14 : BitVec 32 := Scf.iv c0_i32 c1_i32 k0_t1
  let v228 : Index := Scalar.indexCast arg14
  let c0_87 : Index := 0#32
  ![0, 0, v228.toNat, 0]
def k0_off4 (k0_t1 : Fin k0_t1_loop.trips) : Fin 5 → Nat :=
  let c0_139 : Index := 0#32
  let c0_140 : Index := 0#32
  let c0_i32 : BitVec 32 := 0#32
  let c1_i32 : BitVec 32 := 1#32
  let arg14 : BitVec 32 := Scf.iv c0_i32 c1_i32 k0_t1
  let v388 : Index := Scalar.indexCast arg14
  let c0_141 : Index := 0#32
  let c0_142 : Index := 0#32
  ![0, 0, v388.toNat, 0, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x10x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x10x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x10x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x10x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x10x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x10x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x10x64x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x10x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x10x64x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x10x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x640x24x128 : Shape := ⟨4, ![2, 640, 24, 128]⟩
abbrev S2x640x24x256 : Shape := ⟨4, ![2, 640, 24, 256]⟩
abbrev S2x640x24 : Shape := ⟨3, ![2, 640, 24]⟩
abbrev S2x24x128x256 : Shape := ⟨4, ![2, 24, 128, 256]⟩
abbrev S2x10x64x24x128 : Shape := ⟨5, ![2, 10, 64, 24, 128]⟩
abbrev S2x10x24x64x128 : Shape := ⟨5, ![2, 10, 24, 64, 128]⟩
abbrev S2x10x64x24x256 : Shape := ⟨5, ![2, 10, 64, 24, 256]⟩
abbrev S2x10x24x64x256 : Shape := ⟨5, ![2, 10, 24, 64, 256]⟩
abbrev S2x10x64x24 : Shape := ⟨4, ![2, 10, 64, 24]⟩
abbrev S2x10x24x64 : Shape := ⟨4, ![2, 10, 24, 64]⟩
abbrev S_ : Shape := ⟨0, ![]⟩
abbrev S2x10x24 : Shape := ⟨3, ![2, 10, 24]⟩
abbrev S2x10x24x1x1 : Shape := ⟨5, ![2, 10, 24, 1, 1]⟩
abbrev S2x10x24x1 : Shape := ⟨4, ![2, 10, 24, 1]⟩
abbrev S2x10x24x64x1 : Shape := ⟨5, ![2, 10, 24, 64, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x10x24x1x64 : Shape := ⟨5, ![2, 10, 24, 1, 64]⟩
abbrev S2x10x24x64x64 : Shape := ⟨5, ![2, 10, 24, 64, 64]⟩
abbrev S1x1x1x64x64 : Shape := ⟨5, ![1, 1, 1, 64, 64]⟩
abbrev S2x1x24x64x256 : Shape := ⟨5, ![2, 1, 24, 64, 256]⟩
abbrev S2x24x64x256 : Shape := ⟨4, ![2, 24, 64, 256]⟩
abbrev S2x1x24x64x128 : Shape := ⟨5, ![2, 1, 24, 64, 128]⟩
abbrev S2x24x64x128 : Shape := ⟨4, ![2, 24, 64, 128]⟩
abbrev S2x1x24x64x64 : Shape := ⟨5, ![2, 1, 24, 64, 64]⟩
abbrev S2x24x64x64 : Shape := ⟨4, ![2, 24, 64, 64]⟩
abbrev S2x1x24 : Shape := ⟨3, ![2, 1, 24]⟩
abbrev S2x24 : Shape := ⟨2, ![2, 24]⟩
abbrev S2x24x1x1 : Shape := ⟨4, ![2, 24, 1, 1]⟩

abbrev nBuf : Space → Nat
  | .hbm => 498
  | .vmem => 0
  | .smem => 0
  | _ => 0

abbrev hbmTy0_0 (i : Nat) : BufTy := match i % 128 with
  | 0 => ⟨S2x640x24x128, .bf16⟩
  | 1 => ⟨S2x640x24x128, .bf16⟩
  | 2 => ⟨S2x640x24x256, .bf16⟩
  | 3 => ⟨S2x640x24, .f32⟩
  | 4 => ⟨S2x640x24, .f32⟩
  | 5 => ⟨S2x24x128x256, .f32⟩
  | 6 => ⟨S2x640x24x128, .f32⟩
  | 7 => ⟨S2x10x64x24x128, .f32⟩
  | 8 => ⟨S2x10x24x64x128, .f32⟩
  | 9 => ⟨S2x640x24x128, .f32⟩
  | 10 => ⟨S2x10x64x24x128, .f32⟩
  | 11 => ⟨S2x10x24x64x128, .f32⟩
  | 12 => ⟨S2x640x24x256, .f32⟩
  | 13 => ⟨S2x10x64x24x256, .f32⟩
  | 14 => ⟨S2x10x24x64x256, .f32⟩
  | 15 => ⟨S2x10x64x24, .f32⟩
  | 16 => ⟨S2x10x24x64, .f32⟩
  | 17 => ⟨S2x10x64x24, .f32⟩
  | 18 => ⟨S2x10x24x64, .f32⟩
  | 19 => ⟨S2x10x24x64x128, .f32⟩
  | 20 => ⟨S_, .f32⟩
  | 21 => ⟨S2x10x24, .f32⟩
  | 22 => ⟨S_, .f32⟩
  | 23 => ⟨S2x10x24, .f32⟩
  | 24 => ⟨S2x10x24, .i1⟩
  | 25 => ⟨S_, .f32⟩
  | 26 => ⟨S2x10x24, .f32⟩
  | 27 => ⟨S2x10x24, .f32⟩
  | 28 => ⟨S2x10x24, .f32⟩
  | 29 => ⟨S_, .f32⟩
  | 30 => ⟨S_, .f32⟩
  | 31 => ⟨S_, .f32⟩
  | 32 => ⟨S2x10x24, .f32⟩
  | 33 => ⟨S2x10x24, .f32⟩
  | 34 => ⟨S2x10x24, .f32⟩
  | 35 => ⟨S_, .f32⟩
  | 36 => ⟨S2x10x24, .f32⟩
  | 37 => ⟨S2x10x24, .f32⟩
  | 38 => ⟨S_, .f32⟩
  | 39 => ⟨S2x10x24, .f32⟩
  | 40 => ⟨S2x10x24, .f32⟩
  | 41 => ⟨S_, .f32⟩
  | 42 => ⟨S_, .f32⟩
  | 43 => ⟨S2x10x24, .f32⟩
  | 44 => ⟨S2x10x24, .f32⟩
  | 45 => ⟨S_, .f32⟩
  | 46 => ⟨S2x10x24, .f32⟩
  | 47 => ⟨S2x10x24, .f32⟩
  | 48 => ⟨S2x10x24, .f32⟩
  | 49 => ⟨S_, .f32⟩
  | 50 => ⟨S2x10x24, .f32⟩
  | 51 => ⟨S2x10x24, .f32⟩
  | 52 => ⟨S2x10x24x1x1, .f32⟩
  | 53 => ⟨S2x10x24x64x128, .f32⟩
  | 54 => ⟨S2x10x24x64x128, .f32⟩
  | 55 => ⟨S_, .f32⟩
  | 56 => ⟨S_, .f32⟩
  | 57 => ⟨S_, .f32⟩
  | 58 => ⟨S2x10x24x64x128, .f32⟩
  | 59 => ⟨S2x10x24x64x128, .f32⟩
  | 60 => ⟨S_, .f32⟩
  | 61 => ⟨S2x10x24x64x128, .f32⟩
  | 62 => ⟨S2x10x24x64x128, .f32⟩
  | 63 => ⟨S2x10x24x64x128, .f32⟩
  | 64 => ⟨S_, .f32⟩
  | 65 => ⟨S2x10x24, .f32⟩
  | 66 => ⟨S_, .f32⟩
  | 67 => ⟨S2x10x24, .f32⟩
  | 68 => ⟨S2x10x24, .i1⟩
  | 69 => ⟨S_, .f32⟩
  | 70 => ⟨S2x10x24, .f32⟩
  | 71 => ⟨S2x10x24, .f32⟩
  | 72 => ⟨S2x10x24, .f32⟩
  | 73 => ⟨S_, .f32⟩
  | 74 => ⟨S_, .f32⟩
  | 75 => ⟨S_, .f32⟩
  | 76 => ⟨S2x10x24, .f32⟩
  | 77 => ⟨S2x10x24, .f32⟩
  | 78 => ⟨S2x10x24, .f32⟩
  | 79 => ⟨S_, .f32⟩
  | 80 => ⟨S2x10x24, .f32⟩
  | 81 => ⟨S2x10x24, .f32⟩
  | 82 => ⟨S_, .f32⟩
  | 83 => ⟨S2x10x24, .f32⟩
  | 84 => ⟨S2x10x24, .f32⟩
  | 85 => ⟨S_, .f32⟩
  | 86 => ⟨S_, .f32⟩
  | 87 => ⟨S2x10x24, .f32⟩
  | 88 => ⟨S2x10x24, .f32⟩
  | 89 => ⟨S_, .f32⟩
  | 90 => ⟨S2x10x24, .f32⟩
  | 91 => ⟨S2x10x24, .f32⟩
  | 92 => ⟨S2x10x24, .f32⟩
  | 93 => ⟨S_, .f32⟩
  | 94 => ⟨S2x10x24, .f32⟩
  | 95 => ⟨S2x10x24, .f32⟩
  | 96 => ⟨S2x10x24x1x1, .f32⟩
  | 97 => ⟨S2x10x24x64x128, .f32⟩
  | 98 => ⟨S2x10x24x64x128, .f32⟩
  | 99 => ⟨S_, .f32⟩
  | 100 => ⟨S_, .f32⟩
  | 101 => ⟨S_, .f32⟩
  | 102 => ⟨S2x10x24x64x128, .f32⟩
  | 103 => ⟨S2x10x24x64x128, .f32⟩
  | 104 => ⟨S_, .f32⟩
  | 105 => ⟨S2x10x24x64x128, .f32⟩
  | 106 => ⟨S2x10x24x64x128, .f32⟩
  | 107 => ⟨S2x10x24x1, .f32⟩
  | 108 => ⟨S2x10x24x1, .f32⟩
  | 109 => ⟨S2x10x24x64x128, .f32⟩
  | 110 => ⟨S_, .f32⟩
  | 111 => ⟨S2x10x24x64, .f32⟩
  | 112 => ⟨S_, .f32⟩
  | 113 => ⟨S2x10x24x64, .f32⟩
  | 114 => ⟨S2x10x24x64, .f32⟩
  | 115 => ⟨S2x10x24x64, .f32⟩
  | 116 => ⟨S_, .f32⟩
  | 117 => ⟨S2x10x24x64, .f32⟩
  | 118 => ⟨S2x10x24x64, .f32⟩
  | 119 => ⟨S2x10x24x64x128, .f32⟩
  | 120 => ⟨S_, .f32⟩
  | 121 => ⟨S2x10x24x64, .f32⟩
  | 122 => ⟨S_, .f32⟩
  | 123 => ⟨S2x10x24x64, .f32⟩
  | 124 => ⟨S2x10x24x64, .f32⟩
  | 125 => ⟨S2x10x24x64, .f32⟩
  | 126 => ⟨S_, .f32⟩
  | 127 => ⟨S2x10x24x64, .f32⟩
  | _ => ⟨S2x640x24x128, .bf16⟩

abbrev hbmTy0_1 (i : Nat) : BufTy := match i % 128 with
  | 0 => ⟨S2x10x24x64, .f32⟩
  | 1 => ⟨S2x10x24x1x1, .f32⟩
  | 2 => ⟨S2x10x24x64x128, .f32⟩
  | 3 => ⟨S2x10x24x64x128, .f32⟩
  | 4 => ⟨S2x10x24x64x1, .f32⟩
  | 5 => ⟨S2x10x24x64x128, .f32⟩
  | 6 => ⟨S2x10x24x64x128, .f32⟩
  | 7 => ⟨S2x10x24x1x1, .f32⟩
  | 8 => ⟨S2x10x24x64x128, .f32⟩
  | 9 => ⟨S2x10x24x64x128, .f32⟩
  | 10 => ⟨S2x10x24x64x1, .f32⟩
  | 11 => ⟨S2x10x24x64x128, .f32⟩
  | 12 => ⟨S2x10x24x64x128, .f32⟩
  | 13 => ⟨S_, .f32⟩
  | 14 => ⟨S2x10x24x64x128, .f32⟩
  | 15 => ⟨S2x10x24x64x128, .f32⟩
  | 16 => ⟨S64, .i32⟩
  | 17 => ⟨S64x1, .i32⟩
  | 18 => ⟨S1x64, .i32⟩
  | 19 => ⟨S64x64, .i32⟩
  | 20 => ⟨S64x64, .i32⟩
  | 21 => ⟨S64x64, .i1⟩
  | 22 => ⟨S64x1, .i32⟩
  | 23 => ⟨S1x64, .i32⟩
  | 24 => ⟨S64x64, .i32⟩
  | 25 => ⟨S64x64, .i32⟩
  | 26 => ⟨S64x64, .i1⟩
  | 27 => ⟨S_, .f32⟩
  | 28 => ⟨S_, .f32⟩
  | 29 => ⟨S2x10x24x64, .f32⟩
  | 30 => ⟨S2x10x24x64x1, .f32⟩
  | 31 => ⟨S2x10x24x1x64, .f32⟩
  | 32 => ⟨S2x10x24x64x64, .f32⟩
  | 33 => ⟨S2x10x24x64x64, .f32⟩
  | 34 => ⟨S2x10x24x64x64, .f32⟩
  | 35 => ⟨S_, .f32⟩
  | 36 => ⟨S_, .f32⟩
  | 37 => ⟨S2x10x24x64x64, .i1⟩
  | 38 => ⟨S2x10x24x64x64, .f32⟩
  | 39 => ⟨S2x10x24x64x64, .f32⟩
  | 40 => ⟨S2x10x24x64x64, .f32⟩
  | 41 => ⟨S_, .f32⟩
  | 42 => ⟨S_, .f32⟩
  | 43 => ⟨S2x10x24x64x64, .i1⟩
  | 44 => ⟨S2x10x24x64x64, .f32⟩
  | 45 => ⟨S2x10x24x64x64, .f32⟩
  | 46 => ⟨S2x10x24x64x64, .f32⟩
  | 47 => ⟨S2x10x24x1, .f32⟩
  | 48 => ⟨S2x10x24x1x1, .f32⟩
  | 49 => ⟨S2x10x24x64x64, .f32⟩
  | 50 => ⟨S2x10x24x64x64, .f32⟩
  | 51 => ⟨S2x10x24x64x1, .f32⟩
  | 52 => ⟨S2x10x24x64x64, .f32⟩
  | 53 => ⟨S2x10x24x64x64, .f32⟩
  | 54 => ⟨S2x10x24x1x64, .f32⟩
  | 55 => ⟨S2x10x24x64x64, .f32⟩
  | 56 => ⟨S2x10x24x64x64, .f32⟩
  | 57 => ⟨S2x10x24x64x64, .f32⟩
  | 58 => ⟨S2x10x24x1, .f32⟩
  | 59 => ⟨S2x10x24x1x1, .f32⟩
  | 60 => ⟨S2x10x24x64x64, .f32⟩
  | 61 => ⟨S2x10x24x64x64, .f32⟩
  | 62 => ⟨S2x10x24x64x1, .f32⟩
  | 63 => ⟨S2x10x24x64x64, .f32⟩
  | 64 => ⟨S2x10x24x64x64, .f32⟩
  | 65 => ⟨S2x10x24x1x64, .f32⟩
  | 66 => ⟨S2x10x24x64x64, .f32⟩
  | 67 => ⟨S2x10x24x64x64, .f32⟩
  | 68 => ⟨S_, .f32⟩
  | 69 => ⟨S2x10x24x64x64, .f32⟩
  | 70 => ⟨S2x10x24x64x64, .f32⟩
  | 71 => ⟨S2x10x24x64x1, .f32⟩
  | 72 => ⟨S2x10x24x64x64, .f32⟩
  | 73 => ⟨S2x10x24x64x64, .f32⟩
  | 74 => ⟨S2x10x24x64x64, .f32⟩
  | 75 => ⟨S_, .f32⟩
  | 76 => ⟨S_, .f32⟩
  | 77 => ⟨S2x10x24x64x64, .i1⟩
  | 78 => ⟨S2x10x24x64x64, .f32⟩
  | 79 => ⟨S2x10x24x64x64, .f32⟩
  | 80 => ⟨S2x10x24x64x64, .f32⟩
  | 81 => ⟨S64x64, .i32⟩
  | 82 => ⟨S64x64, .i32⟩
  | 83 => ⟨S_, .i32⟩
  | 84 => ⟨S64x64, .i32⟩
  | 85 => ⟨S64x64, .i32⟩
  | 86 => ⟨S64x64, .i1⟩
  | 87 => ⟨S64x64, .f32⟩
  | 88 => ⟨S1x1x1x64x64, .f32⟩
  | 89 => ⟨S2x10x24x64x64, .f32⟩
  | 90 => ⟨S2x10x24x64x64, .f32⟩
  | 91 => ⟨S2x10x24x64x64, .f32⟩
  | 92 => ⟨S2x10x24x64x64, .f32⟩
  | 93 => ⟨S2x10x24x64x64, .f32⟩
  | 94 => ⟨S2x10x24x64x64, .f32⟩
  | 95 => ⟨S2x10x24x64x64, .f32⟩
  | 96 => ⟨S2x10x24x64x64, .f32⟩
  | 97 => ⟨S2x10x24x64x64, .f32⟩
  | 98 => ⟨S2x10x24x64x64, .f32⟩
  | 99 => ⟨S2x10x24x64x64, .f32⟩
  | 100 => ⟨S2x10x24x64x64, .f32⟩
  | 101 => ⟨S2x10x24x64x64, .f32⟩
  | 102 => ⟨S2x10x24x64x64, .f32⟩
  | 103 => ⟨S2x10x24x64x64, .f32⟩
  | 104 => ⟨S2x10x24x64x64, .f32⟩
  | 105 => ⟨S2x10x24x64x64, .f32⟩
  | 106 => ⟨S2x10x24x64, .f32⟩
  | 107 => ⟨S2x10x24x64, .f32⟩
  | 108 => ⟨S2x10x24x64x1, .f32⟩
  | 109 => ⟨S2x10x24x64x128, .f32⟩
  | 110 => ⟨S2x10x24x64x128, .f32⟩
  | 111 => ⟨S2x10x24x64x128, .f32⟩
  | 112 => ⟨S2x10x24x64x1, .f32⟩
  | 113 => ⟨S2x10x24x64x256, .f32⟩
  | 114 => ⟨S2x10x24x64x256, .f32⟩
  | 115 => ⟨S2x10x24x64x256, .f32⟩
  | 116 => ⟨S2x10x24x64x64, .f32⟩
  | 117 => ⟨S2x10x24x64x1, .f32⟩
  | 118 => ⟨S2x10x24x64x128, .f32⟩
  | 119 => ⟨S2x10x24x64x128, .f32⟩
  | 120 => ⟨S2x10x24x1, .f32⟩
  | 121 => ⟨S2x10x24x64, .f32⟩
  | 122 => ⟨S2x10x24x64, .f32⟩
  | 123 => ⟨S2x10x24x64, .f32⟩
  | 124 => ⟨S2x10x24x64x1, .f32⟩
  | 125 => ⟨S2x10x24x64x128, .f32⟩
  | 126 => ⟨S2x10x24x64x128, .f32⟩
  | 127 => ⟨S2x10x24x1, .f32⟩
  | _ => ⟨S2x640x24x128, .bf16⟩

abbrev hbmTy0_2 (i : Nat) : BufTy := match i % 128 with
  | 0 => ⟨S2x10x24, .f32⟩
  | 1 => ⟨S2x10x24, .f32⟩
  | 2 => ⟨S2x1x24x64x256, .f32⟩
  | 3 => ⟨S2x24x64x256, .f32⟩
  | 4 => ⟨S2x1x24x64x128, .f32⟩
  | 5 => ⟨S2x24x64x128, .f32⟩
  | 6 => ⟨S2x24x64x256, .f32⟩
  | 7 => ⟨S2x24x64x256, .f32⟩
  | 8 => ⟨S2x1x24x64x128, .f32⟩
  | 9 => ⟨S2x24x64x128, .f32⟩
  | 10 => ⟨S2x24x64x256, .f32⟩
  | 11 => ⟨S2x1x24x64x64, .f32⟩
  | 12 => ⟨S2x24x64x64, .f32⟩
  | 13 => ⟨S2x24x64x256, .f32⟩
  | 14 => ⟨S2x24x64x256, .f32⟩
  | 15 => ⟨S2x1x24, .f32⟩
  | 16 => ⟨S2x24, .f32⟩
  | 17 => ⟨S2x24x1x1, .f32⟩
  | 18 => ⟨S2x24x128x256, .f32⟩
  | 19 => ⟨S2x24x128x256, .f32⟩
  | 20 => ⟨S2x1x24x64x128, .f32⟩
  | 21 => ⟨S2x24x64x128, .f32⟩
  | 22 => ⟨S2x24x128x256, .f32⟩
  | 23 => ⟨S2x24x128x256, .f32⟩
  | 24 => ⟨S2x1x24x64x256, .f32⟩
  | 25 => ⟨S2x24x64x256, .f32⟩
  | 26 => ⟨S2x1x24x64x128, .f32⟩
  | 27 => ⟨S2x24x64x128, .f32⟩
  | 28 => ⟨S2x24x64x256, .f32⟩
  | 29 => ⟨S2x24x64x256, .f32⟩
  | 30 => ⟨S2x1x24x64x128, .f32⟩
  | 31 => ⟨S2x24x64x128, .f32⟩
  | 32 => ⟨S2x24x64x256, .f32⟩
  | 33 => ⟨S2x1x24x64x64, .f32⟩
  | 34 => ⟨S2x24x64x64, .f32⟩
  | 35 => ⟨S2x24x64x256, .f32⟩
  | 36 => ⟨S2x24x64x256, .f32⟩
  | 37 => ⟨S2x1x24, .f32⟩
  | 38 => ⟨S2x24, .f32⟩
  | 39 => ⟨S2x24x1x1, .f32⟩
  | 40 => ⟨S2x24x128x256, .f32⟩
  | 41 => ⟨S2x24x128x256, .f32⟩
  | 42 => ⟨S2x1x24x64x128, .f32⟩
  | 43 => ⟨S2x24x64x128, .f32⟩
  | 44 => ⟨S2x24x128x256, .f32⟩
  | 45 => ⟨S2x24x128x256, .f32⟩
  | 46 => ⟨S2x1x24x64x256, .f32⟩
  | 47 => ⟨S2x24x64x256, .f32⟩
  | 48 => ⟨S2x1x24x64x128, .f32⟩
  | 49 => ⟨S2x24x64x128, .f32⟩
  | 50 => ⟨S2x24x64x256, .f32⟩
  | 51 => ⟨S2x24x64x256, .f32⟩
  | 52 => ⟨S2x1x24x64x128, .f32⟩
  | 53 => ⟨S2x24x64x128, .f32⟩
  | 54 => ⟨S2x24x64x256, .f32⟩
  | 55 => ⟨S2x1x24x64x64, .f32⟩
  | 56 => ⟨S2x24x64x64, .f32⟩
  | 57 => ⟨S2x24x64x256, .f32⟩
  | 58 => ⟨S2x24x64x256, .f32⟩
  | 59 => ⟨S2x1x24, .f32⟩
  | 60 => ⟨S2x24, .f32⟩
  | 61 => ⟨S2x24x1x1, .f32⟩
  | 62 => ⟨S2x24x128x256, .f32⟩
  | 63 => ⟨S2x24x128x256, .f32⟩
  | 64 => ⟨S2x1x24x64x128, .f32⟩
  | 65 => ⟨S2x24x64x128, .f32⟩
  | 66 => ⟨S2x24x128x256, .f32⟩
  | 67 => ⟨S2x24x128x256, .f32⟩
  | 68 => ⟨S2x1x24x64x256, .f32⟩
  | 69 => ⟨S2x24x64x256, .f32⟩
  | 70 => ⟨S2x1x24x64x128, .f32⟩
  | 71 => ⟨S2x24x64x128, .f32⟩
  | 72 => ⟨S2x24x64x256, .f32⟩
  | 73 => ⟨S2x24x64x256, .f32⟩
  | 74 => ⟨S2x1x24x64x128, .f32⟩
  | 75 => ⟨S2x24x64x128, .f32⟩
  | 76 => ⟨S2x24x64x256, .f32⟩
  | 77 => ⟨S2x1x24x64x64, .f32⟩
  | 78 => ⟨S2x24x64x64, .f32⟩
  | 79 => ⟨S2x24x64x256, .f32⟩
  | 80 => ⟨S2x24x64x256, .f32⟩
  | 81 => ⟨S2x1x24, .f32⟩
  | 82 => ⟨S2x24, .f32⟩
  | 83 => ⟨S2x24x1x1, .f32⟩
  | 84 => ⟨S2x24x128x256, .f32⟩
  | 85 => ⟨S2x24x128x256, .f32⟩
  | 86 => ⟨S2x1x24x64x128, .f32⟩
  | 87 => ⟨S2x24x64x128, .f32⟩
  | 88 => ⟨S2x24x128x256, .f32⟩
  | 89 => ⟨S2x24x128x256, .f32⟩
  | 90 => ⟨S2x1x24x64x256, .f32⟩
  | 91 => ⟨S2x24x64x256, .f32⟩
  | 92 => ⟨S2x1x24x64x128, .f32⟩
  | 93 => ⟨S2x24x64x128, .f32⟩
  | 94 => ⟨S2x24x64x256, .f32⟩
  | 95 => ⟨S2x24x64x256, .f32⟩
  | 96 => ⟨S2x1x24x64x128, .f32⟩
  | 97 => ⟨S2x24x64x128, .f32⟩
  | 98 => ⟨S2x24x64x256, .f32⟩
  | 99 => ⟨S2x1x24x64x64, .f32⟩
  | 100 => ⟨S2x24x64x64, .f32⟩
  | 101 => ⟨S2x24x64x256, .f32⟩
  | 102 => ⟨S2x24x64x256, .f32⟩
  | 103 => ⟨S2x1x24, .f32⟩
  | 104 => ⟨S2x24, .f32⟩
  | 105 => ⟨S2x24x1x1, .f32⟩
  | 106 => ⟨S2x24x128x256, .f32⟩
  | 107 => ⟨S2x24x128x256, .f32⟩
  | 108 => ⟨S2x1x24x64x128, .f32⟩
  | 109 => ⟨S2x24x64x128, .f32⟩
  | 110 => ⟨S2x24x128x256, .f32⟩
  | 111 => ⟨S2x24x128x256, .f32⟩
  | 112 => ⟨S2x1x24x64x256, .f32⟩
  | 113 => ⟨S2x24x64x256, .f32⟩
  | 114 => ⟨S2x1x24x64x128, .f32⟩
  | 115 => ⟨S2x24x64x128, .f32⟩
  | 116 => ⟨S2x24x64x256, .f32⟩
  | 117 => ⟨S2x24x64x256, .f32⟩
  | 118 => ⟨S2x1x24x64x128, .f32⟩
  | 119 => ⟨S2x24x64x128, .f32⟩
  | 120 => ⟨S2x24x64x256, .f32⟩
  | 121 => ⟨S2x1x24x64x64, .f32⟩
  | 122 => ⟨S2x24x64x64, .f32⟩
  | 123 => ⟨S2x24x64x256, .f32⟩
  | 124 => ⟨S2x24x64x256, .f32⟩
  | 125 => ⟨S2x1x24, .f32⟩
  | 126 => ⟨S2x24, .f32⟩
  | 127 => ⟨S2x24x1x1, .f32⟩
  | _ => ⟨S2x640x24x128, .bf16⟩

abbrev hbmTy0_3 (i : Nat) : BufTy := match i % 128 with
  | 0 => ⟨S2x24x128x256, .f32⟩
  | 1 => ⟨S2x24x128x256, .f32⟩
  | 2 => ⟨S2x1x24x64x128, .f32⟩
  | 3 => ⟨S2x24x64x128, .f32⟩
  | 4 => ⟨S2x24x128x256, .f32⟩
  | 5 => ⟨S2x24x128x256, .f32⟩
  | 6 => ⟨S2x1x24x64x256, .f32⟩
  | 7 => ⟨S2x24x64x256, .f32⟩
  | 8 => ⟨S2x1x24x64x128, .f32⟩
  | 9 => ⟨S2x24x64x128, .f32⟩
  | 10 => ⟨S2x24x64x256, .f32⟩
  | 11 => ⟨S2x24x64x256, .f32⟩
  | 12 => ⟨S2x1x24x64x128, .f32⟩
  | 13 => ⟨S2x24x64x128, .f32⟩
  | 14 => ⟨S2x24x64x256, .f32⟩
  | 15 => ⟨S2x1x24x64x64, .f32⟩
  | 16 => ⟨S2x24x64x64, .f32⟩
  | 17 => ⟨S2x24x64x256, .f32⟩
  | 18 => ⟨S2x24x64x256, .f32⟩
  | 19 => ⟨S2x1x24, .f32⟩
  | 20 => ⟨S2x24, .f32⟩
  | 21 => ⟨S2x24x1x1, .f32⟩
  | 22 => ⟨S2x24x128x256, .f32⟩
  | 23 => ⟨S2x24x128x256, .f32⟩
  | 24 => ⟨S2x1x24x64x128, .f32⟩
  | 25 => ⟨S2x24x64x128, .f32⟩
  | 26 => ⟨S2x24x128x256, .f32⟩
  | 27 => ⟨S2x24x128x256, .f32⟩
  | 28 => ⟨S2x1x24x64x256, .f32⟩
  | 29 => ⟨S2x24x64x256, .f32⟩
  | 30 => ⟨S2x1x24x64x128, .f32⟩
  | 31 => ⟨S2x24x64x128, .f32⟩
  | 32 => ⟨S2x24x64x256, .f32⟩
  | 33 => ⟨S2x24x64x256, .f32⟩
  | 34 => ⟨S2x1x24x64x128, .f32⟩
  | 35 => ⟨S2x24x64x128, .f32⟩
  | 36 => ⟨S2x24x64x256, .f32⟩
  | 37 => ⟨S2x1x24x64x64, .f32⟩
  | 38 => ⟨S2x24x64x64, .f32⟩
  | 39 => ⟨S2x24x64x256, .f32⟩
  | 40 => ⟨S2x24x64x256, .f32⟩
  | 41 => ⟨S2x1x24, .f32⟩
  | 42 => ⟨S2x24, .f32⟩
  | 43 => ⟨S2x24x1x1, .f32⟩
  | 44 => ⟨S2x24x128x256, .f32⟩
  | 45 => ⟨S2x24x128x256, .f32⟩
  | 46 => ⟨S2x1x24x64x128, .f32⟩
  | 47 => ⟨S2x24x64x128, .f32⟩
  | 48 => ⟨S2x24x128x256, .f32⟩
  | 49 => ⟨S2x24x128x256, .f32⟩
  | 50 => ⟨S2x1x24x64x256, .f32⟩
  | 51 => ⟨S2x24x64x256, .f32⟩
  | 52 => ⟨S2x1x24x64x128, .f32⟩
  | 53 => ⟨S2x24x64x128, .f32⟩
  | 54 => ⟨S2x24x64x256, .f32⟩
  | 55 => ⟨S2x24x64x256, .f32⟩
  | 56 => ⟨S2x1x24x64x128, .f32⟩
  | 57 => ⟨S2x24x64x128, .f32⟩
  | 58 => ⟨S2x24x64x256, .f32⟩
  | 59 => ⟨S2x1x24x64x64, .f32⟩
  | 60 => ⟨S2x24x64x64, .f32⟩
  | 61 => ⟨S2x24x64x256, .f32⟩
  | 62 => ⟨S2x24x64x256, .f32⟩
  | 63 => ⟨S2x1x24, .f32⟩
  | 64 => ⟨S2x24, .f32⟩
  | 65 => ⟨S2x24x1x1, .f32⟩
  | 66 => ⟨S2x24x128x256, .f32⟩
  | 67 => ⟨S2x24x128x256, .f32⟩
  | 68 => ⟨S2x1x24x64x128, .f32⟩
  | 69 => ⟨S2x24x64x128, .f32⟩
  | 70 => ⟨S2x24x128x256, .f32⟩
  | 71 => ⟨S2x24x128x256, .f32⟩
  | 72 => ⟨S2x1x24x64x256, .f32⟩
  | 73 => ⟨S2x24x64x256, .f32⟩
  | 74 => ⟨S2x1x24x64x128, .f32⟩
  | 75 => ⟨S2x24x64x128, .f32⟩
  | 76 => ⟨S2x24x64x256, .f32⟩
  | 77 => ⟨S2x24x64x256, .f32⟩
  | 78 => ⟨S2x1x24x64x128, .f32⟩
  | 79 => ⟨S2x24x64x128, .f32⟩
  | 80 => ⟨S2x24x64x256, .f32⟩
  | 81 => ⟨S2x1x24x64x64, .f32⟩
  | 82 => ⟨S2x24x64x64, .f32⟩
  | 83 => ⟨S2x24x64x256, .f32⟩
  | 84 => ⟨S2x24x64x256, .f32⟩
  | 85 => ⟨S2x1x24, .f32⟩
  | 86 => ⟨S2x24, .f32⟩
  | 87 => ⟨S2x24x1x1, .f32⟩
  | 88 => ⟨S2x24x128x256, .f32⟩
  | 89 => ⟨S2x24x128x256, .f32⟩
  | 90 => ⟨S2x1x24x64x128, .f32⟩
  | 91 => ⟨S2x24x64x128, .f32⟩
  | 92 => ⟨S2x24x128x256, .f32⟩
  | 93 => ⟨S2x24x128x256, .f32⟩
  | 94 => ⟨S2x1x24x64x256, .f32⟩
  | 95 => ⟨S2x1x24x64x256, .f32⟩
  | 96 => ⟨S2x1x24x64x256, .f32⟩
  | 97 => ⟨S2x1x24x64x256, .f32⟩
  | 98 => ⟨S2x1x24x64x256, .f32⟩
  | 99 => ⟨S2x1x24x64x256, .f32⟩
  | 100 => ⟨S2x1x24x64x256, .f32⟩
  | 101 => ⟨S2x1x24x64x256, .f32⟩
  | 102 => ⟨S2x1x24x64x256, .f32⟩
  | 103 => ⟨S2x1x24x64x256, .f32⟩
  | 104 => ⟨S2x10x24x64x256, .f32⟩
  | 105 => ⟨S2x10x64x24x256, .f32⟩
  | 106 => ⟨S2x640x24x256, .f32⟩
  | 107 => ⟨S2x640x24x256, .bf16⟩
  | 108 => ⟨S2x10x64x24x128, .f32⟩
  | 109 => ⟨S2x640x24x128, .f32⟩
  | 110 => ⟨S2x640x24x128, .fp8e4m3⟩
  | 111 => ⟨S2x10x64x24x128, .f32⟩
  | 112 => ⟨S2x640x24x128, .f32⟩
  | 113 => ⟨S2x640x24x128, .fp8e4m3⟩
  | _ => ⟨S2x640x24x128, .bf16⟩

abbrev hbmTy (i : Nat) : BufTy := match i / 128 with
  | 0 => hbmTy0_0 i
  | 1 => hbmTy0_1 i
  | 2 => hbmTy0_2 i
  | 3 => hbmTy0_3 i
  | _ => ⟨S2x640x24x128, .bf16⟩

abbrev bufTy : (tb : Table) → Fin (tcTables nBuf tb) → BufTy
  | .hbm, ⟨i, _⟩ => hbmTy i
  | _, _ => ⟨S2x640x24x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_cst_9 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_cst_11 : Ref sig .tc := ⟨.hbm, 66, rfl⟩
abbrev main_v41 : Ref sig .tc := ⟨.hbm, 67, rfl⟩
abbrev main_v42 : Ref sig .tc := ⟨.hbm, 68, rfl⟩
abbrev main_cst_12 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_13 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_14 : Ref sig .tc := ⟨.hbm, 79, rfl⟩
abbrev main_v51 : Ref sig .tc := ⟨.hbm, 80, rfl⟩
abbrev main_v52 : Ref sig .tc := ⟨.hbm, 81, rfl⟩
abbrev main_cst_15 : Ref sig .tc := ⟨.hbm, 82, rfl⟩
abbrev main_v53 : Ref sig .tc := ⟨.hbm, 83, rfl⟩
abbrev main_v54 : Ref sig .tc := ⟨.hbm, 84, rfl⟩
abbrev main_cst_16 : Ref sig .tc := ⟨.hbm, 85, rfl⟩
abbrev main_call2_v0 : Ref sig .tc := ⟨.hbm, 86, rfl⟩
abbrev main_call2_v1 : Ref sig .tc := ⟨.hbm, 87, rfl⟩
abbrev main_v55 : Ref sig .tc := ⟨.hbm, 88, rfl⟩
abbrev main_cst_17 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_18 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_19 : Ref sig .tc := ⟨.hbm, 99, rfl⟩
abbrev main_cst_20 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_21 : Ref sig .tc := ⟨.hbm, 110, rfl⟩
abbrev main_v68 : Ref sig .tc := ⟨.hbm, 111, rfl⟩
abbrev main_cst_22 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_23 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_24 : Ref sig .tc := ⟨.hbm, 120, rfl⟩
abbrev main_v75 : Ref sig .tc := ⟨.hbm, 121, rfl⟩
abbrev main_cst_25 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_26 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_27 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_call4_call0_cst : Ref sig .tc := ⟨.hbm, 155, rfl⟩
abbrev main_call4_call0_v0 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_cst_28 : Ref sig .tc := ⟨.hbm, 163, rfl⟩
abbrev main_call5_v0 : Ref sig .tc := ⟨.hbm, 164, rfl⟩
abbrev main_call5_v1 : Ref sig .tc := ⟨.hbm, 165, rfl⟩
abbrev main_call5_v2 : Ref sig .tc := ⟨.hbm, 166, rfl⟩
abbrev main_v112 : Ref sig .tc := ⟨.hbm, 167, rfl⟩
abbrev main_v113 : Ref sig .tc := ⟨.hbm, 168, rfl⟩
abbrev main_cst_29 : Ref sig .tc := ⟨.hbm, 169, rfl⟩
abbrev main_call6_v0 : Ref sig .tc := ⟨.hbm, 170, rfl⟩
abbrev main_call6_v1 : Ref sig .tc := ⟨.hbm, 171, rfl⟩
abbrev main_call6_v2 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_30 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_cst_31 : Ref sig .tc := ⟨.hbm, 203, rfl⟩
abbrev main_call7_v0 : Ref sig .tc := ⟨.hbm, 204, rfl⟩
abbrev main_call7_v1 : Ref sig .tc := ⟨.hbm, 205, rfl⟩
abbrev main_call7_v2 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_c : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_v277 : Ref sig .tc := ⟨.hbm, 342, rfl⟩
abbrev main_v278 : Ref sig .tc := ⟨.hbm, 343, rfl⟩
abbrev main_v279 : Ref sig .tc := ⟨.hbm, 344, rfl⟩
abbrev main_v280 : Ref sig .tc := ⟨.hbm, 345, rfl⟩
abbrev main_v281 : Ref sig .tc := ⟨.hbm, 346, rfl⟩
abbrev main_v282 : Ref sig .tc := ⟨.hbm, 347, rfl⟩
abbrev main_v283 : Ref sig .tc := ⟨.hbm, 348, rfl⟩
abbrev main_v284 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩
abbrev main_v294 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_v302 : Ref sig .tc := ⟨.hbm, 367, rfl⟩
abbrev main_v303 : Ref sig .tc := ⟨.hbm, 368, rfl⟩
abbrev main_v304 : Ref sig .tc := ⟨.hbm, 369, rfl⟩
abbrev main_v305 : Ref sig .tc := ⟨.hbm, 370, rfl⟩
abbrev main_v306 : Ref sig .tc := ⟨.hbm, 371, rfl⟩
abbrev main_v307 : Ref sig .tc := ⟨.hbm, 372, rfl⟩
abbrev main_v308 : Ref sig .tc := ⟨.hbm, 373, rfl⟩
abbrev main_v309 : Ref sig .tc := ⟨.hbm, 374, rfl⟩
abbrev main_v310 : Ref sig .tc := ⟨.hbm, 375, rfl⟩
abbrev main_v311 : Ref sig .tc := ⟨.hbm, 376, rfl⟩
abbrev main_v312 : Ref sig .tc := ⟨.hbm, 377, rfl⟩
abbrev main_v313 : Ref sig .tc := ⟨.hbm, 378, rfl⟩
abbrev main_v314 : Ref sig .tc := ⟨.hbm, 379, rfl⟩
abbrev main_v315 : Ref sig .tc := ⟨.hbm, 380, rfl⟩
abbrev main_v316 : Ref sig .tc := ⟨.hbm, 381, rfl⟩
abbrev main_v317 : Ref sig .tc := ⟨.hbm, 382, rfl⟩
abbrev main_v318 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_v323 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_v327 : Ref sig .tc := ⟨.hbm, 392, rfl⟩
abbrev main_v328 : Ref sig .tc := ⟨.hbm, 393, rfl⟩
abbrev main_v329 : Ref sig .tc := ⟨.hbm, 394, rfl⟩
abbrev main_v330 : Ref sig .tc := ⟨.hbm, 395, rfl⟩
abbrev main_v331 : Ref sig .tc := ⟨.hbm, 396, rfl⟩
abbrev main_v332 : Ref sig .tc := ⟨.hbm, 397, rfl⟩
abbrev main_v333 : Ref sig .tc := ⟨.hbm, 398, rfl⟩
abbrev main_v334 : Ref sig .tc := ⟨.hbm, 399, rfl⟩
abbrev main_v335 : Ref sig .tc := ⟨.hbm, 400, rfl⟩
abbrev main_v336 : Ref sig .tc := ⟨.hbm, 401, rfl⟩
abbrev main_v337 : Ref sig .tc := ⟨.hbm, 402, rfl⟩
abbrev main_v338 : Ref sig .tc := ⟨.hbm, 403, rfl⟩
abbrev main_v339 : Ref sig .tc := ⟨.hbm, 404, rfl⟩
abbrev main_v340 : Ref sig .tc := ⟨.hbm, 405, rfl⟩
abbrev main_v341 : Ref sig .tc := ⟨.hbm, 406, rfl⟩
abbrev main_v342 : Ref sig .tc := ⟨.hbm, 407, rfl⟩
abbrev main_v343 : Ref sig .tc := ⟨.hbm, 408, rfl⟩
abbrev main_v344 : Ref sig .tc := ⟨.hbm, 409, rfl⟩
abbrev main_v345 : Ref sig .tc := ⟨.hbm, 410, rfl⟩
abbrev main_v346 : Ref sig .tc := ⟨.hbm, 411, rfl⟩
abbrev main_v347 : Ref sig .tc := ⟨.hbm, 412, rfl⟩
abbrev main_v348 : Ref sig .tc := ⟨.hbm, 413, rfl⟩
abbrev main_v349 : Ref sig .tc := ⟨.hbm, 414, rfl⟩
abbrev main_v350 : Ref sig .tc := ⟨.hbm, 415, rfl⟩
abbrev main_v351 : Ref sig .tc := ⟨.hbm, 416, rfl⟩
abbrev main_v352 : Ref sig .tc := ⟨.hbm, 417, rfl⟩
abbrev main_v353 : Ref sig .tc := ⟨.hbm, 418, rfl⟩
abbrev main_v354 : Ref sig .tc := ⟨.hbm, 419, rfl⟩
abbrev main_v355 : Ref sig .tc := ⟨.hbm, 420, rfl⟩
abbrev main_v356 : Ref sig .tc := ⟨.hbm, 421, rfl⟩
abbrev main_v357 : Ref sig .tc := ⟨.hbm, 422, rfl⟩
abbrev main_v358 : Ref sig .tc := ⟨.hbm, 423, rfl⟩
abbrev main_v359 : Ref sig .tc := ⟨.hbm, 424, rfl⟩
abbrev main_v360 : Ref sig .tc := ⟨.hbm, 425, rfl⟩
abbrev main_v361 : Ref sig .tc := ⟨.hbm, 426, rfl⟩
abbrev main_v362 : Ref sig .tc := ⟨.hbm, 427, rfl⟩
abbrev main_v363 : Ref sig .tc := ⟨.hbm, 428, rfl⟩
abbrev main_v364 : Ref sig .tc := ⟨.hbm, 429, rfl⟩
abbrev main_v365 : Ref sig .tc := ⟨.hbm, 430, rfl⟩
abbrev main_v366 : Ref sig .tc := ⟨.hbm, 431, rfl⟩
abbrev main_v367 : Ref sig .tc := ⟨.hbm, 432, rfl⟩
abbrev main_v368 : Ref sig .tc := ⟨.hbm, 433, rfl⟩
abbrev main_v369 : Ref sig .tc := ⟨.hbm, 434, rfl⟩
abbrev main_v370 : Ref sig .tc := ⟨.hbm, 435, rfl⟩
abbrev main_v371 : Ref sig .tc := ⟨.hbm, 436, rfl⟩
abbrev main_v372 : Ref sig .tc := ⟨.hbm, 437, rfl⟩
abbrev main_v373 : Ref sig .tc := ⟨.hbm, 438, rfl⟩
abbrev main_v374 : Ref sig .tc := ⟨.hbm, 439, rfl⟩
abbrev main_v375 : Ref sig .tc := ⟨.hbm, 440, rfl⟩
abbrev main_v376 : Ref sig .tc := ⟨.hbm, 441, rfl⟩
abbrev main_v377 : Ref sig .tc := ⟨.hbm, 442, rfl⟩
abbrev main_v378 : Ref sig .tc := ⟨.hbm, 443, rfl⟩
abbrev main_v379 : Ref sig .tc := ⟨.hbm, 444, rfl⟩
abbrev main_v380 : Ref sig .tc := ⟨.hbm, 445, rfl⟩
abbrev main_v381 : Ref sig .tc := ⟨.hbm, 446, rfl⟩
abbrev main_v382 : Ref sig .tc := ⟨.hbm, 447, rfl⟩
abbrev main_v383 : Ref sig .tc := ⟨.hbm, 448, rfl⟩
abbrev main_v384 : Ref sig .tc := ⟨.hbm, 449, rfl⟩
abbrev main_v385 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_v389 : Ref sig .tc := ⟨.hbm, 454, rfl⟩
abbrev main_v390 : Ref sig .tc := ⟨.hbm, 455, rfl⟩
abbrev main_v391 : Ref sig .tc := ⟨.hbm, 456, rfl⟩
abbrev main_v392 : Ref sig .tc := ⟨.hbm, 457, rfl⟩
abbrev main_v393 : Ref sig .tc := ⟨.hbm, 458, rfl⟩
abbrev main_v394 : Ref sig .tc := ⟨.hbm, 459, rfl⟩
abbrev main_v395 : Ref sig .tc := ⟨.hbm, 460, rfl⟩
abbrev main_v396 : Ref sig .tc := ⟨.hbm, 461, rfl⟩
abbrev main_v397 : Ref sig .tc := ⟨.hbm, 462, rfl⟩
abbrev main_v398 : Ref sig .tc := ⟨.hbm, 463, rfl⟩
abbrev main_v399 : Ref sig .tc := ⟨.hbm, 464, rfl⟩
abbrev main_v400 : Ref sig .tc := ⟨.hbm, 465, rfl⟩
abbrev main_v401 : Ref sig .tc := ⟨.hbm, 466, rfl⟩
abbrev main_v402 : Ref sig .tc := ⟨.hbm, 467, rfl⟩
abbrev main_v403 : Ref sig .tc := ⟨.hbm, 468, rfl⟩
abbrev main_v404 : Ref sig .tc := ⟨.hbm, 469, rfl⟩
abbrev main_v405 : Ref sig .tc := ⟨.hbm, 470, rfl⟩
abbrev main_v406 : Ref sig .tc := ⟨.hbm, 471, rfl⟩
abbrev main_v407 : Ref sig .tc := ⟨.hbm, 472, rfl⟩
abbrev main_v408 : Ref sig .tc := ⟨.hbm, 473, rfl⟩
abbrev main_v409 : Ref sig .tc := ⟨.hbm, 474, rfl⟩
abbrev main_v410 : Ref sig .tc := ⟨.hbm, 475, rfl⟩
abbrev main_v411 : Ref sig .tc := ⟨.hbm, 476, rfl⟩
abbrev main_v412 : Ref sig .tc := ⟨.hbm, 477, rfl⟩
abbrev main_v413 : Ref sig .tc := ⟨.hbm, 478, rfl⟩
abbrev main_v414 : Ref sig .tc := ⟨.hbm, 479, rfl⟩
abbrev main_v415 : Ref sig .tc := ⟨.hbm, 480, rfl⟩
abbrev main_v416 : Ref sig .tc := ⟨.hbm, 481, rfl⟩
abbrev main_v417 : Ref sig .tc := ⟨.hbm, 482, rfl⟩
abbrev main_v418 : Ref sig .tc := ⟨.hbm, 483, rfl⟩
abbrev main_v419 : Ref sig .tc := ⟨.hbm, 484, rfl⟩
abbrev main_v420 : Ref sig .tc := ⟨.hbm, 485, rfl⟩
abbrev main_v421 : Ref sig .tc := ⟨.hbm, 486, rfl⟩
abbrev main_v422 : Ref sig .tc := ⟨.hbm, 487, rfl⟩
abbrev main_v423 : Ref sig .tc := ⟨.hbm, 488, rfl⟩
abbrev main_v424 : Ref sig .tc := ⟨.hbm, 489, rfl⟩
abbrev main_v425 : Ref sig .tc := ⟨.hbm, 490, rfl⟩
abbrev main_v426 : Ref sig .tc := ⟨.hbm, 491, rfl⟩
abbrev main_v427 : Ref sig .tc := ⟨.hbm, 492, rfl⟩
abbrev main_v428 : Ref sig .tc := ⟨.hbm, 493, rfl⟩
abbrev main_v429 : Ref sig .tc := ⟨.hbm, 494, rfl⟩
abbrev main_v430 : Ref sig .tc := ⟨.hbm, 495, rfl⟩
abbrev main_v431 : Ref sig .tc := ⟨.hbm, 496, rfl⟩
abbrev main_v432 : Ref sig .tc := ⟨.hbm, 497, rfl⟩

abbrev nD : Nat := 1
abbrev τ : Topo := Topo.v7x

variable {F : FTy → Type} [FloatOps F]
-- ==== Proof.KernelLoops.lean ====
/- The chunk loop of the kernel body: one trip run once, over a symbolic trip, and the invariant it gives (what
   every buffer the loop writes holds before trip k). -/
module

public import proofs.«01_k».proof.Proof.Gen.Kernel.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the instances below: the one of the frame. -/
local notation "𝕄G" => MT nD τ sig Unit (Elt F) ℕ (UR sig nD τ) ℕ
/-! ## `cc0_gdr` -/

/-- The class of invariants of `cc0_gdr`'s counted loop `k0_t1_loop` (`scf.for %arg14 = %c0_i32 to
   %13 step %c1_i32 : i32 {`), trip `k0_t1`, carrying `Unit`, region `Gen.k0_t1_body`. Classifier:
   AFFINE — every store at a `Rect.unit` whose offsets are a stated closed form of the trips,
   nothing carried, no transfer or conditional inside: the invariant is the pieces of the trips
   before `k`. The region loads back what it stores into `arg9`,
   `arg10`, `arg11`, `arg12`, `arg13` (an accumulation): each trip's pieces are stated as functions
   of the contents it finds there. One trip calls the parts `k0_part1`, `k0_part2`, `k0_part3`,
   `k0_part4`, `k0_part5`, `k0_part6`, `k0_part7`, `k0_part8`, `k0_part9`. Per trip it STORES
   through arg10 at (k0_off1 k0_t1); arg12 at (k0_off1 k0_t1); arg11 at (k0_off2 k0_t1); arg13 at
   (k0_off2 k0_t1); arg8 at (k0_off4 k0_t1); arg9 at ![0, 0, 0, 0]. It LOADS through arg3 at
   (k0_off1 k0_t1); arg2 at (k0_off1 k0_t1); arg10 at (k0_off1 k0_t1); arg12 at (k0_off1 k0_t1);
   arg11 at (k0_off2 k0_t1); arg13 at (k0_off2 k0_t1); arg5 at (k0_off3 k0_t1); arg6 at (k0_off3
   k0_t1); arg4 at (k0_off4 k0_t1); arg9 at ![0, 0, 0, 0]; arg8 at (k0_off4 k0_t1). Below:
   `Gen.loopInv_k0_t1` (`@[sl_loop]`), at the frame kit's algebra — a run at that algebra (the
   the frame's, or a hand proof's over `MT nD τ sig Unit (Elt F) ℕ (UR sig nD τ) ℕ`) goes
   through the loop with nothing more to state; a proof at another algebra instances the class
   itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 v0 v1)

/-! ### `k0_t1_loop`: the invariant -/

/-- One trip's resources: what the region reads (arg2, arg3, arg4, arg5, arg6) at its contents, what
   it writes (arg8, arg9, arg10, arg11, arg12, arg13) at any. -/
abbrev Trip_k0_t1 (c : Dev nD) (arg2 : Memref sig .tc .vmem S1x1x10x64x128 .bf16) (arg3 : Memref sig .tc .vmem S1x1x10x64x128 .bf16) (arg4 : Memref sig .tc .vmem S1x1x10x64x256 .bf16) (arg5 : Memref sig .tc .vmem S1x1x10x64 .f32) (arg6 : Memref sig .tc .vmem S1x1x10x64 .f32) (arg8 : Memref sig .tc .vmem S1x1x10x64x256 .bf16) (arg9 : Memref sig .tc .vmem S1x1x128x256 .f32) (arg10 : Memref sig .tc .vmem S1x1x10x64x128 .fp8e4m3) (arg11 : Memref sig .tc .vmem S1x1x10x128 .f32) (arg12 : Memref sig .tc .vmem S1x1x10x64x128 .fp8e4m3) (arg13 : Memref sig .tc .vmem S1x1x10x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13))

/-- ONE TRIP of `k0_t1_loop` at a symbolic `k`, run by `sl_exec` (its rectangles' offsets closed
   forms of `k`, their geometry linear arithmetic): the pieces it writes into arg8, arg9, arg10,
   arg11, arg12, arg13 are the run's own finds — the witnesses `sl_close` assigns handing the
   buffers to the continuation, as functions of the contents the trip finds in the memrefs it writes
   (the region loads some of them back). `@[irreducible]`: cited, never unfolded. -/
@[irreducible] def trip_k0_t1 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) :
    Σ' (L_arg8 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S1x1x10x64x256 .bf16))) (L_arg9 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S1x1x128x256 .f32))) (L_arg10 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S1x1x10x64x128 .fp8e4m3))) (L_arg11 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S1x1x10x128 .f32))) (L_arg12 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S1x1x10x64x128 .fp8e4m3))) , { L_arg13 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S1x1x10x128 .f32)) // ∀ (E : Set ℕ) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty),
      Trip_k0_t1 (F := F) c arg2 arg3 arg4 arg5 arg6 arg8 arg9 arg10 arg11 arg12 arg13 X_arg2 X_arg3 X_arg4 X_arg5 X_arg6 f_arg8 f_arg9 f_arg10 f_arg11 f_arg12 f_arg13
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 v0 v1 k PUnit.unit)
          (fun _ => Trip_k0_t1 (F := F) c arg2 arg3 arg4 arg5 arg6 arg8 arg9 arg10 arg11 arg12 arg13 X_arg2 X_arg3 X_arg4 X_arg5 X_arg6 (arg8.view.writes (Elt F) f_arg8 (L_arg8 f_arg8 f_arg9 f_arg10 f_arg11 f_arg12 f_arg13)) (arg9.view.writes (Elt F) f_arg9 (L_arg9 f_arg8 f_arg9 f_arg10 f_arg11 f_arg12 f_arg13)) (arg10.view.writes (Elt F) f_arg10 (L_arg10 f_arg8 f_arg9 f_arg10 f_arg11 f_arg12 f_arg13)) (arg11.view.writes (Elt F) f_arg11 (L_arg11 f_arg8 f_arg9 f_arg10 f_arg11 f_arg12 f_arg13)) (arg12.view.writes (Elt F) f_arg12 (L_arg12 f_arg8 f_arg9 f_arg10 f_arg11 f_arg12 f_arg13)) (arg13.view.writes (Elt F) f_arg13 (L_arg13 f_arg8 f_arg9 f_arg10 f_arg11 f_arg12 f_arg13))) } := by
  have hk : k.val < 10 := Nat.lt_of_lt_of_le k.isLt k0_t1_abs.2.1
  refine ⟨?_, ?_, ?_, ?_, ?_, ?_, fun E f_arg8 f_arg9 f_arg10 f_arg11 f_arg12 f_arg13 => ?run⟩
  case run =>
    unfold k0_t1_body
    iintro ⟨HR_arg2, HR_arg3, HR_arg4, HR_arg5, HR_arg6, HW_arg8, HW_arg9, HW_arg10, HW_arg11, HW_arg12, HW_arg13⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) : List (View.Piece (Elt F) S1x1x10x64x256 .bf16) × List (View.Piece (Elt F) S1x1x128x256 .f32) × List (View.Piece (Elt F) S1x1x10x64x128 .fp8e4m3) × List (View.Piece (Elt F) S1x1x10x128 .f32) × List (View.Piece (Elt F) S1x1x10x64x128 .fp8e4m3) × List (View.Piece (Elt F) S1x1x10x128 .f32) :=
  ((trip_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k).1 f_arg8 f_arg9 f_arg10 f_arg11 f_arg12 f_arg13, (trip_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k).2.1 f_arg8 f_arg9 f_arg10 f_arg11 f_arg12 f_arg13, (trip_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k).2.2.1 f_arg8 f_arg9 f_arg10 f_arg11 f_arg12 f_arg13, (trip_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k).2.2.2.1 f_arg8 f_arg9 f_arg10 f_arg11 f_arg12 f_arg13, (trip_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k).2.2.2.2.1 f_arg8 f_arg9 f_arg10 f_arg11 f_arg12 f_arg13, (trip_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k).2.2.2.2.2.1 f_arg8 f_arg9 f_arg10 f_arg11 f_arg12 f_arg13)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (k : ℕ) (prev : List (View.Piece (Elt F) S1x1x10x64x256 .bf16) × List (View.Piece (Elt F) S1x1x128x256 .f32) × List (View.Piece (Elt F) S1x1x10x64x128 .fp8e4m3) × List (View.Piece (Elt F) S1x1x10x128 .f32) × List (View.Piece (Elt F) S1x1x10x64x128 .fp8e4m3) × List (View.Piece (Elt F) S1x1x10x128 .f32)) : List (View.Piece (Elt F) S1x1x10x64x256 .bf16) × List (View.Piece (Elt F) S1x1x128x256 .f32) × List (View.Piece (Elt F) S1x1x10x64x128 .fp8e4m3) × List (View.Piece (Elt F) S1x1x10x128 .f32) × List (View.Piece (Elt F) S1x1x10x64x128 .fp8e4m3) × List (View.Piece (Elt F) S1x1x10x128 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 ⟨k, h⟩ (arg8.view.writes (Elt F) G_arg8 prev.1) (arg9.view.writes (Elt F) G_arg9 prev.2.1) (arg10.view.writes (Elt F) G_arg10 prev.2.2.1) (arg11.view.writes (Elt F) G_arg11 prev.2.2.2.1) (arg12.view.writes (Elt F) G_arg12 prev.2.2.2.2.1) (arg13.view.writes (Elt F) G_arg13 prev.2.2.2.2.2)).1 ++ prev.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 ⟨k, h⟩ (arg8.view.writes (Elt F) G_arg8 prev.1) (arg9.view.writes (Elt F) G_arg9 prev.2.1) (arg10.view.writes (Elt F) G_arg10 prev.2.2.1) (arg11.view.writes (Elt F) G_arg11 prev.2.2.2.1) (arg12.view.writes (Elt F) G_arg12 prev.2.2.2.2.1) (arg13.view.writes (Elt F) G_arg13 prev.2.2.2.2.2)).2.1 ++ prev.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 ⟨k, h⟩ (arg8.view.writes (Elt F) G_arg8 prev.1) (arg9.view.writes (Elt F) G_arg9 prev.2.1) (arg10.view.writes (Elt F) G_arg10 prev.2.2.1) (arg11.view.writes (Elt F) G_arg11 prev.2.2.2.1) (arg12.view.writes (Elt F) G_arg12 prev.2.2.2.2.1) (arg13.view.writes (Elt F) G_arg13 prev.2.2.2.2.2)).2.2.1 ++ prev.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 ⟨k, h⟩ (arg8.view.writes (Elt F) G_arg8 prev.1) (arg9.view.writes (Elt F) G_arg9 prev.2.1) (arg10.view.writes (Elt F) G_arg10 prev.2.2.1) (arg11.view.writes (Elt F) G_arg11 prev.2.2.2.1) (arg12.view.writes (Elt F) G_arg12 prev.2.2.2.2.1) (arg13.view.writes (Elt F) G_arg13 prev.2.2.2.2.2)).2.2.2.1 ++ prev.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 ⟨k, h⟩ (arg8.view.writes (Elt F) G_arg8 prev.1) (arg9.view.writes (Elt F) G_arg9 prev.2.1) (arg10.view.writes (Elt F) G_arg10 prev.2.2.1) (arg11.view.writes (Elt F) G_arg11 prev.2.2.2.1) (arg12.view.writes (Elt F) G_arg12 prev.2.2.2.2.1) (arg13.view.writes (Elt F) G_arg13 prev.2.2.2.2.2)).2.2.2.2.1 ++ prev.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 ⟨k, h⟩ (arg8.view.writes (Elt F) G_arg8 prev.1) (arg9.view.writes (Elt F) G_arg9 prev.2.1) (arg10.view.writes (Elt F) G_arg10 prev.2.2.1) (arg11.view.writes (Elt F) G_arg11 prev.2.2.2.1) (arg12.view.writes (Elt F) G_arg12 prev.2.2.2.2.1) (arg13.view.writes (Elt F) G_arg13 prev.2.2.2.2.2)).2.2.2.2.2 ++ prev.2.2.2.2.2)
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) : ℕ → List (View.Piece (Elt F) S1x1x10x64x256 .bf16) × List (View.Piece (Elt F) S1x1x128x256 .f32) × List (View.Piece (Elt F) S1x1x10x64x128 .fp8e4m3) × List (View.Piece (Elt F) S1x1x10x128 .f32) × List (View.Piece (Elt F) S1x1x10x64x128 .fp8e4m3) × List (View.Piece (Elt F) S1x1x10x128 .f32)
  | 0 => ([], [], [], [], [], [])
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k (pb_k0_t1 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k)

/-- The pieces after one more trip of the chunk loop are the pieces before it and those the trip writes. -/
theorem pb_k0_t1_succ (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 (k.val + 1)
      = ((tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.1) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.2)).1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.1) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.2)).2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.1) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.2)).2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.1) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.2)).2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.1) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.2)).2.2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.1) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.2)).2.2.2.2.2 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.2) := by
  rw [pb_k0_t1.eq_2]; unfold pb_k0_t1Step; exact dif_pos k.isLt

/-- THE INVARIANT before trip `k`: arg2, arg3, arg4, arg5, arg6 read at `X_·`; arg8, arg9, arg10,
   arg11, arg12, arg13 holding the pieces of the trips before `k` written over the contents at loop
   entry `G_·` (stated `∃ f, … ∗ ⌜f = …⌝`, so that a hypothesis of any contents matches and the
   equation is what is proved). -/
abbrev inv_k0_t1 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (∃ f, (arg8.view.loc (c : Thread nD τ) ↦[arg8.view.set]{fullShare} f) ∗ ⌜f = arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k).1⌝) ∗ (∃ f, (arg9.view.loc (c : Thread nD τ) ↦[arg9.view.set]{fullShare} f) ∗ ⌜f = arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k).2.1⌝) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k).2.2.1⌝) ∗ (∃ f, (arg11.view.loc (c : Thread nD τ) ↦[arg11.view.set]{fullShare} f) ∗ ⌜f = arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k).2.2.2.1⌝) ∗ (∃ f, (arg12.view.loc (c : Thread nD τ) ↦[arg12.view.set]{fullShare} f) ∗ ⌜f = arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k).2.2.2.2.1⌝) ∗ (∃ f, (arg13.view.loc (c : Thread nD τ) ↦[arg13.view.set]{fullShare} f) ∗ ⌜f = arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k).2.2.2.2.2⌝))

set_option warn.classDefReducibility false in
/-- THE LOOP BY ITS INVARIANT (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v0 v1 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13
  step k acc := by
    iintro ⟨HR_arg2, HR_arg3, HR_arg4, HR_arg5, HR_arg6, ⟨%f_arg8, HW_arg8, %h_arg8⟩, ⟨%f_arg9, HW_arg9, %h_arg9⟩, ⟨%f_arg10, HW_arg10, %h_arg10⟩, ⟨%f_arg11, HW_arg11, %h_arg11⟩, ⟨%f_arg12, HW_arg12, %h_arg12⟩, ⟨%f_arg13, HW_arg13, %h_arg13⟩⟩
    iapply (wp_wand_r Idealize.ShloMosaic.frame (wpE (defs₀ (F := F)) 𝒱 (c : Thread nD τ) bd) E)
    isplitl [HR_arg2 HR_arg3 HR_arg4 HR_arg5 HR_arg6 HW_arg8 HW_arg9 HW_arg10 HW_arg11 HW_arg12 HW_arg13]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k).2.2.2.2.2.2 E f_arg8 f_arg9 f_arg10 f_arg11 f_arg12 f_arg13)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HW_arg8]; · iexact HW_arg8
      isplitl [HW_arg9]; · iexact HW_arg9
      isplitl [HW_arg10]; · iexact HW_arg10
      isplitl [HW_arg11]; · iexact HW_arg11
      isplitl [HW_arg12]; · iexact HW_arg12
      iexact HW_arg13
    · iintro %_ ⟨HR_arg2, HR_arg3, HR_arg4, HR_arg5, HR_arg6, HW_arg8, HW_arg9, HW_arg10, HW_arg11, HW_arg12, HW_arg13⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      rw [pb_k0_t1_succ]
      isplitl [HW_arg8]
      · iexists _; isplitl [HW_arg8]; · iexact HW_arg8
        ipureintro; rw [h_arg8, h_arg9, h_arg10, h_arg11, h_arg12, h_arg13, ← View.writes_append]
      isplitl [HW_arg9]
      · iexists _; isplitl [HW_arg9]; · iexact HW_arg9
        ipureintro; rw [h_arg8, h_arg9, h_arg10, h_arg11, h_arg12, h_arg13, ← View.writes_append]
      isplitl [HW_arg10]
      · iexists _; isplitl [HW_arg10]; · iexact HW_arg10
        ipureintro; rw [h_arg8, h_arg9, h_arg10, h_arg11, h_arg12, h_arg13, ← View.writes_append]
      isplitl [HW_arg11]
      · iexists _; isplitl [HW_arg11]; · iexact HW_arg11
        ipureintro; rw [h_arg8, h_arg9, h_arg10, h_arg11, h_arg12, h_arg13, ← View.writes_append]
      isplitl [HW_arg12]
      · iexists _; isplitl [HW_arg12]; · iexact HW_arg12
        ipureintro; rw [h_arg8, h_arg9, h_arg10, h_arg11, h_arg12, h_arg13, ← View.writes_append]
      iexists _; isplitl [HW_arg13]; · iexact HW_arg13
      ipureintro; rw [h_arg8, h_arg9, h_arg10, h_arg11, h_arg12, h_arg13, ← View.writes_append]

end Cert.Kernel.Gen

end
-- ==== Proof.KernelRuns.lean ====
/- What the pipeline of the kernel needs around the body: the arrays at launch, the blocks of each grid point, the
   host operations before and after the region. -/
module

public import proofs.«01_k».proof.Proof.Gen.Kernel.Launch
public import proofs.«01_k».proof.Proof.Gen.Kernel.Skeleton
public import proofs.«01_k».proof.Proof.KernelLoops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations before the region allocate nothing. -/
theorem hostOps0_fresh : (hostOps0 : List (HloOp τ sig (Elt F))).Forall fun op => op.fresh = ∅ := by
  simp only [List.Forall]; repeat' constructor
/-- The host operations after the region allocate nothing. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 288000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v13, main_v14, main_v15, main_v16, main_v17, main_v18, main_v19, main_v20, main_v21, main_v22, main_v23, main_v24}
/-- What the host operations after the region write. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      (Pipeline.RDat.FramePostR.arr_in h c 5 rfl).trans ((hA c 5).trans (V_main_arg5 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x1x10x64x128 .bf16 := win0_0.stage (cfg0.slots t 0)
/-- That staging buffer is a whole buffer (queries window). -/
abbrev hs0_0 (t : Fin cfg0.N) : (ms0_0 t).IsWhole := hstage0_0 ((cfg0.slots t 0).cast nbuf0_0)
/-- The staging buffer of the keys window at a grid point. -/
abbrev ms0_1 (t : Fin cfg0.N) : Memref sig .tc .vmem S1x1x10x64x128 .bf16 := win0_1.stage (cfg0.slots t 1)
/-- That staging buffer is a whole buffer (keys window). -/
abbrev hs0_1 (t : Fin cfg0.N) : (ms0_1 t).IsWhole := hstage0_1 ((cfg0.slots t 1).cast nbuf0_1)
/-- The staging buffer of the values window at a grid point. -/
abbrev ms0_2 (t : Fin cfg0.N) : Memref sig .tc .vmem S1x1x10x64x256 .bf16 := win0_2.stage (cfg0.slots t 2)
/-- That staging buffer is a whole buffer (values window). -/
abbrev hs0_2 (t : Fin cfg0.N) : (ms0_2 t).IsWhole := hstage0_2 ((cfg0.slots t 2).cast nbuf0_2)
/-- The staging buffer of the decays window at a grid point. -/
abbrev ms0_3 (t : Fin cfg0.N) : Memref sig .tc .vmem S1x1x10x64 .f32 := win0_3.stage (cfg0.slots t 3)
/-- That staging buffer is a whole buffer (decays window). -/
abbrev hs0_3 (t : Fin cfg0.N) : (ms0_3 t).IsWhole := hstage0_3 ((cfg0.slots t 3).cast nbuf0_3)
/-- The staging buffer of the write strengths window at a grid point. -/
abbrev ms0_4 (t : Fin cfg0.N) : Memref sig .tc .vmem S1x1x10x64 .f32 := win0_4.stage (cfg0.slots t 4)
/-- That staging buffer is a whole buffer (write strengths window). -/
abbrev hs0_4 (t : Fin cfg0.N) : (ms0_4 t).IsWhole := hstage0_4 ((cfg0.slots t 4).cast nbuf0_4)
/-- The staging buffer of the initial state window at a grid point. -/
abbrev ms0_5 (t : Fin cfg0.N) : Memref sig .tc .vmem S1x1x128x256 .f32 := win0_5.stage (cfg0.slots t 5)
/-- That staging buffer is a whole buffer (initial state window). -/
abbrev hs0_5 (t : Fin cfg0.N) : (ms0_5 t).IsWhole := hstage0_5 ((cfg0.slots t 5).cast nbuf0_5)
/-- The staging buffer of the output window at a grid point. -/
abbrev ms0_6 (t : Fin cfg0.N) : Memref sig .tc .vmem S1x1x10x64x256 .bf16 := win0_6.stage (cfg0.slots t 6)
/-- That staging buffer is a whole buffer (output window). -/
abbrev hs0_6 (t : Fin cfg0.N) : (ms0_6 t).IsWhole := hstage0_6 ((cfg0.slots t 6).cast nbuf0_6)
/-- The staging buffer of the final state window at a grid point. -/
abbrev ms0_7 (t : Fin cfg0.N) : Memref sig .tc .vmem S1x1x128x256 .f32 := win0_7.stage (cfg0.slots t 7)
/-- That staging buffer is a whole buffer (final state window). -/
abbrev hs0_7 (t : Fin cfg0.N) : (ms0_7 t).IsWhole := hstage0_7 ((cfg0.slots t 7).cast nbuf0_7)
/-- The staging buffer of the key codes window at a grid point. -/
abbrev ms0_8 (t : Fin cfg0.N) : Memref sig .tc .vmem S1x1x10x64x128 .fp8e4m3 := win0_8.stage (cfg0.slots t 8)
/-- That staging buffer is a whole buffer (key codes window). -/
abbrev hs0_8 (t : Fin cfg0.N) : (ms0_8 t).IsWhole := hstage0_8 ((cfg0.slots t 8).cast nbuf0_8)
/-- The staging buffer of the key scales window at a grid point. -/
abbrev ms0_9 (t : Fin cfg0.N) : Memref sig .tc .vmem S1x1x10x128 .f32 := win0_9.stage (cfg0.slots t 9)
/-- That staging buffer is a whole buffer (key scales window). -/
abbrev hs0_9 (t : Fin cfg0.N) : (ms0_9 t).IsWhole := hstage0_9 ((cfg0.slots t 9).cast nbuf0_9)
/-- The staging buffer of the query codes window at a grid point. -/
abbrev ms0_10 (t : Fin cfg0.N) : Memref sig .tc .vmem S1x1x10x64x128 .fp8e4m3 := win0_10.stage (cfg0.slots t 10)
/-- That staging buffer is a whole buffer (query codes window). -/
abbrev hs0_10 (t : Fin cfg0.N) : (ms0_10 t).IsWhole := hstage0_10 ((cfg0.slots t 10).cast nbuf0_10)
/-- The staging buffer of the query scales window at a grid point. -/
abbrev ms0_11 (t : Fin cfg0.N) : Memref sig .tc .vmem S1x1x10x128 .f32 := win0_11.stage (cfg0.slots t 11)
/-- That staging buffer is a whole buffer (query scales window). -/
abbrev hs0_11 (t : Fin cfg0.N) : (ms0_11 t).IsWhole := hstage0_11 ((cfg0.slots t 11).cast nbuf0_11)

end Cert.Kernel.Gen

end
-- ==== Proof.KernelBodyRun.lean ====
/- One run of the whole kernel body on whole staging buffers, each output handed back with the pieces it was written in. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (6, 7, 8, 9, 10, 11) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole)
    (x0 : Vec F S1x1x10x64x128 .bf16) (x1 : Vec F S1x1x10x64x128 .bf16) (x2 : Vec F S1x1x10x64x256 .bf16) (x3 : Vec F S1x1x10x64 .f32) (x4 : Vec F S1x1x10x64 .f32) (x5 : Vec F S1x1x128x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_gdr i arg2 harg2 arg3 harg3 arg4 harg4 arg5 harg5 arg6 harg6 arg7 harg7 arg8 harg8 arg9 harg9 arg10 harg10 arg11 harg11 arg12 harg12 arg13 harg13) K := by
    intro E K
    simp only [cc0_gdr_eq_skeleton]; unfold cc0_gdr_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    iexists _, _; isplitr; swap; · iexact H11
    ipureintro; rfl

end Cert.Kernel.Gen

end
-- ==== Proof.KernelFrame.lean ====
/- The frame of the whole program: the body obligation of the pipeline, the run of the program, and that every
   fair execution ends with the arguments unchanged. -/
module

public import proofs.«01_k».proof.Proof.KernelBodyRun
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10, 11): nothing reads what the kernel leaves in them, so nothing
    of it is named (Lib/Pipeline/Dat.lean `Dat.toRForget`). -/
def forgets0 : Fin 12 → Bool := fun w => w.val == 6 || w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What a grid point leaves in the staging buffer of the keys window. -/
theorem after0_1 (c : Dev nD) (t : Fin cfg0.N) : (dats m 0 c).after 1 t = iblk m c 1 t := by dsimp only [dats]
/-- What a grid point leaves in the staging buffer of the values window. -/
theorem after0_2 (c : Dev nD) (t : Fin cfg0.N) : (dats m 0 c).after 2 t = iblk m c 2 t := by dsimp only [dats]
/-- What a grid point leaves in the staging buffer of the decays window. -/
theorem after0_3 (c : Dev nD) (t : Fin cfg0.N) : (dats m 0 c).after 3 t = iblk m c 3 t := by dsimp only [dats]
/-- What a grid point leaves in the staging buffer of the write strengths window. -/
theorem after0_4 (c : Dev nD) (t : Fin cfg0.N) : (dats m 0 c).after 4 t = iblk m c 4 t := by dsimp only [dats]
/-- What a grid point leaves in the staging buffer of the initial state window. -/
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What a grid point finds in the staging buffer of the keys window. -/
theorem before0_1 (c : Dev nD) (t : Fin cfg0.N) (d) : (dats m 0 c).before 1 t d = iblk m c 1 t :=
  before0_1_of m (dats m 0 c) (A_eq m c 1) (after0_1 m c) t d
/-- What a grid point finds in the staging buffer of the values window. -/
theorem before0_2 (c : Dev nD) (t : Fin cfg0.N) (d) : (dats m 0 c).before 2 t d = iblk m c 2 t :=
  before0_2_of m (dats m 0 c) (A_eq m c 2) (after0_2 m c) t d
/-- What a grid point finds in the staging buffer of the decays window. -/
theorem before0_3 (c : Dev nD) (t : Fin cfg0.N) (d) : (dats m 0 c).before 3 t d = iblk m c 3 t :=
  before0_3_of m (dats m 0 c) (A_eq m c 3) (after0_3 m c) t d
/-- What a grid point finds in the staging buffer of the write strengths window. -/
theorem before0_4 (c : Dev nD) (t : Fin cfg0.N) (d) : (dats m 0 c).before 4 t d = iblk m c 4 t :=
  before0_4_of m (dats m 0 c) (A_eq m c 4) (after0_4 m c) t d
/-- What a grid point finds in the staging buffer of the initial state window. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 1200000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10, 11) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.IdealLoops.lean ====
/- The chunk loop of the kernel body: one trip run once, over a symbolic trip, and the invariant it gives (what
   every buffer the loop writes holds before trip k). -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the instances below: the one of the frame. -/
local notation "𝕄G" => MT nD τ sig Unit (Elt F) ℕ (UR sig nD τ) ℕ
/-! ## `cc0_gdr` -/

/-- The class of invariants of `cc0_gdr`'s counted loop `k0_t1_loop` (`scf.for %arg14 = %c0_i32 to
   %13 step %c1_i32 : i32 {`), trip `k0_t1`, carrying `Unit`, region `Gen.k0_t1_body`. Classifier:
   AFFINE — every store at a `Rect.unit` whose offsets are a stated closed form of the trips,
   nothing carried, no transfer or conditional inside: the invariant is the pieces of the trips
   before `k`. The region loads back what it stores into `arg9`,
   `arg10`, `arg11`, `arg12`, `arg13` (an accumulation): each trip's pieces are stated as functions
   of the contents it finds there. One trip calls the parts `k0_part1`, `k0_part2`, `k0_part3`,
   `k0_part4`, `k0_part5`, `k0_part6`, `k0_part7`, `k0_part8`, `k0_part9`. Per trip it STORES
   through arg10 at (k0_off1 k0_t1); arg12 at (k0_off1 k0_t1); arg11 at (k0_off2 k0_t1); arg13 at
   (k0_off2 k0_t1); arg8 at (k0_off4 k0_t1); arg9 at ![0, 0, 0, 0]. It LOADS through arg3 at
   (k0_off1 k0_t1); arg2 at (k0_off1 k0_t1); arg10 at (k0_off1 k0_t1); arg12 at (k0_off1 k0_t1);
   arg11 at (k0_off2 k0_t1); arg13 at (k0_off2 k0_t1); arg5 at (k0_off3 k0_t1); arg6 at (k0_off3
   k0_t1); arg4 at (k0_off4 k0_t1); arg9 at ![0, 0, 0, 0]; arg8 at (k0_off4 k0_t1). Below:
   `Gen.loopInv_k0_t1` (`@[sl_loop]`), at the frame kit's algebra — a run at that algebra (the
   the frame's, or a hand proof's over `MT nD τ sig Unit (Elt F) ℕ (UR sig nD τ) ℕ`) goes
   through the loop with nothing more to state; a proof at another algebra instances the class
   itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 v0 v1)

/-! ### `k0_t1_loop`: the invariant -/

/-- One trip's resources: what the region reads (arg2, arg3, arg4, arg5, arg6) at its contents, what
   it writes (arg8, arg9, arg10, arg11, arg12, arg13) at any. -/
abbrev Trip_k0_t1 (c : Dev nD) (arg2 : Memref sig .tc .vmem S1x1x10x64x128 .bf16) (arg3 : Memref sig .tc .vmem S1x1x10x64x128 .bf16) (arg4 : Memref sig .tc .vmem S1x1x10x64x256 .bf16) (arg5 : Memref sig .tc .vmem S1x1x10x64 .f32) (arg6 : Memref sig .tc .vmem S1x1x10x64 .f32) (arg8 : Memref sig .tc .vmem S1x1x10x64x256 .bf16) (arg9 : Memref sig .tc .vmem S1x1x128x256 .f32) (arg10 : Memref sig .tc .vmem S1x1x10x64x128 .fp8e4m3) (arg11 : Memref sig .tc .vmem S1x1x10x128 .f32) (arg12 : Memref sig .tc .vmem S1x1x10x64x128 .fp8e4m3) (arg13 : Memref sig .tc .vmem S1x1x10x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg8.view.loc (c : Thread nD τ) ↦[arg8.view.set]{fullShare} f_arg8) ∗ (arg9.view.loc (c : Thread nD τ) ↦[arg9.view.set]{fullShare} f_arg9) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13))

/-- ONE TRIP of `k0_t1_loop` at a symbolic `k`, run by `sl_exec` (its rectangles' offsets closed
   forms of `k`, their geometry linear arithmetic): the pieces it writes into arg8, arg9, arg10,
   arg11, arg12, arg13 are the run's own finds — the witnesses `sl_close` assigns handing the
   buffers to the continuation, as functions of the contents the trip finds in the memrefs it writes
   (the region loads some of them back). `@[irreducible]`: cited, never unfolded. -/
@[irreducible] def trip_k0_t1 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) :
    Σ' (L_arg8 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S1x1x10x64x256 .bf16))) (L_arg9 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S1x1x128x256 .f32))) (L_arg10 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S1x1x10x64x128 .fp8e4m3))) (L_arg11 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S1x1x10x128 .f32))) (L_arg12 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S1x1x10x64x128 .fp8e4m3))) , { L_arg13 : (BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → List (View.Piece (Elt F) S1x1x10x128 .f32)) // ∀ (E : Set ℕ) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty),
      Trip_k0_t1 (F := F) c arg2 arg3 arg4 arg5 arg6 arg8 arg9 arg10 arg11 arg12 arg13 X_arg2 X_arg3 X_arg4 X_arg5 X_arg6 f_arg8 f_arg9 f_arg10 f_arg11 f_arg12 f_arg13
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 v0 v1 k PUnit.unit)
          (fun _ => Trip_k0_t1 (F := F) c arg2 arg3 arg4 arg5 arg6 arg8 arg9 arg10 arg11 arg12 arg13 X_arg2 X_arg3 X_arg4 X_arg5 X_arg6 (arg8.view.writes (Elt F) f_arg8 (L_arg8 f_arg8 f_arg9 f_arg10 f_arg11 f_arg12 f_arg13)) (arg9.view.writes (Elt F) f_arg9 (L_arg9 f_arg8 f_arg9 f_arg10 f_arg11 f_arg12 f_arg13)) (arg10.view.writes (Elt F) f_arg10 (L_arg10 f_arg8 f_arg9 f_arg10 f_arg11 f_arg12 f_arg13)) (arg11.view.writes (Elt F) f_arg11 (L_arg11 f_arg8 f_arg9 f_arg10 f_arg11 f_arg12 f_arg13)) (arg12.view.writes (Elt F) f_arg12 (L_arg12 f_arg8 f_arg9 f_arg10 f_arg11 f_arg12 f_arg13)) (arg13.view.writes (Elt F) f_arg13 (L_arg13 f_arg8 f_arg9 f_arg10 f_arg11 f_arg12 f_arg13))) } := by
  have hk : k.val < 10 := Nat.lt_of_lt_of_le k.isLt k0_t1_abs.2.1
  refine ⟨?_, ?_, ?_, ?_, ?_, ?_, fun E f_arg8 f_arg9 f_arg10 f_arg11 f_arg12 f_arg13 => ?run⟩
  case run =>
    unfold k0_t1_body
    iintro ⟨HR_arg2, HR_arg3, HR_arg4, HR_arg5, HR_arg6, HW_arg8, HW_arg9, HW_arg10, HW_arg11, HW_arg12, HW_arg13⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) : List (View.Piece (Elt F) S1x1x10x64x256 .bf16) × List (View.Piece (Elt F) S1x1x128x256 .f32) × List (View.Piece (Elt F) S1x1x10x64x128 .fp8e4m3) × List (View.Piece (Elt F) S1x1x10x128 .f32) × List (View.Piece (Elt F) S1x1x10x64x128 .fp8e4m3) × List (View.Piece (Elt F) S1x1x10x128 .f32) :=
  ((trip_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k).1 f_arg8 f_arg9 f_arg10 f_arg11 f_arg12 f_arg13, (trip_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k).2.1 f_arg8 f_arg9 f_arg10 f_arg11 f_arg12 f_arg13, (trip_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k).2.2.1 f_arg8 f_arg9 f_arg10 f_arg11 f_arg12 f_arg13, (trip_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k).2.2.2.1 f_arg8 f_arg9 f_arg10 f_arg11 f_arg12 f_arg13, (trip_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k).2.2.2.2.1 f_arg8 f_arg9 f_arg10 f_arg11 f_arg12 f_arg13, (trip_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k).2.2.2.2.2.1 f_arg8 f_arg9 f_arg10 f_arg11 f_arg12 f_arg13)

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (k : ℕ) (prev : List (View.Piece (Elt F) S1x1x10x64x256 .bf16) × List (View.Piece (Elt F) S1x1x128x256 .f32) × List (View.Piece (Elt F) S1x1x10x64x128 .fp8e4m3) × List (View.Piece (Elt F) S1x1x10x128 .f32) × List (View.Piece (Elt F) S1x1x10x64x128 .fp8e4m3) × List (View.Piece (Elt F) S1x1x10x128 .f32)) : List (View.Piece (Elt F) S1x1x10x64x256 .bf16) × List (View.Piece (Elt F) S1x1x128x256 .f32) × List (View.Piece (Elt F) S1x1x10x64x128 .fp8e4m3) × List (View.Piece (Elt F) S1x1x10x128 .f32) × List (View.Piece (Elt F) S1x1x10x64x128 .fp8e4m3) × List (View.Piece (Elt F) S1x1x10x128 .f32) :=
  if h : k < k0_t1_loop.trips then
    ((tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 ⟨k, h⟩ (arg8.view.writes (Elt F) G_arg8 prev.1) (arg9.view.writes (Elt F) G_arg9 prev.2.1) (arg10.view.writes (Elt F) G_arg10 prev.2.2.1) (arg11.view.writes (Elt F) G_arg11 prev.2.2.2.1) (arg12.view.writes (Elt F) G_arg12 prev.2.2.2.2.1) (arg13.view.writes (Elt F) G_arg13 prev.2.2.2.2.2)).1 ++ prev.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 ⟨k, h⟩ (arg8.view.writes (Elt F) G_arg8 prev.1) (arg9.view.writes (Elt F) G_arg9 prev.2.1) (arg10.view.writes (Elt F) G_arg10 prev.2.2.1) (arg11.view.writes (Elt F) G_arg11 prev.2.2.2.1) (arg12.view.writes (Elt F) G_arg12 prev.2.2.2.2.1) (arg13.view.writes (Elt F) G_arg13 prev.2.2.2.2.2)).2.1 ++ prev.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 ⟨k, h⟩ (arg8.view.writes (Elt F) G_arg8 prev.1) (arg9.view.writes (Elt F) G_arg9 prev.2.1) (arg10.view.writes (Elt F) G_arg10 prev.2.2.1) (arg11.view.writes (Elt F) G_arg11 prev.2.2.2.1) (arg12.view.writes (Elt F) G_arg12 prev.2.2.2.2.1) (arg13.view.writes (Elt F) G_arg13 prev.2.2.2.2.2)).2.2.1 ++ prev.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 ⟨k, h⟩ (arg8.view.writes (Elt F) G_arg8 prev.1) (arg9.view.writes (Elt F) G_arg9 prev.2.1) (arg10.view.writes (Elt F) G_arg10 prev.2.2.1) (arg11.view.writes (Elt F) G_arg11 prev.2.2.2.1) (arg12.view.writes (Elt F) G_arg12 prev.2.2.2.2.1) (arg13.view.writes (Elt F) G_arg13 prev.2.2.2.2.2)).2.2.2.1 ++ prev.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 ⟨k, h⟩ (arg8.view.writes (Elt F) G_arg8 prev.1) (arg9.view.writes (Elt F) G_arg9 prev.2.1) (arg10.view.writes (Elt F) G_arg10 prev.2.2.1) (arg11.view.writes (Elt F) G_arg11 prev.2.2.2.1) (arg12.view.writes (Elt F) G_arg12 prev.2.2.2.2.1) (arg13.view.writes (Elt F) G_arg13 prev.2.2.2.2.2)).2.2.2.2.1 ++ prev.2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 ⟨k, h⟩ (arg8.view.writes (Elt F) G_arg8 prev.1) (arg9.view.writes (Elt F) G_arg9 prev.2.1) (arg10.view.writes (Elt F) G_arg10 prev.2.2.1) (arg11.view.writes (Elt F) G_arg11 prev.2.2.2.1) (arg12.view.writes (Elt F) G_arg12 prev.2.2.2.2.1) (arg13.view.writes (Elt F) G_arg13 prev.2.2.2.2.2)).2.2.2.2.2 ++ prev.2.2.2.2.2)
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) : ℕ → List (View.Piece (Elt F) S1x1x10x64x256 .bf16) × List (View.Piece (Elt F) S1x1x128x256 .f32) × List (View.Piece (Elt F) S1x1x10x64x128 .fp8e4m3) × List (View.Piece (Elt F) S1x1x10x128 .f32) × List (View.Piece (Elt F) S1x1x10x64x128 .fp8e4m3) × List (View.Piece (Elt F) S1x1x10x128 .f32)
  | 0 => ([], [], [], [], [], [])
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k (pb_k0_t1 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k)

/-- The pieces after one more trip of the chunk loop are the pieces before it and those the trip writes. -/
theorem pb_k0_t1_succ (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 (k.val + 1)
      = ((tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.1) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.2)).1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.1) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.2)).2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.1) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.2)).2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.1) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.2)).2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.1) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.2)).2.2.2.2.1 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.1, (tripL_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).1) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.1) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.1) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.1) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.1) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.2)).2.2.2.2.2 ++ (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k.val).2.2.2.2.2) := by
  rw [pb_k0_t1.eq_2]; unfold pb_k0_t1Step; exact dif_pos k.isLt

/-- THE INVARIANT before trip `k`: arg2, arg3, arg4, arg5, arg6 read at `X_·`; arg8, arg9, arg10,
   arg11, arg12, arg13 holding the pieces of the trips before `k` written over the contents at loop
   entry `G_·` (stated `∃ f, … ∗ ⌜f = …⌝`, so that a hypothesis of any contents matches and the
   equation is what is proved). -/
abbrev inv_k0_t1 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (∃ f, (arg8.view.loc (c : Thread nD τ) ↦[arg8.view.set]{fullShare} f) ∗ ⌜f = arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k).1⌝) ∗ (∃ f, (arg9.view.loc (c : Thread nD τ) ↦[arg9.view.set]{fullShare} f) ∗ ⌜f = arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k).2.1⌝) ∗ (∃ f, (arg10.view.loc (c : Thread nD τ) ↦[arg10.view.set]{fullShare} f) ∗ ⌜f = arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k).2.2.1⌝) ∗ (∃ f, (arg11.view.loc (c : Thread nD τ) ↦[arg11.view.set]{fullShare} f) ∗ ⌜f = arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k).2.2.2.1⌝) ∗ (∃ f, (arg12.view.loc (c : Thread nD τ) ↦[arg12.view.set]{fullShare} f) ∗ ⌜f = arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k).2.2.2.2.1⌝) ∗ (∃ f, (arg13.view.loc (c : Thread nD τ) ↦[arg13.view.set]{fullShare} f) ∗ ⌜f = arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13 k).2.2.2.2.2⌝))

set_option warn.classDefReducibility false in
/-- THE LOOP BY ITS INVARIANT (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (v0 : IVec S64x64 32) (v1 : IVec S64x64 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v0 v1 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 G_arg8 G_arg9 G_arg10 G_arg11 G_arg12 G_arg13
  step k acc := by
    iintro ⟨HR_arg2, HR_arg3, HR_arg4, HR_arg5, HR_arg6, ⟨%f_arg8, HW_arg8, %h_arg8⟩, ⟨%f_arg9, HW_arg9, %h_arg9⟩, ⟨%f_arg10, HW_arg10, %h_arg10⟩, ⟨%f_arg11, HW_arg11, %h_arg11⟩, ⟨%f_arg12, HW_arg12, %h_arg12⟩, ⟨%f_arg13, HW_arg13, %h_arg13⟩⟩
    iapply (wp_wand_r Idealize.ShloMosaic.frame (wpE (defs₀ (F := F)) 𝒱 (c : Thread nD τ) bd) E)
    isplitl [HR_arg2 HR_arg3 HR_arg4 HR_arg5 HR_arg6 HW_arg8 HW_arg9 HW_arg10 HW_arg11 HW_arg12 HW_arg13]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 v0 v1 X_arg2 X_arg3 X_arg4 X_arg5 X_arg6 k).2.2.2.2.2.2 E f_arg8 f_arg9 f_arg10 f_arg11 f_arg12 f_arg13)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HW_arg8]; · iexact HW_arg8
      isplitl [HW_arg9]; · iexact HW_arg9
      isplitl [HW_arg10]; · iexact HW_arg10
      isplitl [HW_arg11]; · iexact HW_arg11
      isplitl [HW_arg12]; · iexact HW_arg12
      iexact HW_arg13
    · iintro %_ ⟨HR_arg2, HR_arg3, HR_arg4, HR_arg5, HR_arg6, HW_arg8, HW_arg9, HW_arg10, HW_arg11, HW_arg12, HW_arg13⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      rw [pb_k0_t1_succ]
      isplitl [HW_arg8]
      · iexists _; isplitl [HW_arg8]; · iexact HW_arg8
        ipureintro; rw [h_arg8, h_arg9, h_arg10, h_arg11, h_arg12, h_arg13, ← View.writes_append]
      isplitl [HW_arg9]
      · iexists _; isplitl [HW_arg9]; · iexact HW_arg9
        ipureintro; rw [h_arg8, h_arg9, h_arg10, h_arg11, h_arg12, h_arg13, ← View.writes_append]
      isplitl [HW_arg10]
      · iexists _; isplitl [HW_arg10]; · iexact HW_arg10
        ipureintro; rw [h_arg8, h_arg9, h_arg10, h_arg11, h_arg12, h_arg13, ← View.writes_append]
      isplitl [HW_arg11]
      · iexists _; isplitl [HW_arg11]; · iexact HW_arg11
        ipureintro; rw [h_arg8, h_arg9, h_arg10, h_arg11, h_arg12, h_arg13, ← View.writes_append]
      isplitl [HW_arg12]
      · iexists _; isplitl [HW_arg12]; · iexact HW_arg12
        ipureintro; rw [h_arg8, h_arg9, h_arg10, h_arg11, h_arg12, h_arg13, ← View.writes_append]
      iexists _; isplitl [HW_arg13]; · iexact HW_arg13
      ipureintro; rw [h_arg8, h_arg9, h_arg10, h_arg11, h_arg12, h_arg13, ← View.writes_append]

end Cert.KernelIdeal.Gen

end
-- ==== Proof.IdealRuns.lean ====
/- What the pipeline of the kernel needs around the body: the arrays at launch, the blocks of each grid point, the
   host operations before and after the region. -/
module

public import proofs.«01_k».proof.Proof.Gen.KernelIdeal.Launch
public import proofs.«01_k».proof.Proof.Gen.KernelIdeal.Skeleton
public import proofs.«01_k».proof.Proof.IdealLoops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations before the region allocate nothing. -/
theorem hostOps0_fresh : (hostOps0 : List (HloOp τ sig (Elt F))).Forall fun op => op.fresh = ∅ := by
  simp only [List.Forall]; repeat' constructor
/-- The host operations after the region allocate nothing. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 288000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v13, main_v14, main_v15, main_v16, main_v17, main_v18, main_v19, main_v20, main_v21, main_v22, main_v23, main_v24}
/-- What the host operations after the region write. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      (Pipeline.RDat.FramePostR.arr_in h c 5 rfl).trans ((hA c 5).trans (V_main_arg5 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x1x10x64x128 .bf16 := win0_0.stage (cfg0.slots t 0)
/-- That staging buffer is a whole buffer (queries window). -/
abbrev hs0_0 (t : Fin cfg0.N) : (ms0_0 t).IsWhole := hstage0_0 ((cfg0.slots t 0).cast nbuf0_0)
/-- The staging buffer of the keys window at a grid point. -/
abbrev ms0_1 (t : Fin cfg0.N) : Memref sig .tc .vmem S1x1x10x64x128 .bf16 := win0_1.stage (cfg0.slots t 1)
/-- That staging buffer is a whole buffer (keys window). -/
abbrev hs0_1 (t : Fin cfg0.N) : (ms0_1 t).IsWhole := hstage0_1 ((cfg0.slots t 1).cast nbuf0_1)
/-- The staging buffer of the values window at a grid point. -/
abbrev ms0_2 (t : Fin cfg0.N) : Memref sig .tc .vmem S1x1x10x64x256 .bf16 := win0_2.stage (cfg0.slots t 2)
/-- That staging buffer is a whole buffer (values window). -/
abbrev hs0_2 (t : Fin cfg0.N) : (ms0_2 t).IsWhole := hstage0_2 ((cfg0.slots t 2).cast nbuf0_2)
/-- The staging buffer of the decays window at a grid point. -/
abbrev ms0_3 (t : Fin cfg0.N) : Memref sig .tc .vmem S1x1x10x64 .f32 := win0_3.stage (cfg0.slots t 3)
/-- That staging buffer is a whole buffer (decays window). -/
abbrev hs0_3 (t : Fin cfg0.N) : (ms0_3 t).IsWhole := hstage0_3 ((cfg0.slots t 3).cast nbuf0_3)
/-- The staging buffer of the write strengths window at a grid point. -/
abbrev ms0_4 (t : Fin cfg0.N) : Memref sig .tc .vmem S1x1x10x64 .f32 := win0_4.stage (cfg0.slots t 4)
/-- That staging buffer is a whole buffer (write strengths window). -/
abbrev hs0_4 (t : Fin cfg0.N) : (ms0_4 t).IsWhole := hstage0_4 ((cfg0.slots t 4).cast nbuf0_4)
/-- The staging buffer of the initial state window at a grid point. -/
abbrev ms0_5 (t : Fin cfg0.N) : Memref sig .tc .vmem S1x1x128x256 .f32 := win0_5.stage (cfg0.slots t 5)
/-- That staging buffer is a whole buffer (initial state window). -/
abbrev hs0_5 (t : Fin cfg0.N) : (ms0_5 t).IsWhole := hstage0_5 ((cfg0.slots t 5).cast nbuf0_5)
/-- The staging buffer of the output window at a grid point. -/
abbrev ms0_6 (t : Fin cfg0.N) : Memref sig .tc .vmem S1x1x10x64x256 .bf16 := win0_6.stage (cfg0.slots t 6)
/-- That staging buffer is a whole buffer (output window). -/
abbrev hs0_6 (t : Fin cfg0.N) : (ms0_6 t).IsWhole := hstage0_6 ((cfg0.slots t 6).cast nbuf0_6)
/-- The staging buffer of the final state window at a grid point. -/
abbrev ms0_7 (t : Fin cfg0.N) : Memref sig .tc .vmem S1x1x128x256 .f32 := win0_7.stage (cfg0.slots t 7)
/-- That staging buffer is a whole buffer (final state window). -/
abbrev hs0_7 (t : Fin cfg0.N) : (ms0_7 t).IsWhole := hstage0_7 ((cfg0.slots t 7).cast nbuf0_7)
/-- The staging buffer of the key codes window at a grid point. -/
abbrev ms0_8 (t : Fin cfg0.N) : Memref sig .tc .vmem S1x1x10x64x128 .fp8e4m3 := win0_8.stage (cfg0.slots t 8)
/-- That staging buffer is a whole buffer (key codes window). -/
abbrev hs0_8 (t : Fin cfg0.N) : (ms0_8 t).IsWhole := hstage0_8 ((cfg0.slots t 8).cast nbuf0_8)
/-- The staging buffer of the key scales window at a grid point. -/
abbrev ms0_9 (t : Fin cfg0.N) : Memref sig .tc .vmem S1x1x10x128 .f32 := win0_9.stage (cfg0.slots t 9)
/-- That staging buffer is a whole buffer (key scales window). -/
abbrev hs0_9 (t : Fin cfg0.N) : (ms0_9 t).IsWhole := hstage0_9 ((cfg0.slots t 9).cast nbuf0_9)
/-- The staging buffer of the query codes window at a grid point. -/
abbrev ms0_10 (t : Fin cfg0.N) : Memref sig .tc .vmem S1x1x10x64x128 .fp8e4m3 := win0_10.stage (cfg0.slots t 10)
/-- That staging buffer is a whole buffer (query codes window). -/
abbrev hs0_10 (t : Fin cfg0.N) : (ms0_10 t).IsWhole := hstage0_10 ((cfg0.slots t 10).cast nbuf0_10)
/-- The staging buffer of the query scales window at a grid point. -/
abbrev ms0_11 (t : Fin cfg0.N) : Memref sig .tc .vmem S1x1x10x128 .f32 := win0_11.stage (cfg0.slots t 11)
/-- That staging buffer is a whole buffer (query scales window). -/
abbrev hs0_11 (t : Fin cfg0.N) : (ms0_11 t).IsWhole := hstage0_11 ((cfg0.slots t 11).cast nbuf0_11)

end Cert.KernelIdeal.Gen

end
-- ==== Proof.IdealBlocks.lean ====
/- What one trip of the chunk loop computes, as functions of the chunk's blocks and of the state it finds, and what the
   whole body leaves in its six output buffers. -/
module

public import proofs.«01_k».proof.Proof.IdealLoops
public import Idealize.ShloMosaic.Lib.ValueIdx
public import Idealize.ShloMosaic.Lib.WritesUnit
public import Idealize.ShloMosaic.Lib.Pipeline.FrameBody

@[expose] public section

set_option maxRecDepth 16384

noncomputable section

namespace Cert.KernelIdeal.Gen

open Idealize.ShloMosaic Idealize.ShloMosaic.TcCoe Idealize.ShloMosaic.Tactic
open Idealize.ShloMosaic.ValueIdx

variable {F : FTy → Type} [FloatOps F]

/-- The row and the column number of each entry of a chunk's square. -/
abbrev rowV : IVec S64x64 32 := iota .tc S64x64 32 [0] iota_S64x64_d0_w32
/-- The column of each entry of a square matrix over the chunk's positions. -/
abbrev colV : IVec S64x64 32 := iota .tc S64x64 32 [1] iota_S64x64_d1_w32

/-- One chunk's block of a windowed input. -/
def blkQK (x : Vec F S1x1x10x64x128 .bf16) (k : Fin k0_t1_loop.trips) : Vec F S1x1x1x64x128 .bf16 :=
  View.ld (Val := Elt F) (e' := .bf16) x (Rect.unit (s := S1x1x10x64x128) (k0_off1 k) S1x1x1x64x128.size (k0_off1_inb k))
/-- Chunk `k` of the values block. -/
def blkV (x : Vec F S1x1x10x64x256 .bf16) (k : Fin k0_t1_loop.trips) : Vec F S1x1x1x64x256 .bf16 :=
  View.ld (Val := Elt F) (e' := .bf16) x (Rect.unit (s := S1x1x10x64x256) (k0_off4 k) S1x1x1x64x256.size (k0_off4_inb k))
/-- Chunk `k` of a block of decays or write strengths. -/
def blkG (x : Vec F S1x1x10x64 .f32) (k : Fin k0_t1_loop.trips) : Vec F S1x1x1x64 .f32 :=
  View.ld (Val := Elt F) (e' := .f32) x (Rect.unit (s := S1x1x10x64) (k0_off3 k) S1x1x1x64.size (k0_off3_inb k))
/-- The state as a load of its whole buffer returns it. -/
def blkS (x : Vec F S1x1x128x256 .f32) : Vec F S1x1x128x256 .f32 :=
  View.ld (Val := Elt F) (e' := .f32) x (Rect.unit (s := S1x1x128x256) ![0, 0, 0, 0] S1x1x128x256.size inb_S1x1x128x256_S1x1x128x256_0_0_0_0)

/-- The scale of a chunk's keys, their codes, and the reciprocal of the norm of each row; the same of its queries. -/
def kScale (kb : Vec F S1x1x1x64x128 .bf16) : FVec F S1x1 .f32 := k0_pay14 (k0_pay10 kb) (k0_pay11 kb) (k0_pay12 kb) 16#32
/-- The key codes of a chunk. -/
def kCode (kb : Vec F S1x1x1x64x128 .bf16) : FVec F S64x128 .fp8e4m3 :=
  k0_pay16 (k0_pay8 kb) (k0_pay15 (k0_pay10 kb) (k0_pay11 kb) (k0_pay12 kb) 16#32)
/-- The reciprocal norms of the chunk's keys. -/
def kNorm (kb : Vec F S1x1x1x64x128 .bf16) : FVec F S64x1 .f32 := k0_pay30 (k0_pay8 kb)
/-- The scale of the chunk's queries. -/
def qScale (qb : Vec F S1x1x1x64x128 .bf16) : FVec F S1x1 .f32 :=
  k0_pay23 (k0_pay17 (k0_pay9 qb)) (k0_pay18 (k0_pay9 qb)) (k0_pay19 (k0_pay9 qb)) (k0_pay20 (k0_pay9 qb)) k0_pay21
/-- The inverse scale of the chunk's queries. -/
def qInv (qb : Vec F S1x1x1x64x128 .bf16) : FVec F S1x1 .f32 :=
  k0_pay24 (k0_pay17 (k0_pay9 qb)) (k0_pay18 (k0_pay9 qb)) (k0_pay19 (k0_pay9 qb)) (k0_pay20 (k0_pay9 qb)) k0_pay21
/-- The query codes of a chunk. -/
def qCode (qb : Vec F S1x1x1x64x128 .bf16) : FVec F S64x128 .fp8e4m3 := k0_pay25 (k0_pay9 qb) (qInv qb)
/-- The reciprocal norms of the chunk's queries. -/
def qNorm (qb : Vec F S1x1x1x64x128 .bf16) : FVec F S64x1 .f32 := k0_pay32 (k0_pay31 (k0_pay9 qb)) (Scalar.ofBits .f32 897988541#32)
/-- beta as a column, the running sums of g as a column. -/
def betaC (bb : Vec F S1x1x1x64 .f32) : FVec F S64x1 .f32 := k0_pay33 k0_pay4 bb
/-- The running sums of the log decays, as a column. -/
def gC (gb : Vec F S1x1x1x64 .f32) : FVec F S64x1 .f32 := k0_pay34 k0_pay3 gb
/-- The products of keys with keys and of queries with keys, the decays between positions, the strictly lower triangle of the
system and the inverse of the system. -/
def kkM (kb : Vec F S1x1x1x64x128 .bf16) : FVec F S64x64 .f32 := k0_pay36 k0_pay4 (kScale kb) (kCode kb) (kNorm kb)
/-- The products of normalised queries and keys. -/
def qkM (qb kb : Vec F S1x1x1x64x128 .bf16) : FVec F S64x64 .f32 :=
  k0_pay37 k0_pay4 (kScale kb) (kCode kb) (qScale qb) (qCode qb) (kNorm kb) (k0_pay31 (k0_pay9 qb)) (Scalar.ofBits .f32 897988541#32)
/-- The differences of running sums. -/
def diffM (gb : Vec F S1x1x1x64 .f32) : FVec F S64x64 .f32 := k0_pay38 k0_pay3 k0_pay4 gb
/-- The decays between positions. -/
def decM (gb : Vec F S1x1x1x64 .f32) : FVec F S64x64 .f32 := k0_pay39 k0_pay1 (diffM gb) (Scalar.ofBits .f32 0#32)
/-- The strictly lower triangular system. -/
def sysM (kb : Vec F S1x1x1x64x128 .bf16) (gb bb : Vec F S1x1x1x64 .f32) : FVec F S64x64 .f32 :=
  k0_pay40 k0_pay1 k0_pay2 (betaC bb) (kkM kb) (diffM gb) (Scalar.ofBits .f32 0#32)
/-- The system's inverse after blocks of 4. -/
def inv3 (kb : Vec F S1x1x1x64x128 .bf16) (gb bb : Vec F S1x1x1x64 .f32) : FVec F S64x64 .f32 :=
  k0_pay41 rowV colV k0_pay1 k0_pay2 k0_pay4 (betaC bb) (kkM kb) (diffM gb) (Scalar.ofBits .f32 0#32)
/-- The system's inverse after blocks of 16. -/
def inv5 (kb : Vec F S1x1x1x64x128 .bf16) (gb bb : Vec F S1x1x1x64 .f32) : FVec F S64x64 .f32 :=
  k0_pay44 rowV colV (sysM kb gb bb) (inv3 kb gb bb) (k0_pay42 rowV) (k0_pay43 colV)
/-- The system's inverse. -/
def inv6 (kb : Vec F S1x1x1x64x128 .bf16) (gb bb : Vec F S1x1x1x64 .f32) : FVec F S64x64 .f32 :=
  k0_pay46 rowV colV (sysM kb gb bb) (inv5 kb gb bb)
    (k0_pay45 rowV colV (sysM kb gb bb) (inv3 kb gb bb) (k0_pay42 rowV) (k0_pay43 colV))
/-- The normalised keys and queries. -/
def knM (kb : Vec F S1x1x1x64x128 .bf16) : FVec F S64x128 .f32 := k0_pay47 (kScale kb) (kCode kb) (kNorm kb)
/-- The normalised and scaled queries. -/
def qnM (qb : Vec F S1x1x1x64x128 .bf16) : FVec F S64x128 .f32 := k0_pay48 (qScale qb) (qCode qb) (qNorm qb)
/-- The right-hand side of the system before it is scaled by beta. -/
def rhsM (kb : Vec F S1x1x1x64x128 .bf16) (vb : Vec F S1x1x1x64x256 .bf16) (gb : Vec F S1x1x1x64 .f32) (st : Vec F S1x1x128x256 .f32) :
    FVec F S64x256 .f32 := k0_pay51 (kScale kb) (kCode kb) (kNorm kb) (gC gb) vb (blkS st)

/-- The chunk's part of the output, given the state before the chunk. -/
def oStep (qb kb : Vec F S1x1x1x64x128 .bf16) (vb : Vec F S1x1x1x64x256 .bf16) (gb bb : Vec F S1x1x1x64 .f32)
    (st : Vec F S1x1x128x256 .f32) : FVec F S1x1x1x64x256 .bf16 :=
  k0_pay6 (qkM qb kb) (decM gb) (inv6 kb gb bb) (qnM qb) (k0_pay49 (gC gb)) (k0_pay50 (blkS st)) (rhsM kb vb gb st) (k0_pay52 (betaC bb))
/-- The state after a chunk, given the state before it. -/
def sStep (kb : Vec F S1x1x1x64x128 .bf16) (vb : Vec F S1x1x1x64x256 .bf16) (gb bb : Vec F S1x1x1x64 .f32)
    (st : Vec F S1x1x128x256 .f32) : Vec F S1x1x128x256 .f32 :=
  k0_pay7 (gC gb) (inv6 kb gb bb) (knM kb) (k0_pay50 (blkS st)) (rhsM kb vb gb st) (k0_pay52 (betaC bb))

/-- The state before chunk `n`. -/
def stAt (x1 : Vec F S1x1x10x64x128 .bf16) (x2 : Vec F S1x1x10x64x256 .bf16) (x3 x4 : Vec F S1x1x10x64 .f32) (x5 : Vec F S1x1x128x256 .f32) :
    ℕ → Vec F S1x1x128x256 .f32
  | 0 => x5
  | n + 1 => if h : n < k0_t1_loop.trips then
      sStep (blkQK x1 ⟨n, h⟩) (blkV x2 ⟨n, h⟩) (blkG x3 ⟨n, h⟩) (blkG x4 ⟨n, h⟩) (stAt x1 x2 x3 x4 x5 n)
    else stAt x1 x2 x3 x4 x5 n

/-- Reading the whole state block gives it back. -/
theorem blkS_eq (x : Vec F S1x1x128x256 .f32) : blkS x = x := by
  funext y
  refine congrArg x (funext fun a => Fin.ext ?_)
  fin_cases a <;> exact (Nat.zero_add _).trans (Nat.one_mul _)

/-- The chunk loop makes ten trips. -/
theorem trips_eq : k0_t1_loop.trips = 10 := by decide

/-- What the body leaves in the output's buffer, the state's, the codes' and the scales'. -/
def out8 (x0 x1 : Vec F S1x1x10x64x128 .bf16) (x2 : Vec F S1x1x10x64x256 .bf16) (x3 x4 : Vec F S1x1x10x64 .f32) (x5 : Vec F S1x1x128x256 .f32) :
    Vec F S1x1x10x64x256 .bf16 := fun y =>
  oStep (blkQK x0 ⟨(y 2).val, trips_eq ▸ (y 2).isLt⟩) (blkQK x1 ⟨(y 2).val, trips_eq ▸ (y 2).isLt⟩) (blkV x2 ⟨(y 2).val, trips_eq ▸ (y 2).isLt⟩)
    (blkG x3 ⟨(y 2).val, trips_eq ▸ (y 2).isLt⟩) (blkG x4 ⟨(y 2).val, trips_eq ▸ (y 2).isLt⟩) (stAt x1 x2 x3 x4 x5 (y 2).val) (ix5 0 0 0 (y 3) (y 4))
/-- What the body leaves in the final-state buffer. -/
def out9 (x1 : Vec F S1x1x10x64x128 .bf16) (x2 : Vec F S1x1x10x64x256 .bf16) (x3 x4 : Vec F S1x1x10x64 .f32) (x5 : Vec F S1x1x128x256 .f32) :
    Vec F S1x1x128x256 .f32 := stAt x1 x2 x3 x4 x5 10
/-- What the body leaves in the key-code buffer. -/
def out10 (x1 : Vec F S1x1x10x64x128 .bf16) : Vec F S1x1x10x64x128 .fp8e4m3 := fun y =>
  k0_pay26 (kCode (blkQK x1 ⟨(y 2).val, trips_eq ▸ (y 2).isLt⟩)) (ix5 0 0 0 (y 3) (y 4))
/-- What the body leaves in the key-scale buffer. -/
def out11 (x1 : Vec F S1x1x10x64x128 .bf16) : Vec F S1x1x10x128 .f32 := fun y =>
  k0_pay28 (kScale (blkQK x1 ⟨(y 2).val, trips_eq ▸ (y 2).isLt⟩)) (ix4 0 0 0 (y 3))
/-- What the body leaves in the query-code buffer. -/
def out12 (x0 : Vec F S1x1x10x64x128 .bf16) : Vec F S1x1x10x64x128 .fp8e4m3 := fun y =>
  k0_pay27 (k0_pay9 (blkQK x0 ⟨(y 2).val, trips_eq ▸ (y 2).isLt⟩)) (qInv (blkQK x0 ⟨(y 2).val, trips_eq ▸ (y 2).isLt⟩)) (ix5 0 0 0 (y 3) (y 4))
/-- What the body leaves in the query-scale buffer. -/
def out13 (x0 : Vec F S1x1x10x64x128 .bf16) : Vec F S1x1x10x128 .f32 := fun y =>
  k0_pay29 (qScale (blkQK x0 ⟨(y 2).val, trips_eq ▸ (y 2).isLt⟩)) (ix4 0 0 0 (y 3))

/-- Trip `k` reads keys and queries and writes their codes at chunk `k`. -/
theorem off1_eq (k : Fin k0_t1_loop.trips) : k0_off1 k = ![0, 0, k.val, 0, 0] := by revert k; decide
/-- Trip `k` writes its scales at row `k`. -/
theorem off2_eq (k : Fin k0_t1_loop.trips) : k0_off2 k = ![0, 0, k.val, 0] := by revert k; decide
/-- Trip `k` reads its decays and write strengths at row `k`. -/
theorem off3_eq (k : Fin k0_t1_loop.trips) : k0_off3 k = ![0, 0, k.val, 0] := by revert k; decide
/-- Trip `k` reads values and writes outputs at chunk `k`. -/
theorem off4_eq (k : Fin k0_t1_loop.trips) : k0_off4 k = ![0, 0, k.val, 0, 0] := by revert k; decide

/-- A piece of extent one along axis `a` put in front of pieces that already hold the positions before it. -/
theorem read_put_step {sig' : RefSig} {κ : Kind} {sp : Space} {s : Shape} {e : EltTy} {Val : EltTy → Type} (v : View sig' κ sp s e)
    (f : v.ty.Contents Val) {off off' size : Fin s.rank → ℕ} (inb : ∀ a, off a + size a ≤ s.size a)
    (w : (Rect.unit off size inb).shape.Idx → Val e) (L : List (View.Piece Val s e)) (heq : off = off') (a : Fin s.rank) (n : ℕ)
    (hn : off' a = n) (hs : size a = 1) (out : s.Idx → Val e)
    (hin : ∀ y : s.Idx, (y a).val = n → ∃ x : (Rect.unit off size inb).shape.Idx, (∀ b, (y b).val = off' b + (x b).val) ∧ w x = out y)
    (hL : ∀ y : s.Idx, (y a).val < n → v.read Val (v.writes Val f L) y = out y) :
    ∀ y : s.Idx, (y a).val < n + 1 → v.read Val (v.writes Val f ((⟨Rect.unit off size inb, w⟩ : View.Piece Val s e) :: L)) y = out y := by
  intro y hy
  rcases Nat.lt_succ_iff_lt_or_eq.mp hy with h | h
  · rw [View.read_writes_cons_unit_of_not_mem v f inb w L y heq a (Or.inl (by omega)), hL y h]
  · obtain ⟨x, hx, hw⟩ := hin y h
    rw [View.read_writes_cons_unit_of_mem v f inb w L y x heq hx, hw]

end Cert.KernelIdeal.Gen

end
-- ==== Proof.IdealPieces.lean ====
/- The pieces one trip of the chunk loop writes, and what the pieces of all the trips read back as. -/
module

public import proofs.«01_k».proof.Proof.IdealBlocks

@[expose] public section

set_option maxRecDepth 16384

noncomputable section

namespace Cert.KernelIdeal.Gen

open Idealize.ShloMosaic Idealize.ShloMosaic.TcCoe Idealize.ShloMosaic.Tactic
open Idealize.ShloMosaic.ValueIdx

variable {F : FTy → Type} [FloatOps F]

/-- The piece a trip writes into argument 8. -/
theorem trip_arg8 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 k).1 f_arg8 f_arg9 f_arg10 f_arg11 f_arg12 f_arg13 = [⟨Rect.unit (s := S1x1x10x64x256) (k0_off4 k) S1x1x1x64x256.size (k0_off4_inb k), oStep (blkQK (arg2.view.read (Elt F) X_arg2) k) (blkQK (arg3.view.read (Elt F) X_arg3) k) (blkV (arg4.view.read (Elt F) X_arg4) k) (blkG (arg5.view.read (Elt F) X_arg5) k) (blkG (arg6.view.read (Elt F) X_arg6) k) (arg9.view.read (Elt F) f_arg9)⟩] := by
  unfold trip_k0_t1; rfl

/-- The piece a trip writes into argument 9. -/
theorem trip_arg9 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 k).2.1 f_arg8 f_arg9 f_arg10 f_arg11 f_arg12 f_arg13 = [⟨Rect.unit (s := S1x1x128x256) ![0, 0, 0, 0] S1x1x128x256.size inb_S1x1x128x256_S1x1x128x256_0_0_0_0, sStep (blkQK (arg3.view.read (Elt F) X_arg3) k) (blkV (arg4.view.read (Elt F) X_arg4) k) (blkG (arg5.view.read (Elt F) X_arg5) k) (blkG (arg6.view.read (Elt F) X_arg6) k) (arg9.view.read (Elt F) f_arg9)⟩] := by
  unfold trip_k0_t1; rfl

/-- The piece a trip writes into argument 10. -/
theorem trip_arg10 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 k).2.2.1 f_arg8 f_arg9 f_arg10 f_arg11 f_arg12 f_arg13 = [⟨Rect.unit (s := S1x1x10x64x128) (k0_off1 k) S1x1x1x64x128.size (k0_off1_inb k), k0_pay26 (kCode (blkQK (arg3.view.read (Elt F) X_arg3) k))⟩] := by
  unfold trip_k0_t1; rfl

/-- The piece a trip writes into argument 11. -/
theorem trip_arg11 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 k).2.2.2.1 f_arg8 f_arg9 f_arg10 f_arg11 f_arg12 f_arg13 = [⟨Rect.unit (s := S1x1x10x128) (k0_off2 k) S1x1x1x128.size (k0_off2_inb k), k0_pay28 (kScale (blkQK (arg3.view.read (Elt F) X_arg3) k))⟩] := by
  unfold trip_k0_t1; rfl

/-- The piece a trip writes into argument 12. -/
theorem trip_arg12 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 k).2.2.2.2.1 f_arg8 f_arg9 f_arg10 f_arg11 f_arg12 f_arg13 = [⟨Rect.unit (s := S1x1x10x64x128) (k0_off1 k) S1x1x1x64x128.size (k0_off1_inb k), k0_pay27 (k0_pay9 (blkQK (arg2.view.read (Elt F) X_arg2) k)) (qInv (blkQK (arg2.view.read (Elt F) X_arg2) k))⟩] := by
  unfold trip_k0_t1; rfl

/-- The piece a trip writes into argument 13. -/
theorem trip_arg13 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (f_arg8 : BufTy.Contents (Elt F) arg8.view.ty) (f_arg9 : BufTy.Contents (Elt F) arg9.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 k).2.2.2.2.2.1 f_arg8 f_arg9 f_arg10 f_arg11 f_arg12 f_arg13 = [⟨Rect.unit (s := S1x1x10x128) (k0_off2 k) S1x1x1x128.size (k0_off2_inb k), k0_pay29 (qScale (blkQK (arg2.view.read (Elt F) X_arg2) k))⟩] := by
  unfold trip_k0_t1; rfl

/-- The state's buffer before trip `n` reads the state before chunk `n`. -/
theorem pb_arg9 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (n : ℕ) (hn : n ≤ k0_t1_loop.trips) :
    arg9.view.read (Elt F) (arg9.view.writes (Elt F) G_arg9 (pb_k0_t1 (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 G_arg8 G_arg9 G_arg10 G_arg11 G_arg12 G_arg13 n).2.1) = stAt (arg3.view.read (Elt F) X_arg3) (arg4.view.read (Elt F) X_arg4) (arg5.view.read (Elt F) X_arg5) (arg6.view.read (Elt F) X_arg6) (arg9.view.read (Elt F) G_arg9) (n) := by
  induction n with
  | zero => rfl
  | succ n ih =>
    have hlt : n < k0_t1_loop.trips := hn
    rw [pb_k0_t1_succ (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 G_arg8 G_arg9 G_arg10 G_arg11 G_arg12 G_arg13 ⟨n, hlt⟩]
    dsimp only [tripL_k0_t1]
    rw [trip_arg9]
    funext y
    rw [List.cons_append, List.nil_append]
    refine (View.read_writes_cons_unit_of_mem arg9.view G_arg9 (off' := ![0, 0, 0, 0]) _ _ _ y y rfl
      (fun a => by fin_cases a <;> exact (Nat.zero_add _).symm)).trans ?_
    rw [ih (Nat.le_of_lt hlt), stAt, dif_pos hlt]

/-- The buffer of argument 8 before trip `n` holds the chunks before `n`. -/
theorem pb_arg8 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (n : ℕ) (hn : n ≤ k0_t1_loop.trips) :
    ∀ y, (y 2).val < n → arg8.view.read (Elt F) (arg8.view.writes (Elt F) G_arg8 (pb_k0_t1 (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 G_arg8 G_arg9 G_arg10 G_arg11 G_arg12 G_arg13 n).1) y = out8 (arg2.view.read (Elt F) X_arg2) (arg3.view.read (Elt F) X_arg3) (arg4.view.read (Elt F) X_arg4) (arg5.view.read (Elt F) X_arg5) (arg6.view.read (Elt F) X_arg6) (arg9.view.read (Elt F) G_arg9) y := by
  induction n with
  | zero => exact fun y h => absurd h (Nat.not_lt_zero _)
  | succ n ih =>
    have hlt : n < k0_t1_loop.trips := hn
    rw [pb_k0_t1_succ (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 G_arg8 G_arg9 G_arg10 G_arg11 G_arg12 G_arg13 ⟨n, hlt⟩]
    dsimp only [tripL_k0_t1]
    rw [trip_arg8, List.cons_append, List.nil_append]
    rw [pb_arg9 𝒱 c bd i arg2 harg2 arg3 harg3 arg4 harg4 arg5 harg5 arg6 harg6 arg7 harg7 arg8 harg8 arg9 harg9 arg10 harg10 arg11 harg11 arg12 harg12 arg13 harg13 X_arg2 X_arg3 X_arg4 X_arg5 X_arg6 G_arg8 G_arg9 G_arg10 G_arg11 G_arg12 G_arg13 n (Nat.le_of_lt hlt)]
    refine read_put_step arg8.view G_arg8 _ _ _ (off4_eq ⟨n, hlt⟩) 2 n rfl rfl _ ?_ (ih (Nat.le_of_lt hlt))
    intro y hy
    subst hy
    refine ⟨(ix5 0 0 0 (y 3) (y 4)), ?_, rfl⟩
    intro b
    have h0 : (y 0).val = 0 := Nat.lt_one_iff.mp (y 0).isLt
    have h1 : (y 1).val = 0 := Nat.lt_one_iff.mp (y 1).isLt
    fin_cases b
    · exact h0
    · exact h1
    · rfl
    · exact (Nat.zero_add _).symm
    · exact (Nat.zero_add _).symm

/-- The buffer of argument 10 before trip `n` holds the chunks before `n`. -/
theorem pb_arg10 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (n : ℕ) (hn : n ≤ k0_t1_loop.trips) :
    ∀ y, (y 2).val < n → arg10.view.read (Elt F) (arg10.view.writes (Elt F) G_arg10 (pb_k0_t1 (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 G_arg8 G_arg9 G_arg10 G_arg11 G_arg12 G_arg13 n).2.2.1) y = out10 (arg3.view.read (Elt F) X_arg3) y := by
  induction n with
  | zero => exact fun y h => absurd h (Nat.not_lt_zero _)
  | succ n ih =>
    have hlt : n < k0_t1_loop.trips := hn
    rw [pb_k0_t1_succ (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 G_arg8 G_arg9 G_arg10 G_arg11 G_arg12 G_arg13 ⟨n, hlt⟩]
    dsimp only [tripL_k0_t1]
    rw [trip_arg10, List.cons_append, List.nil_append]
    refine read_put_step arg10.view G_arg10 _ _ _ (off1_eq ⟨n, hlt⟩) 2 n rfl rfl _ ?_ (ih (Nat.le_of_lt hlt))
    intro y hy
    subst hy
    refine ⟨(ix5 0 0 0 (y 3) (y 4)), ?_, rfl⟩
    intro b
    have h0 : (y 0).val = 0 := Nat.lt_one_iff.mp (y 0).isLt
    have h1 : (y 1).val = 0 := Nat.lt_one_iff.mp (y 1).isLt
    fin_cases b
    · exact h0
    · exact h1
    · rfl
    · exact (Nat.zero_add _).symm
    · exact (Nat.zero_add _).symm

/-- The buffer of argument 11 before trip `n` holds the chunks before `n`. -/
theorem pb_arg11 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (n : ℕ) (hn : n ≤ k0_t1_loop.trips) :
    ∀ y, (y 2).val < n → arg11.view.read (Elt F) (arg11.view.writes (Elt F) G_arg11 (pb_k0_t1 (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 G_arg8 G_arg9 G_arg10 G_arg11 G_arg12 G_arg13 n).2.2.2.1) y = out11 (arg3.view.read (Elt F) X_arg3) y := by
  induction n with
  | zero => exact fun y h => absurd h (Nat.not_lt_zero _)
  | succ n ih =>
    have hlt : n < k0_t1_loop.trips := hn
    rw [pb_k0_t1_succ (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 G_arg8 G_arg9 G_arg10 G_arg11 G_arg12 G_arg13 ⟨n, hlt⟩]
    dsimp only [tripL_k0_t1]
    rw [trip_arg11, List.cons_append, List.nil_append]
    refine read_put_step arg11.view G_arg11 _ _ _ (off2_eq ⟨n, hlt⟩) 2 n rfl rfl _ ?_ (ih (Nat.le_of_lt hlt))
    intro y hy
    subst hy
    refine ⟨(ix4 0 0 0 (y 3)), ?_, rfl⟩
    intro b
    have h0 : (y 0).val = 0 := Nat.lt_one_iff.mp (y 0).isLt
    have h1 : (y 1).val = 0 := Nat.lt_one_iff.mp (y 1).isLt
    fin_cases b
    · exact h0
    · exact h1
    · rfl
    · exact (Nat.zero_add _).symm

/-- The buffer of argument 12 before trip `n` holds the chunks before `n`. -/
theorem pb_arg12 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (n : ℕ) (hn : n ≤ k0_t1_loop.trips) :
    ∀ y, (y 2).val < n → arg12.view.read (Elt F) (arg12.view.writes (Elt F) G_arg12 (pb_k0_t1 (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 G_arg8 G_arg9 G_arg10 G_arg11 G_arg12 G_arg13 n).2.2.2.2.1) y = out12 (arg2.view.read (Elt F) X_arg2) y := by
  induction n with
  | zero => exact fun y h => absurd h (Nat.not_lt_zero _)
  | succ n ih =>
    have hlt : n < k0_t1_loop.trips := hn
    rw [pb_k0_t1_succ (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 G_arg8 G_arg9 G_arg10 G_arg11 G_arg12 G_arg13 ⟨n, hlt⟩]
    dsimp only [tripL_k0_t1]
    rw [trip_arg12, List.cons_append, List.nil_append]
    refine read_put_step arg12.view G_arg12 _ _ _ (off1_eq ⟨n, hlt⟩) 2 n rfl rfl _ ?_ (ih (Nat.le_of_lt hlt))
    intro y hy
    subst hy
    refine ⟨(ix5 0 0 0 (y 3) (y 4)), ?_, rfl⟩
    intro b
    have h0 : (y 0).val = 0 := Nat.lt_one_iff.mp (y 0).isLt
    have h1 : (y 1).val = 0 := Nat.lt_one_iff.mp (y 1).isLt
    fin_cases b
    · exact h0
    · exact h1
    · rfl
    · exact (Nat.zero_add _).symm
    · exact (Nat.zero_add _).symm

/-- The buffer of argument 13 before trip `n` holds the chunks before `n`. -/
theorem pb_arg13 (𝒱 : Variants) (c : Dev nD) (bd : Option 𝒱.V) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (G_arg8 : BufTy.Contents (Elt F) arg8.view.ty) (G_arg9 : BufTy.Contents (Elt F) arg9.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (n : ℕ) (hn : n ≤ k0_t1_loop.trips) :
    ∀ y, (y 2).val < n → arg13.view.read (Elt F) (arg13.view.writes (Elt F) G_arg13 (pb_k0_t1 (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 G_arg8 G_arg9 G_arg10 G_arg11 G_arg12 G_arg13 n).2.2.2.2.2) y = out13 (arg2.view.read (Elt F) X_arg2) y := by
  induction n with
  | zero => exact fun y h => absurd h (Nat.not_lt_zero _)
  | succ n ih =>
    have hlt : n < k0_t1_loop.trips := hn
    rw [pb_k0_t1_succ (F := F) 𝒱 c bd i arg2 harg2 arg3 harg3 arg4 harg4 arg5 harg5 arg6 harg6 arg7 harg7 arg8 harg8 arg9 harg9 arg10 harg10 arg11 harg11 arg12 harg12 arg13 harg13 rowV colV X_arg2 X_arg3 X_arg4 X_arg5 X_arg6 G_arg8 G_arg9 G_arg10 G_arg11 G_arg12 G_arg13 ⟨n, hlt⟩]
    dsimp only [tripL_k0_t1]
    rw [trip_arg13, List.cons_append, List.nil_append]
    refine read_put_step arg13.view G_arg13 _ _ _ (off2_eq ⟨n, hlt⟩) 2 n rfl rfl _ ?_ (ih (Nat.le_of_lt hlt))
    intro y hy
    subst hy
    refine ⟨(ix4 0 0 0 (y 3)), ?_, rfl⟩
    intro b
    have h0 : (y 0).val = 0 := Nat.lt_one_iff.mp (y 0).isLt
    have h1 : (y 1).val = 0 := Nat.lt_one_iff.mp (y 1).isLt
    fin_cases b
    · exact h0
    · exact h1
    · rfl
    · exact (Nat.zero_add _).symm

end Cert.KernelIdeal.Gen

end
-- ==== Proof.IdealBodyRun.lean ====
/- One run of the whole kernel body on whole staging buffers, each output handed back at what the chunk loop computes into it. -/
module

public import proofs.«01_k».proof.Proof.IdealRuns
public import proofs.«01_k».proof.Proof.IdealPieces

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the outputs' at anything — the body runs to the continuation holding the inputs' as they were and the outputs'
    at what the chunk loop computes: the printed functions are their skeletons (`Gen.*_eq_skeleton`),
    which `sl_exec` runs (Lib/Exec.lean). -/
theorem kernelRunV (c : Dev nD) (i : grid0.Coords) (arg2 : Memref sig .tc .vmem S1x1x10x64x128 .bf16) (harg2 : arg2.IsWhole) (arg3 : Memref sig .tc .vmem S1x1x10x64x128 .bf16) (harg3 : arg3.IsWhole) (arg4 : Memref sig .tc .vmem S1x1x10x64x256 .bf16) (harg4 : arg4.IsWhole) (arg5 : Memref sig .tc .vmem S1x1x10x64 .f32) (harg5 : arg5.IsWhole) (arg6 : Memref sig .tc .vmem S1x1x10x64 .f32) (harg6 : arg6.IsWhole) (arg7 : Memref sig .tc .vmem S1x1x128x256 .f32) (harg7 : arg7.IsWhole) (arg8 : Memref sig .tc .vmem S1x1x10x64x256 .bf16) (harg8 : arg8.IsWhole) (arg9 : Memref sig .tc .vmem S1x1x128x256 .f32) (harg9 : arg9.IsWhole) (arg10 : Memref sig .tc .vmem S1x1x10x64x128 .fp8e4m3) (harg10 : arg10.IsWhole) (arg11 : Memref sig .tc .vmem S1x1x10x128 .f32) (harg11 : arg11.IsWhole) (arg12 : Memref sig .tc .vmem S1x1x10x64x128 .fp8e4m3) (harg12 : arg12.IsWhole) (arg13 : Memref sig .tc .vmem S1x1x10x128 .f32) (harg13 : arg13.IsWhole)
    (x0 : Vec F S1x1x10x64x128 .bf16) (x1 : Vec F S1x1x10x64x128 .bf16) (x2 : Vec F S1x1x10x64x256 .bf16) (x3 : Vec F S1x1x10x64 .f32) (x4 : Vec F S1x1x10x64 .f32) (x5 : Vec F S1x1x128x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out8 x0 x1 x2 x3 x4 x5) ∗ owns (c : Thread nD τ) arg9 fullShare (out9 x1 x2 x3 x4 x5) ∗ owns (c : Thread nD τ) arg10 fullShare (out10 x1) ∗ owns (c : Thread nD τ) arg11 fullShare (out11 x1) ∗ owns (c : Thread nD τ) arg12 fullShare (out12 x0) ∗ owns (c : Thread nD τ) arg13 fullShare (out13 x0)) -∗ K ⟨⟩))
          ⊢ wp frame (wpE (defs₀ (F := F)) Variants.none c none) E (cc0_gdr i arg2 harg2 arg3 harg3 arg4 harg4 arg5 harg5 arg6 harg6 arg7 harg7 arg8 harg8 arg9 harg9 arg10 harg10 arg11 harg11 arg12 harg12 arg13 harg13) K := by
    intro E K
    simp only [cc0_gdr_eq_skeleton]; unfold cc0_gdr_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    have hG : arg9.view.read (Elt F) (arg9.view.writes (Elt F) arg9.view.junk (kernelRunV.sl.H7_1 c arg7 harg7 x5)) = x5 := by
      funext y
      unfold kernelRunV.sl.H7_1
      refine (View.read_writes_cons_unit_of_mem arg9.view _ (off' := ![0, 0, 0, 0]) _ _ _ y y rfl
        (fun a => by fin_cases a <;> exact (Nat.zero_add _).symm)).trans ?_
      refine Eq.trans (b := blkS (arg7.view.read (Elt F) (harg7.unread x5)) y) rfl ?_
      rw [Memref.IsWhole.read_unread, blkS_eq]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      funext y
      refine (pb_arg8 (F := F) Variants.none c none i arg2 harg2 arg3 harg3 arg4 harg4 arg5 harg5 arg6 harg6 arg7 harg7 arg8 harg8 arg9 harg9 arg10 harg10 arg11 harg11 arg12 harg12 arg13 harg13 _ _ _ _ _ _ _ _ _ _ _ k0_t1_loop.trips le_rfl y (trips_eq ▸ (y 2).isLt)).trans ?_
      rw [hG]; simp only [Memref.IsWhole.read_unread]
    isplitl [H7]
    · iexists _; isplitr; swap; · iexact H7
      ipureintro
      refine (congrArg (arg9.view.read (Elt F)) (View.writes_append arg9.view _ _ _)).trans ?_
      refine (pb_arg9 (F := F) Variants.none c none i arg2 harg2 arg3 harg3 arg4 harg4 arg5 harg5 arg6 harg6 arg7 harg7 arg8 harg8 arg9 harg9 arg10 harg10 arg11 harg11 arg12 harg12 arg13 harg13 _ _ _ _ _ _ _ _ _ _ _ k0_t1_loop.trips le_rfl).trans ?_
      rw [hG]; simp only [Memref.IsWhole.read_unread]; rfl
    isplitl [H8]
    · iexists _; isplitr; swap; · iexact H8
      ipureintro
      funext y
      refine (pb_arg10 (F := F) Variants.none c none i arg2 harg2 arg3 harg3 arg4 harg4 arg5 harg5 arg6 harg6 arg7 harg7 arg8 harg8 arg9 harg9 arg10 harg10 arg11 harg11 arg12 harg12 arg13 harg13 _ _ _ _ _ _ _ _ _ _ _ k0_t1_loop.trips le_rfl y (trips_eq ▸ (y 2).isLt)).trans ?_
      simp only [Memref.IsWhole.read_unread]
    isplitl [H9]
    · iexists _; isplitr; swap; · iexact H9
      ipureintro
      funext y
      refine (pb_arg11 (F := F) Variants.none c none i arg2 harg2 arg3 harg3 arg4 harg4 arg5 harg5 arg6 harg6 arg7 harg7 arg8 harg8 arg9 harg9 arg10 harg10 arg11 harg11 arg12 harg12 arg13 harg13 _ _ _ _ _ _ _ _ _ _ _ k0_t1_loop.trips le_rfl y (trips_eq ▸ (y 2).isLt)).trans ?_
      simp only [Memref.IsWhole.read_unread]
    isplitl [H10]
    · iexists _; isplitr; swap; · iexact H10
      ipureintro
      funext y
      refine (pb_arg12 (F := F) Variants.none c none i arg2 harg2 arg3 harg3 arg4 harg4 arg5 harg5 arg6 harg6 arg7 harg7 arg8 harg8 arg9 harg9 arg10 harg10 arg11 harg11 arg12 harg12 arg13 harg13 _ _ _ _ _ _ _ _ _ _ _ k0_t1_loop.trips le_rfl y (trips_eq ▸ (y 2).isLt)).trans ?_
      simp only [Memref.IsWhole.read_unread]
    iexists _; isplitr; swap; · iexact H11
    ipureintro
    funext y
    refine (pb_arg13 (F := F) Variants.none c none i arg2 harg2 arg3 harg3 arg4 harg4 arg5 harg5 arg6 harg6 arg7 harg7 arg8 harg8 arg9 harg9 arg10 harg10 arg11 harg11 arg12 harg12 arg13 harg13 _ _ _ _ _ _ _ _ _ _ _ k0_t1_loop.trips le_rfl y (trips_eq ▸ (y 2).isLt)).trans ?_
    simp only [Memref.IsWhole.read_unread]

end Cert.KernelIdeal.Gen

end
-- ==== Proof.IdealFrame.lean ====
/- The frame of the whole program: the body obligation of the pipeline, the run of the program, and that every
   fair execution ends with the arguments unchanged, the region's result arrays holding what the proof data name. -/
module

public import proofs.«01_k».proof.Proof.IdealBodyRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The proof data of the one pipeline on core `c`: the arrays as the region finds them (`V`); after the body at
    point `t` each input's buffer at its block and the outputs' at the body's named results (`out8` … `out13`); the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out8 (iblk m c 0 t) (iblk m c 1 t) (iblk m c 2 t) (iblk m c 3 t) (iblk m c 4 t) (iblk m c 5 t)
    | ⟨7, _⟩ => out9 (iblk m c 1 t) (iblk m c 2 t) (iblk m c 3 t) (iblk m c 4 t) (iblk m c 5 t)
    | ⟨8, _⟩ => out10 (iblk m c 1 t)
    | ⟨9, _⟩ => out11 (iblk m c 1 t)
    | ⟨10, _⟩ => out12 (iblk m c 0 t)
    | ⟨11, _⟩ => out13 (iblk m c 0 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What a grid point leaves in the staging buffer of the keys window. -/
theorem after0_1 (c : Dev nD) (t : Fin cfg0.N) : (dats m 0 c).after 1 t = iblk m c 1 t := by dsimp only [dats]
/-- What a grid point leaves in the staging buffer of the values window. -/
theorem after0_2 (c : Dev nD) (t : Fin cfg0.N) : (dats m 0 c).after 2 t = iblk m c 2 t := by dsimp only [dats]
/-- What a grid point leaves in the staging buffer of the decays window. -/
theorem after0_3 (c : Dev nD) (t : Fin cfg0.N) : (dats m 0 c).after 3 t = iblk m c 3 t := by dsimp only [dats]
/-- What a grid point leaves in the staging buffer of the write strengths window. -/
theorem after0_4 (c : Dev nD) (t : Fin cfg0.N) : (dats m 0 c).after 4 t = iblk m c 4 t := by dsimp only [dats]
/-- What a grid point leaves in the staging buffer of the initial state window. -/
theorem after0_5 (c : Dev nD) (t : Fin cfg0.N) : (dats m 0 c).after 5 t = iblk m c 5 t := by dsimp only [dats]
/-- What a grid point leaves in the staging buffer of the output window. -/
theorem after0_6 (c : Dev nD) (t : Fin cfg0.N) : (dats m 0 c).after 6 t = out8 (iblk m c 0 t) (iblk m c 1 t) (iblk m c 2 t) (iblk m c 3 t) (iblk m c 4 t) (iblk m c 5 t) := by dsimp only [dats]
/-- What a grid point leaves in the staging buffer of the final state window. -/
theorem after0_7 (c : Dev nD) (t : Fin cfg0.N) : (dats m 0 c).after 7 t = out9 (iblk m c 1 t) (iblk m c 2 t) (iblk m c 3 t) (iblk m c 4 t) (iblk m c 5 t) := by dsimp only [dats]
/-- What a grid point leaves in the staging buffer of the key codes window. -/
theorem after0_8 (c : Dev nD) (t : Fin cfg0.N) : (dats m 0 c).after 8 t = out10 (iblk m c 1 t) := by dsimp only [dats]
/-- What a grid point leaves in the staging buffer of the key scales window. -/
theorem after0_9 (c : Dev nD) (t : Fin cfg0.N) : (dats m 0 c).after 9 t = out11 (iblk m c 1 t) := by dsimp only [dats]
/-- What a grid point leaves in the staging buffer of the query codes window. -/
theorem after0_10 (c : Dev nD) (t : Fin cfg0.N) : (dats m 0 c).after 10 t = out12 (iblk m c 0 t) := by dsimp only [dats]
/-- What a grid point leaves in the staging buffer of the query scales window. -/
theorem after0_11 (c : Dev nD) (t : Fin cfg0.N) : (dats m 0 c).after 11 t = out13 (iblk m c 0 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What a grid point finds in the staging buffer of the keys window. -/
theorem before0_1 (c : Dev nD) (t : Fin cfg0.N) (d) : (dats m 0 c).before 1 t d = iblk m c 1 t :=
  before0_1_of m (dats m 0 c) (A_eq m c 1) (after0_1 m c) t d
/-- What a grid point finds in the staging buffer of the values window. -/
theorem before0_2 (c : Dev nD) (t : Fin cfg0.N) (d) : (dats m 0 c).before 2 t d = iblk m c 2 t :=
  before0_2_of m (dats m 0 c) (A_eq m c 2) (after0_2 m c) t d
/-- What a grid point finds in the staging buffer of the decays window. -/
theorem before0_3 (c : Dev nD) (t : Fin cfg0.N) (d) : (dats m 0 c).before 3 t d = iblk m c 3 t :=
  before0_3_of m (dats m 0 c) (A_eq m c 3) (after0_3 m c) t d
/-- What a grid point finds in the staging buffer of the write strengths window. -/
theorem before0_4 (c : Dev nD) (t : Fin cfg0.N) (d) : (dats m 0 c).before 4 t d = iblk m c 4 t :=
  before0_4_of m (dats m 0 c) (A_eq m c 4) (after0_4 m c) t d
/-- What a grid point finds in the staging buffer of the initial state window. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1200000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRunV c (grid0.coords t) _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩) (run_main m ρ)

/-- THE FRAME: `Cert.quiescent_KernelIdeal`'s statement at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Exponent.lean ====
/- The exponent of a block's scale: what a search over the exponent field of a positive number finds, as a floor of a logarithm. -/
module

public import Idealize.ShloMosaic.Lib.Pointwise

@[expose] public section

noncomputable section

namespace Cert.Quant

open Idealize.ShloMosaic

/-- The exponent of the scale of a block whose largest absolute value over 448 is `y`. -/
def expo (y : ℝ) : ℤ := if y = 0 then 0 else max (⌊Real.log y / Real.log 2⌋ + 1) (-126)

/-- The number whose exponent field is `n` and whose sign and fraction are zero. -/
def fieldVal (n : ℕ) : EReal := if 255 ≤ n then ⊤ else if n = 0 then 0 else (((2 : ℝ) ^ ((n : ℤ) - 127) : ℝ) : EReal)

/-- An integer below 256 shifted left by 23 has that integer in the exponent field, a zero sign and a zero fraction. -/
theorem fieldBits : ∀ n : Fin 256, (BitVec.extractLsb' 23 8 (BitVec.ofNat 32 n.val <<< (23#32))).toNat = n.val ∧
    (BitVec.extractLsb' 31 1 (BitVec.ofNat 32 n.val <<< (23#32)) == 1#1) = false ∧
    (BitVec.extractLsb' 0 23 (BitVec.ofNat 32 n.val <<< (23#32))).toNat = 0 := by decide +kernel

/-- A word with exponent field `n`, zero sign and zero fraction reads as `fieldVal n`. -/
theorem ieee_field (b : BitVec 32) (n : ℕ) (h : n < 256) (h1 : (BitVec.extractLsb' 23 8 b).toNat = n)
    (h2 : (BitVec.extractLsb' 31 1 b == 1#1) = false) (h3 : (BitVec.extractLsb' 0 23 b).toNat = 0) : Ideal.ieee 8 23 b = fieldVal n := by
  have e : Ideal.ieee 8 23 b =
      (if n = 255 then ⊤ else if n = 0 then ((1 * (0 : ℕ) * (2 : ℝ) ^ (1 - (2 ^ (8 - 1) - 1) - (23 : ℕ) : ℤ) : ℝ) : EReal)
      else ((1 * (2 ^ 23 + 0 : ℕ) * (2 : ℝ) ^ ((n : ℤ) - (2 ^ (8 - 1) - 1) - (23 : ℕ)) : ℝ) : EReal)) := by
    rw [← h1]
    unfold Ideal.ieee
    simp only [Nat.reduceAdd, h2, h3]
    simp
  rw [e]
  unfold fieldVal
  by_cases hn : n = 255
  · rw [if_pos hn, if_pos (by omega)]
  · rw [if_neg hn, if_neg (by omega : ¬ 255 ≤ n)]
    by_cases h0 : n = 0
    · rw [if_pos h0, if_pos h0]; simp
    · rw [if_neg h0, if_neg h0]
      congr 1
      have : ((2 : ℝ) ^ 23) * (2 : ℝ) ^ ((n : ℤ) - 127 - 23) = (2 : ℝ) ^ ((n : ℤ) - 127) := by
        rw [show ((n : ℤ) - 127) = 23 + ((n : ℤ) - 127 - 23) by ring, zpow_add₀ (by norm_num)]
        norm_num
      rw [← this]
      norm_num

/-- The word `n` shifted left by 23, read as a float, is `fieldVal n`. -/
theorem ofBits_field (n : ℕ) (h : n < 256) : Ideal.ofBits .f32 (IntOp.shli .vector (BitVec.ofNat 32 n) 23#32) = fieldVal n := by
  obtain ⟨h1, h2, h3⟩ := fieldBits ⟨n, h⟩
  have hs : IntOp.shli .vector (BitVec.ofNat 32 n) 23#32 = BitVec.ofNat 32 n <<< (23#32) := if_pos (by decide)
  rw [hs]
  exact ieee_field _ n h h1 h2 h3

/-- One step of the search: `s` is added to the field when the number of the larger field is still at most `y`. -/
def sstep (y : Ideal .f32) (s b : BitVec 32) : BitVec 32 :=
  Scalar.select (FloatOps.cmpf (F := Ideal) (φ := .f32) .oge y (Ideal.ofBits .f32 (IntOp.shli .vector (IntOp.addi b s) 23#32))) (IntOp.addi b s) b

/-- One step of the search halves the interval of exponent fields that holds `y`. -/
theorem sstep_spec (y : ℝ) (s n : ℕ) (hs : 0 < s) (hn : n + 2 * s ≤ 256) (h1 : fieldVal n ≤ (y : EReal)) (h2 : (y : EReal) < fieldVal (n + 2 * s)) :
    ∃ n', sstep (y : EReal) (BitVec.ofNat 32 s) (BitVec.ofNat 32 n) = BitVec.ofNat 32 n' ∧ n' + s ≤ 256 ∧ fieldVal n' ≤ (y : EReal) ∧
      (y : EReal) < fieldVal (n' + s) := by
  have ha : IntOp.addi (BitVec.ofNat 32 n) (BitVec.ofNat 32 s) = BitVec.ofNat 32 (n + s) := (BitVec.ofNat_add n s).symm
  unfold sstep
  rw [ha, ofBits_field (n + s) (by omega)]
  change ∃ n', Scalar.select (Ideal.cmp .oge (y : EReal) (fieldVal (n + s))) _ _ = _ ∧ _
  unfold Scalar.select Ideal.cmp
  by_cases h : fieldVal (n + s) ≤ (y : EReal)
  · refine ⟨n + s, ?_, by omega, h, by rwa [show n + s + s = n + 2 * s by ring]⟩
    simp [h]
  · refine ⟨n, ?_, by omega, h1, not_le.mp h⟩
    simp [h]

/-- The whole search, from 128 down to 1. -/
def search (y : Ideal .f32) : BitVec 32 :=
  sstep y 1#32 (sstep y 2#32 (sstep y 4#32 (sstep y 8#32 (sstep y 16#32 (sstep y 32#32 (sstep y 64#32 (sstep y 128#32 0#32)))))))

/-- The search finds the greatest exponent field whose value is at most `y`. -/
theorem search_spec (y : ℝ) (hy : 0 ≤ y) : ∃ n, search (y : EReal) = BitVec.ofNat 32 n ∧ n ≤ 255 ∧ fieldVal n ≤ (y : EReal) ∧
    (y : EReal) < fieldVal (n + 1) := by
  obtain ⟨n1, e1, b1, l1, u1⟩ := sstep_spec y 128 0 (by norm_num) (by norm_num) (by simp [fieldVal]; exact_mod_cast hy)
    (by simpa [fieldVal] using EReal.coe_lt_top y)
  obtain ⟨n2, e2, b2, l2, u2⟩ := sstep_spec y 64 n1 (by norm_num) b1 l1 u1
  obtain ⟨n3, e3, b3, l3, u3⟩ := sstep_spec y 32 n2 (by norm_num) b2 l2 u2
  obtain ⟨n4, e4, b4, l4, u4⟩ := sstep_spec y 16 n3 (by norm_num) b3 l3 u3
  obtain ⟨n5, e5, b5, l5, u5⟩ := sstep_spec y 8 n4 (by norm_num) b4 l4 u4
  obtain ⟨n6, e6, b6, l6, u6⟩ := sstep_spec y 4 n5 (by norm_num) b5 l5 u5
  obtain ⟨n7, e7, b7, l7, u7⟩ := sstep_spec y 2 n6 (by norm_num) b6 l6 u6
  obtain ⟨n8, e8, b8, l8, u8⟩ := sstep_spec y 1 n7 (by norm_num) b7 l7 u7
  refine ⟨n8, ?_, by omega, l8, u8⟩
  unfold search
  rw [← e8, ← e7, ← e6, ← e5, ← e4, ← e3, ← e2, ← e1]

/-- Between `2 ^ k` and `2 ^ (k + 1)` the floor of the base 2 logarithm is `k`. -/
theorem floor_log (y : ℝ) (k : ℤ) (h1 : (2 : ℝ) ^ k ≤ y) (h2 : y < (2 : ℝ) ^ (k + 1)) : ⌊Real.log y / Real.log 2⌋ = k := by
  have hy : 0 < y := lt_of_lt_of_le (by positivity) h1
  have hl : 0 < Real.log 2 := Real.log_pos (by norm_num)
  rw [Int.floor_eq_iff]
  constructor
  · rw [le_div_iff₀ hl, ← Real.log_zpow]
    exact Real.log_le_log (by positivity) h1
  · rw [div_lt_iff₀ hl]
    have := Real.log_lt_log hy h2
    rw [Real.log_zpow] at this
    exact_mod_cast this

/-- The found field less 126 is the exponent, when `y` is not zero. -/
theorem search_eq (y : ℝ) (hy : 0 ≤ y) (hlt : y < (2 : ℝ) ^ (120 : ℤ)) : ∃ n : ℕ, search (y : EReal) = BitVec.ofNat 32 n ∧ n ≤ 246 ∧
    (y ≠ 0 → expo y = (n : ℤ) - 126) := by
  obtain ⟨n, e, b, l, u⟩ := search_spec y hy
  have hn : n ≤ 246 := by
    by_contra hc
    have h1 : (((2 : ℝ) ^ (120 : ℤ) : ℝ) : EReal) ≤ fieldVal n := by
      unfold fieldVal
      split_ifs with h
      · exact le_top
      · omega
      · rw [EReal.coe_le_coe_iff]
        exact zpow_le_zpow_right₀ (by norm_num) (by omega)
    exact absurd (EReal.coe_le_coe_iff.mp (h1.trans l)) (not_le.mpr hlt)
  refine ⟨n, e, hn, fun h0 => ?_⟩
  have hpos : 0 < y := lt_of_le_of_ne hy (Ne.symm h0)
  have hu : y < (2 : ℝ) ^ ((n : ℤ) - 126) := by
    unfold fieldVal at u
    rw [if_neg (by omega), if_neg (by omega), EReal.coe_lt_coe_iff] at u
    convert u using 2
    push_cast; ring
  rw [expo, if_neg h0]
  by_cases hz : n = 0
  · subst hz
    rw [max_eq_right]
    · norm_num
    · have hl : 0 < Real.log 2 := Real.log_pos (by norm_num)
      have : ⌊Real.log y / Real.log 2⌋ < -126 := by
        rw [Int.floor_lt, div_lt_iff₀ hl]
        have := Real.log_lt_log hpos hu
        rw [Real.log_zpow] at this
        exact_mod_cast this
      omega
  · have hl : (2 : ℝ) ^ ((n : ℤ) - 127) ≤ y := by
      unfold fieldVal at l
      rw [if_neg (by omega), if_neg hz, EReal.coe_le_coe_iff] at l
      exact l
    rw [floor_log y ((n : ℤ) - 127) hl (by convert hu using 2; ring), max_eq_left (by omega)]
    ring

/-- The exponent as the search's word: zero for a zero block. -/
def expoWord (y : Ideal .f32) : BitVec 32 :=
  Scalar.select (FloatOps.cmpf (F := Ideal) (φ := .f32) .oeq y (Ideal.ofBits .f32 0#32)) 0#32 (IntOp.subi (search y) 126#32)

/-- The word plus 127 as an exponent field is two to the exponent, and 127 less the word is its reciprocal. -/
theorem expoWord_scale (y : ℝ) (hy : 0 ≤ y) (hlt : y < (2 : ℝ) ^ (120 : ℤ)) :
    Ideal.ofBits .f32 (IntOp.shli .vector (IntOp.addi (expoWord (y : EReal)) 127#32) 23#32) = (((2 : ℝ) ^ expo y : ℝ) : EReal) ∧
    Ideal.ofBits .f32 (IntOp.shli .vector (IntOp.subi 127#32 (expoWord (y : EReal))) 23#32) = (((2 : ℝ) ^ (-expo y) : ℝ) : EReal) := by
  obtain ⟨n, e, hn, hx⟩ := search_eq y hy hlt
  have hz : Ideal.ofBits .f32 0#32 = (0 : EReal) := by simp
  by_cases h0 : y = 0
  · have hw : expoWord (y : EReal) = 0#32 := by
      unfold expoWord
      rw [hz]
      change Scalar.select (Ideal.cmp .oeq (y : EReal) 0) _ _ = _
      simp [Scalar.select, Ideal.cmp, h0]
    have he : expo y = 0 := if_pos h0
    rw [hw, he]
    have h127 : fieldVal 127 = ((1 : ℝ) : EReal) := by
      unfold fieldVal; norm_num
    constructor
    · rw [show IntOp.addi 0#32 127#32 = BitVec.ofNat 32 127 by decide, ofBits_field 127 (by norm_num), h127]; norm_num
    · rw [show IntOp.subi 127#32 0#32 = BitVec.ofNat 32 127 by decide, ofBits_field 127 (by norm_num), h127]; norm_num
  · have hw : expoWord (y : EReal) = BitVec.ofNat 32 n - 126#32 := by
      unfold expoWord
      rw [hz, e]
      change Scalar.select (Ideal.cmp .oeq (y : EReal) 0) _ _ = _
      simp [Scalar.select, Ideal.cmp, h0, IntOp.subi]
    rw [hw, hx h0]
    have a1 : IntOp.addi (BitVec.ofNat 32 n - 126#32) 127#32 = BitVec.ofNat 32 (n + 1) := by
      unfold IntOp.addi
      apply BitVec.eq_of_toNat_eq
      simp [BitVec.toNat_sub, BitVec.toNat_ofNat]
      omega
    have a2 : IntOp.subi 127#32 (BitVec.ofNat 32 n - 126#32) = BitVec.ofNat 32 (253 - n) := by
      unfold IntOp.subi
      apply BitVec.eq_of_toNat_eq
      simp [BitVec.toNat_sub, BitVec.toNat_ofNat]
      omega
    constructor
    · rw [a1, ofBits_field (n + 1) (by omega), fieldVal, if_neg (by omega), if_neg (by omega)]
      congr 2; push_cast; ring
    · rw [a2, ofBits_field (253 - n) (by omega), fieldVal, if_neg (by omega), if_neg (by omega)]
      congr 2; push_cast [show n ≤ 253 by omega]; ring

end Cert.Quant

end
-- ==== Proof.Inverse.lean ====
/- The inverse of a unit lower triangular matrix: doubling the diagonal blocks, and the product of the powers of its strictly lower
   part, give the same matrix. -/
module

public import Mathlib.Data.Real.Basic
public import Mathlib.LinearAlgebra.Matrix.NonsingularInverse
public import Mathlib.Tactic.NoncommRing
public import Idealize.ShloMosaic.Lib.Pointwise

@[expose] public section

noncomputable section

namespace Cert.Inverse

/-- Square matrices of reals over the positions of a chunk. -/
abbrev M := Matrix (Fin 64) (Fin 64) ℝ

/-- Row and column lie in one block of `2 ^ (l + 1)` but not in one block of `2 ^ l`. -/
def off (l : ℕ) (i j : Fin 64) : Prop := i.val / 2 ^ (l + 1) = j.val / 2 ^ (l + 1) ∧ i.val / 2 ^ l ≠ j.val / 2 ^ l
instance (l : ℕ) (i j : Fin 64) : Decidable (off l i j) := inferInstanceAs (Decidable (_ ∧ _))

/-- The entries of `A` that join the two halves of a block of `2 ^ (l + 1)`. -/
def offM (l : ℕ) (A : M) : M := fun i j => if off l i j then A i j else 0
/-- The entries of `A` inside the blocks of `2 ^ l`. -/
def inM (l : ℕ) (A : M) : M := fun i j => if i.val / 2 ^ l = j.val / 2 ^ l then A i j else 0

/-- The inverse after the blocks of `2 ^ l`. -/
def dbl (A : M) : ℕ → M
  | 0 => 1
  | l + 1 => dbl A l - dbl A l * (offM l A * dbl A l)

/-- Dividing by the next power of two is dividing once more by two. -/
theorem div_succ (i l : ℕ) : i / 2 ^ (l + 1) = i / 2 ^ l / 2 := by rw [pow_succ, Nat.div_div_eq_div_mul]

/-- The entries inside blocks of `2 ^ (l + 1)` are those inside blocks of `2 ^ l` and those that join two halves. -/
theorem inM_succ (l : ℕ) (A : M) : inM (l + 1) A = inM l A + offM l A := by
  ext i j
  simp only [inM, offM, off, Matrix.add_apply, div_succ]
  by_cases h : i.val / 2 ^ l = j.val / 2 ^ l
  · simp [h]
  · simp [h]

/-- The inverse after level `l` is zero outside the blocks of `2 ^ l`. -/
theorem dbl_block (A : M) (l : ℕ) : ∀ i j, dbl A l i j ≠ 0 → i.val / 2 ^ l = j.val / 2 ^ l := by
  induction l with
  | zero =>
    intro i j h
    by_contra hc
    exact h (Matrix.one_apply_ne (fun e => hc (by rw [e])))
  | succ l ih =>
    intro i j h
    rw [div_succ, div_succ]
    by_contra hc
    apply h
    have h1 : dbl A l i j = 0 := by
      by_contra h2; exact hc (by rw [ih i j h2])
    rw [dbl, Matrix.sub_apply, h1, zero_sub, neg_eq_zero, Matrix.mul_apply]
    apply Finset.sum_eq_zero
    intro k _
    by_cases h2 : dbl A l i k = 0
    · rw [h2, zero_mul]
    rw [Matrix.mul_apply]
    rw [mul_eq_zero]; right
    apply Finset.sum_eq_zero
    intro m _
    by_cases h3 : dbl A l m j = 0
    · rw [h3, mul_zero]
    by_cases h4 : off l k m
    · have := h4.1
      rw [div_succ, div_succ] at this
      exact absurd ((congrArg (· / 2) (ih i k h2)).trans (this.trans (congrArg (· / 2) (ih m j h3)))) hc
    · rw [offM, if_neg h4, zero_mul]

variable {A : M} (hA : ∀ i j, i ≤ j → A i j = 0)
include hA

/-- A joining entry has its row in the second half of the block and its column in the first. -/
theorem off_bits (l : ℕ) (i j : Fin 64) (h : offM l A i j ≠ 0) : i.val / 2 ^ l % 2 = 1 ∧ j.val / 2 ^ l % 2 = 0 := by
  by_cases ho : off l i j
  · rw [offM, if_pos ho] at h
    unfold off at ho
    rw [div_succ, div_succ] at ho
    have hlt : j < i := by
      by_contra hc; exact h (hA i j (not_lt.mp hc))
    have : j.val / 2 ^ l ≤ i.val / 2 ^ l := Nat.div_le_div_right (le_of_lt hlt)
    omega
  · exact absurd (if_neg ho) h

/-- Two joining parts with the inverse between them multiply to zero. -/
theorem off_mid (l : ℕ) : offM l A * (dbl A l * offM l A) = 0 := by
  ext i j
  rw [Matrix.mul_apply, Matrix.zero_apply]
  apply Finset.sum_eq_zero
  intro k _
  by_cases h1 : offM l A i k = 0
  · rw [h1, zero_mul]
  rw [Matrix.mul_apply, mul_eq_zero]; right
  apply Finset.sum_eq_zero
  intro m _
  by_cases h2 : offM l A m j = 0
  · rw [h2, mul_zero]
  by_cases h3 : dbl A l k m = 0
  · rw [h3, zero_mul]
  have a := off_bits hA l i k h1
  have b := off_bits hA l m j h2
  have c := dbl_block A l k m h3
  omega

/-- After level `l` the matrix is a left inverse of the unit lower triangular matrix cut to blocks of `2 ^ l`. -/
theorem dbl_inv (l : ℕ) : dbl A l * (1 + inM l A) = 1 := by
  induction l with
  | zero =>
    have : inM 0 A = 0 := by
      ext i j
      simp only [inM, pow_zero, Nat.div_one, Matrix.zero_apply]
      split_ifs with h
      · exact hA i j (le_of_eq (Fin.ext h))
      · rfl
    rw [this, dbl]; simp
  | succ l ih =>
    rw [inM_succ, dbl, ← add_assoc, mul_add, sub_mul, sub_mul]
    have e1 : dbl A l * (offM l A * dbl A l) * (1 + inM l A) = dbl A l * offM l A := by
      rw [← mul_assoc, mul_assoc, ih, mul_one]
    have e2 : dbl A l * (offM l A * dbl A l) * offM l A = 0 := by
      rw [mul_assoc, mul_assoc, off_mid hA, mul_zero]
    rw [e1, e2, ih]; simp

/-- After six levels the matrix is a left inverse of `1 + A`. -/
theorem dbl6_inv : dbl A 6 * (1 + A) = 1 := by
  have : inM 6 A = A := by
    ext i j
    have hi := i.isLt
    have hj := j.isLt
    simp only [inM]
    rw [if_pos (by norm_num; omega)]
  have h := dbl_inv hA 6
  rwa [this] at h

/-- The power `A ^ k` of a strictly lower triangular matrix is zero above its `k`-th subdiagonal. -/
theorem pow_lower (k : ℕ) : ∀ i j : Fin 64, (A ^ k) i j ≠ 0 → j.val + k ≤ i.val := by
  induction k with
  | zero =>
    intro i j h
    rw [pow_zero] at h
    by_contra hc
    exact h (Matrix.one_apply_ne (fun e => hc (by rw [e]; simp)))
  | succ k ih =>
    intro i j h
    rw [pow_succ, Matrix.mul_apply] at h
    obtain ⟨m, _, hm⟩ := Finset.exists_ne_zero_of_sum_ne_zero h
    have h1 := ih i m (left_ne_zero_of_mul hm)
    have h2 : j < m := by
      by_contra hc; exact right_ne_zero_of_mul hm (hA m j (not_lt.mp hc))
    have : j.val < m.val := h2
    omega

/-- The 64th power of a strictly lower triangular matrix is zero. -/
theorem pow64 : A ^ 64 = 0 := by
  ext i j
  by_contra h
  have := pow_lower hA 64 i j h
  have := i.isLt
  omega

omit hA in
/-- The product of `1 + N ^ (2 ^ j)` for `j ≤ n`, with the last power. -/
def neu (N : M) : ℕ → M × M
  | 0 => (1 + N, N)
  | n + 1 => ((neu N n).1 + (neu N n).1 * ((neu N n).2 * (neu N n).2), (neu N n).2 * (neu N n).2)

omit hA in
/-- The products of squared powers: the last power, and that the product times `1 - N` is `1` less a power of `N`. -/
theorem neu_spec (N : M) (n : ℕ) : (neu N n).2 = N ^ 2 ^ n ∧ (neu N n).1 * (1 - N) = 1 - N ^ 2 ^ (n + 1) := by
  have comm : ∀ n, Commute (neu N n).2 N ∧ (neu N n).2 = N ^ 2 ^ n := by
    intro n
    induction n with
    | zero => simp [neu]
    | succ n ih =>
      have : (neu N (n + 1)).2 = N ^ 2 ^ (n + 1) := by
        rw [neu]; dsimp only; rw [ih.2, ← pow_add, pow_succ, mul_two]
      rw [this]
      exact ⟨Commute.pow_left (Commute.refl N) _, rfl⟩
  induction n with
  | zero => exact ⟨(comm 0).2, by simp [neu]; noncomm_ring⟩
  | succ n ih =>
    refine ⟨(comm _).2, ?_⟩
    have h2 : (neu N n).2 * (neu N n).2 = N ^ 2 ^ (n + 1) := by rw [ih.1, ← pow_add, pow_succ, mul_two]
    rw [neu]; dsimp only
    have hc : N ^ 2 ^ (n + 1) * (1 - N) = (1 - N) * N ^ 2 ^ (n + 1) := by
      rw [mul_sub, sub_mul, mul_one, one_mul, ← pow_succ, ← pow_succ']
    rw [h2, add_mul, mul_assoc (neu N n).1, hc, ← mul_assoc, ih.2]
    rw [sub_mul, one_mul, ← pow_add, pow_succ 2 (n + 1), mul_two]
    abel

/-- Both ways give one matrix. -/
theorem dbl_eq_neu : dbl A 6 = (neu (-A) 5).1 := by
  have h1 := dbl6_inv hA
  have h2 : (neu (-A) 5).1 * (1 + A) = 1 := by
    have := (neu_spec (-A) 5).2
    rw [sub_neg_eq_add] at this
    rw [this]
    norm_num
    rw [Even.neg_pow (by decide), pow64 hA]
  exact left_inv_eq_right_inv h1 (mul_eq_one_comm.mp h2)

end Cert.Inverse

end
-- ==== Proof.Spec.lean ====
/- One chunk of one head over the real numbers: the quantiser, the norms, the decays, the triangular system and one step of the
   recurrence, and the coercions from these to the extended reals. -/
module

public import proofs.«01_k».proof.Proof.Exponent
public import proofs.«01_k».proof.Proof.Inverse

@[expose] public section

noncomputable section

namespace Cert.Spec

open Idealize.ShloMosaic Cert.Quant Cert.Inverse

/-! ### Constants -/

/-- The float32 nearest 1/448. -/
def c448 : ℝ := 9586981 * (2 : ℝ) ^ (-32 : ℤ)
/-- The float32 nearest 1e-6, added to the squared norm. -/
def epsR : ℝ := 8796093 * (2 : ℝ) ^ (-43 : ℤ)
/-- The float32 nearest `128 ^ (-1/2)`, the query scale. -/
def qsc : ℝ := 11863283 * (2 : ℝ) ^ (-27 : ℤ)

/-- The word of 1/448 reads as `c448`. -/
theorem c448_bits : Ideal.ofBits .f32 991054117#32 = (c448 : EReal) := by
  simp [Ideal.ofBits, Ideal.ieee, c448]
/-- The word of 1e-6 reads as `epsR`. -/
theorem eps_bits : Ideal.ofBits .f32 897988541#32 = (epsR : EReal) := by
  simp [Ideal.ofBits, Ideal.ieee, epsR]
/-- The word of the query scale reads as `qsc`. -/
theorem qsc_bits : Ideal.ofBits .f32 1035273459#32 = (qsc : EReal) := by
  simp [Ideal.ofBits, Ideal.ieee, qsc]
/-- The upper clip bound is 448. -/
theorem hi_bits : Ideal.ofBits .f32 1138753536#32 = ((448 : ℝ) : EReal) := by
  have e : (448 : ℝ) = 14680064 * (2 : ℝ) ^ (-15 : ℤ) := by norm_num
  rw [e]; simp [Ideal.ofBits, Ideal.ieee]
/-- The lower clip bound is -448. -/
theorem lo_bits : Ideal.ofBits .f32 3286237184#32 = ((-448 : ℝ) : EReal) := by
  have e : (-448 : ℝ) = -(14680064 * (2 : ℝ) ^ (-15 : ℤ)) := by norm_num
  rw [e]; simp [Ideal.ofBits, Ideal.ieee]
/-- The word of 2 reads as 2. -/
theorem two_bits : Ideal.ofBits .f32 1073741824#32 = ((2 : ℝ) : EReal) := by
  have e : (2 : ℝ) = 8388608 * (2 : ℝ) ^ (-22 : ℤ) := by norm_num
  rw [e]; simp [Ideal.ofBits, Ideal.ieee]
/-- The word of -126 reads as -126. -/
theorem low_bits : Ideal.ofBits .f32 3271294976#32 = ((-126 : ℝ) : EReal) := by
  have e : (-126 : ℝ) = -(16515072 * (2 : ℝ) ^ (-17 : ℤ)) := by norm_num
  rw [e]; simp [Ideal.ofBits, Ideal.ieee]
/-- The word of minus infinity reads as the least extended real. -/
theorem bot_bits : Ideal.ofBits .f32 4286578688#32 = (⊥ : EReal) := by
  simp [Ideal.ofBits, Ideal.ieee]

/-- `c448` is positive. -/
theorem c448_pos : 0 < c448 := by unfold c448; positivity
/-- `c448` is at most `2 ^ -8`. -/
theorem c448_le : c448 ≤ (2 : ℝ) ^ (-8 : ℤ) := by unfold c448; norm_num
/-- `epsR` is positive. -/
theorem eps_pos : 0 < epsR := by unfold epsR; positivity

/-! ### Coercions -/

/-- A sum of reals in the extended reals is the sum of the reals. -/
theorem csum {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]
/-- A choice between reals in the extended reals is the choice of the reals. -/
theorem cite (p : Prop) [Decidable p] (a b : ℝ) : (if p then (a : EReal) else (b : EReal)) = ((if p then a else b : ℝ) : EReal) := by
  split_ifs <;> rfl
/-- The same with zero as the second. -/
theorem cite0 (p : Prop) [Decidable p] (a : ℝ) : (if p then (a : EReal) else 0) = ((if p then a else 0 : ℝ) : EReal) := by
  split_ifs <;> rfl
/-- The same with one and zero. -/
theorem cite10 (p : Prop) [Decidable p] : (if p then (1 : EReal) else 0) = ((if p then 1 else 0 : ℝ) : EReal) := by
  split_ifs <;> rfl
/-- A select on a decided bit is a choice. -/
theorem selif {α : Type} (p : Prop) [Decidable p] (a b : α) : Scalar.select (if p then 1#1 else 0#1) a b = if p then a else b := by
  unfold Scalar.select
  split_ifs <;> simp_all
/-- The exponential of a real. -/
theorem cexp (a : ℝ) : Ideal.exp (a : EReal) = ((Real.exp a : ℝ) : EReal) := rfl
/-- The maximum of reals. -/
theorem cmax (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]
/-- The minimum of reals. -/
theorem cmin (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]
/-- The absolute value of a real. -/
theorem cabs (a : ℝ) : FloatOps.absf (F := Ideal) (φ := .f32) (a : EReal) = ((|a| : ℝ) : EReal) := by
  change max (a : EReal) (-(a : EReal)) = _
  rw [← EReal.coe_neg, cmax]; rfl
/-- The difference of reals. -/
theorem csub (a b : ℝ) : (a : EReal) - (b : EReal) = ((a - b : ℝ) : EReal) := (EReal.coe_sub a b).symm
/-- The sum of reals. -/
theorem cadd (a b : ℝ) : (a : EReal) + (b : EReal) = ((a + b : ℝ) : EReal) := (EReal.coe_add a b).symm
/-- The product of reals. -/
theorem cmul (a b : ℝ) : (a : EReal) * (b : EReal) = ((a * b : ℝ) : EReal) := (EReal.coe_mul a b).symm
/-- The negative of a real, as zero less it. -/
theorem czero_sub (a : ℝ) : (0 : EReal) - (a : EReal) = ((0 - a : ℝ) : EReal) := (EReal.coe_sub 0 a).symm
/-- The reciprocal square root of a positive real. -/
theorem crsqrt (a : ℝ) (h : 0 < a) : Ideal.rsqrt (a : EReal) = (((Real.sqrt a)⁻¹ : ℝ) : EReal) := by
  change (if a < 0 then (⊥ : EReal) else if a = 0 then ⊤ else (((Real.sqrt a)⁻¹ : ℝ) : EReal)) = _
  rw [if_neg (not_lt.mpr h.le), if_neg h.ne']
/-- The square root of a positive real. -/
theorem csqrt (a : ℝ) (h : 0 < a) : Ideal.sqrt (a : EReal) = ((Real.sqrt a : ℝ) : EReal) := by
  change (if a < 0 then (⊥ : EReal) else ((Real.sqrt a : ℝ) : EReal)) = _
  rw [if_neg (not_lt.mpr h.le)]
/-- The quotient of reals by a nonzero real. -/
theorem cdiv (a b : ℝ) (h : b ≠ 0) : Ideal.div (a : EReal) (b : EReal) = ((a / b : ℝ) : EReal) := by
  unfold Ideal.div
  rw [if_neg (by exact_mod_cast h), ← EReal.coe_inv, ← EReal.coe_mul]; rfl

/-! ### Comparisons of positions -/

/-- Comparing positions of a chunk as words: at least. -/
theorem pos_ge : ∀ i j : Fin 64, IntOp.cmpi .sge (BitVec.ofNat 32 i.val) (BitVec.ofNat 32 j.val) = if j ≤ i then 1#1 else 0#1 := by
  decide +kernel
/-- Comparing positions of a chunk as words: greater. -/
theorem pos_gt : ∀ i j : Fin 64, IntOp.cmpi .sgt (BitVec.ofNat 32 i.val) (BitVec.ofNat 32 j.val) = if j < i then 1#1 else 0#1 := by
  decide +kernel
/-- Comparing positions of a chunk as words: equal. -/
theorem pos_eq : ∀ i j : Fin 64, IntOp.cmpi .eq (BitVec.ofNat 32 i.val) (BitVec.ofNat 32 j.val) = if i = j then 1#1 else 0#1 := by
  decide +kernel

/-- The block structure, read from shifted positions. -/
def offBit (l : ℕ) (i j : Fin 64) : BitVec 1 :=
  IntOp.andi (IntOp.cmpi .eq (IntOp.shrsi .vector (BitVec.ofNat 32 i.val) (BitVec.ofNat 32 (l + 1))) (IntOp.shrsi .vector (BitVec.ofNat 32 j.val) (BitVec.ofNat 32 (l + 1))))
    (IntOp.cmpi .ne (IntOp.shrsi .vector (BitVec.ofNat 32 i.val) (BitVec.ofNat 32 l)) (IntOp.shrsi .vector (BitVec.ofNat 32 j.val) (BitVec.ofNat 32 l)))
/-- The block structure read from shifted positions is that of `off`. -/
theorem offBit_eq : ∀ l : Fin 6, ∀ i j : Fin 64, offBit l.val i j = if off l.val i j then 1#1 else 0#1 := by
  decide +kernel

/-! ### One chunk -/

/-- A chunk of keys or queries of one head. -/
abbrev KQ := Fin 64 → Fin 128 → ℝ
/-- A chunk of values of one head. -/
abbrev VV := Fin 64 → Fin 256 → ℝ
/-- One number per position of a chunk. -/
abbrev PP := Fin 64 → ℝ
/-- The state of one head. -/
abbrev SS := Fin 128 → Fin 256 → ℝ

/-- The largest absolute value of a chunk. -/
def amax (X : KQ) : ℝ := Finset.univ.sup' ⟨((0, 0) : Fin 64 × Fin 128), Finset.mem_univ _⟩ (fun p => |X p.1 p.2|)
/-- The exponent of a chunk's scale. -/
def ex (X : KQ) : ℤ := expo (amax X * c448)
/-- The scale of a chunk, a power of two. -/
def scale (X : KQ) : ℝ := (2 : ℝ) ^ ex X
/-- The inverse of the scale. -/
def inv (X : KQ) : ℝ := (2 : ℝ) ^ (-ex X)
/-- The codes of a chunk: its values over the scale, clipped to 448 in magnitude. -/
def code (X : KQ) (i : Fin 64) (d : Fin 128) : ℝ := min 448 (max (-448) (X i d * inv X))
/-- The reciprocal norm of each position's vector. -/
def nrm (X : KQ) (i : Fin 64) : ℝ := (Real.sqrt ((∑ d, X i d * X i d) + epsR))⁻¹
/-- The normalised keys, from the codes. -/
def kn (X : KQ) (i : Fin 64) (d : Fin 128) : ℝ := code X i d * scale X * nrm X i
/-- The normalised and scaled queries, from the codes. -/
def qn (Y : KQ) (i : Fin 64) (d : Fin 128) : ℝ := code Y i d * scale Y * nrm Y i * qsc
/-- The running sum of the log decays. -/
def cum (g : PP) (i : Fin 64) : ℝ := ∑ j, if j ≤ i then g j else 0
/-- The decay from position `j` to position `i`, zero for `j` after `i`. -/
def dec (g : PP) (i j : Fin 64) : ℝ := if j ≤ i then Real.exp (cum g i - cum g j) else 0
/-- The products of normalised keys. -/
def kk (X : KQ) (i j : Fin 64) : ℝ := (∑ d, code X i d * code X j d) * (scale X * scale X) * nrm X i * nrm X j
/-- The products of normalised queries and keys. -/
def qk (Y X : KQ) (i j : Fin 64) : ℝ := (∑ d, code Y i d * code X j d) * (scale Y * scale X) * nrm Y i * nrm X j * qsc
/-- The strictly lower triangular part of the chunk's system. -/
def sysA (X : KQ) (g b : PP) : M := fun i j => if j < i then b i * kk X i j * dec g i j else 0
/-- The inverse of the unit lower triangular system. -/
def invT (X : KQ) (g b : PP) : M := dbl (sysA X g b) 6
/-- The values the chunk writes: the system's inverse applied to the write strengths times what the state does not yet hold. -/
def vnew (X : KQ) (W : VV) (g b : PP) (S : SS) (i : Fin 64) (v : Fin 256) : ℝ :=
  ∑ j, invT X g b i j * (b j * (W j v - Real.exp (cum g j) * ∑ d, kn X j d * S d v))
/-- The outputs of the chunk, from the state before it. -/
def oOut (Y X : KQ) (W : VV) (g b : PP) (S : SS) (i : Fin 64) (v : Fin 256) : ℝ :=
  (∑ d, Real.exp (cum g i) * qn Y i d * S d v) + ∑ j, qk Y X i j * dec g i j * vnew X W g b S j v
/-- The state after the chunk. -/
def sOut (X : KQ) (W : VV) (g b : PP) (S : SS) (d : Fin 128) (v : Fin 256) : ℝ :=
  Real.exp (cum g 63) * S d v + ∑ i, Real.exp (cum g 63 - cum g i) * kn X i d * vnew X W g b S i v
/-- The state before chunk `n`. -/
def stR (X : ℕ → KQ) (W : ℕ → VV) (g b : ℕ → PP) (S : SS) : ℕ → SS
  | 0 => S
  | n + 1 => sOut (X n) (W n) (g n) (b n) (stR X W g b S n)

/-- The largest absolute value is not negative. -/
theorem amax_nonneg (X : KQ) : 0 ≤ amax X :=
  (abs_nonneg (X 0 0)).trans (Finset.le_sup' (fun p : Fin 64 × Fin 128 => |X p.1 p.2|) (Finset.mem_univ ((0, 0) : Fin 64 × Fin 128)))
/-- No entry exceeds the largest absolute value. -/
theorem le_amax (X : KQ) (i : Fin 64) (d : Fin 128) : |X i d| ≤ amax X :=
  Finset.le_sup' (fun p : Fin 64 × Fin 128 => |X p.1 p.2|) (Finset.mem_univ ((i, d) : Fin 64 × Fin 128))
/-- The largest absolute value is attained. -/
theorem amax_mem (X : KQ) : ∃ i d, amax X = |X i d| := by
  obtain ⟨p, _, hp⟩ := Finset.exists_mem_eq_sup' ⟨((0, 0) : Fin 64 × Fin 128), Finset.mem_univ _⟩ (fun p : Fin 64 × Fin 128 => |X p.1 p.2|)
  exact ⟨p.1, p.2, hp⟩
/-- The squared norm with its constant is positive. -/
theorem nrm_pos (X : KQ) (i : Fin 64) : 0 < (∑ d, X i d * X i d) + epsR :=
  add_pos_of_nonneg_of_pos (Finset.sum_nonneg fun d _ => mul_self_nonneg _) eps_pos
/-- The system's matrix is zero on and above the diagonal. -/
theorem sysA_lower (X : KQ) (g b : PP) (i j : Fin 64) (h : i ≤ j) : sysA X g b i j = 0 := if_neg (not_lt.mpr h)

/-- What the range of an entry of a 16-bit input gives for the block's largest value over 448. -/
theorem y_range (X : KQ) (h : ∀ i d, |X i d| < (2 : ℝ) ^ (128 : ℤ)) : 0 ≤ amax X * c448 ∧ amax X * c448 < (2 : ℝ) ^ (120 : ℤ) := by
  refine ⟨mul_nonneg (amax_nonneg X) c448_pos.le, ?_⟩
  obtain ⟨i, d, e⟩ := amax_mem X
  rw [e]
  calc |X i d| * c448 < (2 : ℝ) ^ (128 : ℤ) * c448 := mul_lt_mul_of_pos_right (h i d) c448_pos
    _ ≤ (2 : ℝ) ^ (128 : ℤ) * (2 : ℝ) ^ (-8 : ℤ) := mul_le_mul_of_nonneg_left c448_le (by positivity)
    _ = (2 : ℝ) ^ (120 : ℤ) := by rw [← zpow_add₀ (by norm_num)]; norm_num

/-- The nested maxima of the absolute values. -/
theorem fold_amax (X : KQ) : Finset.fold max (⊥ : EReal) (fun i : Fin 64 => Finset.fold max (⊥ : EReal) (fun d : Fin 128 => ((|X i d| : ℝ) : EReal)) Finset.univ) Finset.univ
    = (amax X : EReal) := by
  apply le_antisymm
  · rw [Finset.fold_max_le]
    refine ⟨bot_le, fun i _ => ?_⟩
    rw [Finset.fold_max_le]
    exact ⟨bot_le, fun d _ => EReal.coe_le_coe_iff.mpr (le_amax X i d)⟩
  · obtain ⟨i, d, e⟩ := amax_mem X
    rw [Finset.le_fold_max]
    refine Or.inr ⟨i, Finset.mem_univ _, ?_⟩
    rw [Finset.le_fold_max]
    exact Or.inr ⟨d, Finset.mem_univ _, by rw [e]⟩

/-- The values written by the recurrence, with the system's inverse applied to values and to decayed keys separately. -/
theorem vnew_eq (X : KQ) (W : VV) (g b : PP) (S : SS) (i : Fin 64) (v : Fin 256) :
    vnew X W g b S i v = (∑ j, invT X g b i j * (b j * W j v)) -
      ∑ d, (∑ j, invT X g b i j * (b j * Real.exp (cum g j) * kn X j d)) * S d v := by
  unfold vnew
  have : ∀ j, invT X g b i j * (b j * (W j v - Real.exp (cum g j) * ∑ d, kn X j d * S d v)) =
      invT X g b i j * (b j * W j v) - ∑ d, invT X g b i j * (b j * Real.exp (cum g j) * kn X j d) * S d v := by
    intro j
    rw [show (∑ d, invT X g b i j * (b j * Real.exp (cum g j) * kn X j d) * S d v)
      = invT X g b i j * (b j * Real.exp (cum g j)) * ∑ d, kn X j d * S d v from by
        rw [Finset.mul_sum]; exact Finset.sum_congr rfl fun d _ => by ring]
    ring
  rw [Finset.sum_congr rfl fun j _ => this j, Finset.sum_sub_distrib, Finset.sum_comm]
  congr 1
  exact Finset.sum_congr rfl fun d _ => (Finset.sum_mul _ _ _).symm

end Cert.Spec

end
-- ==== Proof.Chunks.lean ====
/- The arrays over the real numbers and their cut into chunks. -/
module

public import proofs.«01_k».proof.Proof.Spec

@[expose] public section

noncomputable section

namespace Cert.Spec

open Idealize.ShloMosaic

/-- Position `i` of chunk `n`. -/
def pos (n : Fin 10) (i : Fin 64) : Fin 640 := ⟨n.val * 64 + i.val, by omega⟩

/-- An array of keys or queries: batch, position, head, dimension. -/
abbrev AQK := Fin 2 → Fin 640 → Fin 24 → Fin 128 → ℝ
/-- An array of values: batch, position, head, dimension. -/
abbrev AV := Fin 2 → Fin 640 → Fin 24 → Fin 256 → ℝ
/-- An array with one number per batch, position and head. -/
abbrev AP := Fin 2 → Fin 640 → Fin 24 → ℝ
/-- An array of states: batch, head, key dimension, value dimension. -/
abbrev AS := Fin 2 → Fin 24 → Fin 128 → Fin 256 → ℝ

/-- Chunk `n` of the keys or queries of head `h` of batch `b`. -/
def chQK (K : AQK) (b : Fin 2) (h : Fin 24) (n : Fin 10) : KQ := fun i d => K b (pos n i) h d
/-- Chunk `n` of the values of head `h` of batch `b`. -/
def chV (V : AV) (b : Fin 2) (h : Fin 24) (n : Fin 10) : VV := fun i d => V b (pos n i) h d
/-- Chunk `n` of the decays or write strengths of head `h` of batch `b`. -/
def chP (G : AP) (b : Fin 2) (h : Fin 24) (n : Fin 10) : PP := fun i => G b (pos n i) h
/-- A family over the ten chunks as a family over the naturals. -/
def ext {α : Type} [Inhabited α] (f : Fin 10 → α) (n : ℕ) : α := if h : n < 10 then f ⟨n, h⟩ else default
/-- Below ten the extension of `f` is `f`. -/
theorem ext_val {α : Type} [Inhabited α] (f : Fin 10 → α) (n : Fin 10) : ext f n.val = f n := dif_pos n.isLt

/-- The state of a head before chunk `n`. -/
def hst (K : AQK) (V : AV) (G B : AP) (S : AS) (b : Fin 2) (h : Fin 24) (n : ℕ) : SS :=
  stR (ext (chQK K b h)) (ext (chV V b h)) (ext (chP G b h)) (ext (chP B b h)) (S b h) n
/-- Before the first chunk the state is the initial state. -/
theorem hst_zero (K : AQK) (V : AV) (G B : AP) (S : AS) (b : Fin 2) (h : Fin 24) : hst K V G B S b h 0 = S b h := rfl
/-- The state after chunk `n` is one step of the recurrence from the state before it. -/
theorem hst_succ (K : AQK) (V : AV) (G B : AP) (S : AS) (b : Fin 2) (h : Fin 24) (n : Fin 10) :
    hst K V G B S b h (n.val + 1) = sOut (chQK K b h n) (chV V b h n) (chP G b h n) (chP B b h n) (hst K V G B S b h n.val) := by
  unfold hst
  rw [stR, ext_val, ext_val, ext_val, ext_val]

end Cert.Spec

end
-- ==== Proof.FiniteArgs.lean ====
/- The precondition read back: every element of every argument is a real number, and those of q, k and v lie below 2^128. -/
module

public import proofs.«01_k».proof.Proof.Gen.Pre_finite
public import proofs.«01_k».proof.Proof.Chunks
public import Idealize.ShloMosaic.Lib.ReduceAll
public import Idealize.ShloMosaic.Lib.Pointwise

@[expose] public section

noncomputable section

namespace Cert.Pre_finite.Read

open Idealize.ShloMosaic Idealize.ShloMosaic.Tactic Cert.Pre_finite
open Cert.Spec

/-- The greatest bfloat16, as a real. -/
theorem bf16_bits : Ideal.ofBits .f32 0x7F7F0000#32 = ((255 * 2 ^ (120 : ℤ) : ℝ) : EReal) := by
  have e : (255 * 2 ^ (120 : ℤ) : ℝ) = 16711680 * (2 : ℝ) ^ (104 : ℤ) := by norm_num
  rw [e]; simp [Ideal.ofBits, Ideal.ieee]
/-- The greatest float32, as a real. -/
theorem f32_bits : Ideal.ofBits .f32 0x7F7FFFFF#32 = ((16777215 * 2 ^ (104 : ℤ) : ℝ) : EReal) := by
  simp [Ideal.ofBits, Ideal.ieee]

/-- An extended real whose magnitude is at most a real number is a real number. -/
theorem real_of_le (x : EReal) (c : ℝ) (h : FloatOps.cmpf (F := Ideal) (φ := .f32) .ole (FloatOps.hostAbsf (F := Ideal) (φ := .f32) x) ((c : ℝ) : EReal) = 1#1) :
    ∃ r : ℝ, x = ((r : ℝ) : EReal) ∧ |r| ≤ c := by
  have h' : BitVec.ofBool (decide (max x (-x) ≤ ((c : ℝ) : EReal))) = 1#1 := h
  have hle : max x (-x) ≤ ((c : ℝ) : EReal) := by
    by_contra hn
    rw [decide_eq_false hn] at h'
    exact absurd h' (by decide)
  induction x with
  | bot => exact absurd hle (by simp)
  | top => exact absurd hle (by simp)
  | coe r =>
    refine ⟨r, rfl, ?_⟩
    have h1 := le_trans (le_max_left _ _) hle
    have h2 := le_trans (le_max_right _ _) hle
    rw [← EReal.coe_neg] at h2
    exact abs_le.2 ⟨by have := EReal.coe_le_coe_iff.1 h2; linarith, EReal.coe_le_coe_iff.1 h1⟩

instance : Subsingleton S_.Idx := ⟨fun a b => funext fun i => i.elim0⟩

variable {a0 a1 : FVec Ideal S2x640x24x128 .bf16} {a2 : FVec Ideal S2x640x24x256 .bf16} {a3 a4 : FVec Ideal S2x640x24 .f32}
  {a5 : FVec Ideal S2x24x128x256 .f32}

/-- Every element of every argument is a real number below the greatest of its format. -/
theorem elements (h : Cert.Pre_finite.fn (F := Ideal) a0 a1 a2 a3 a4 a5 = fun _ => 1#1) :
    (∀ i, ∃ r : ℝ, a0 i = ((r : ℝ) : EReal) ∧ |r| ≤ 255 * 2 ^ (120 : ℤ)) ∧ (∀ i, ∃ r : ℝ, a1 i = ((r : ℝ) : EReal) ∧ |r| ≤ 255 * 2 ^ (120 : ℤ))
      ∧ (∀ i, ∃ r : ℝ, a2 i = ((r : ℝ) : EReal) ∧ |r| ≤ 255 * 2 ^ (120 : ℤ)) ∧ (∀ i, ∃ r : ℝ, a3 i = ((r : ℝ) : EReal) ∧ |r| ≤ 16777215 * 2 ^ (104 : ℤ))
      ∧ (∀ i, ∃ r : ℝ, a4 i = ((r : ℝ) : EReal) ∧ |r| ≤ 16777215 * 2 ^ (104 : ℤ)) ∧ (∀ i, ∃ r : ℝ, a5 i = ((r : ℝ) : EReal) ∧ |r| ≤ 16777215 * 2 ^ (104 : ℤ)) := by
  have h0 := congrFun h ix0
  unfold Cert.Pre_finite.fn Cert.Pre_finite.fn_part1 at h0
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  refine ⟨fun i => real_of_le _ _ ?_, fun i => real_of_le _ _ ?_, fun i => real_of_le _ _ ?_, fun i => real_of_le _ _ ?_, fun i => real_of_le _ _ ?_, fun i => real_of_le _ _ ?_⟩
  · rw [← bf16_bits]; exact Host.reduce_andi_all _ _ _ _ _ e0 i
  · rw [← bf16_bits]; exact Host.reduce_andi_all _ _ _ _ _ e1 i
  · rw [← bf16_bits]; exact Host.reduce_andi_all _ _ _ _ _ e2 i
  · rw [← f32_bits]; exact Host.reduce_andi_all _ _ _ _ _ e3 i
  · rw [← f32_bits]; exact Host.reduce_andi_all _ _ _ _ _ e4 i
  · rw [← f32_bits]; exact Host.reduce_andi_all _ _ _ _ _ e5 i

/-- The arguments as arrays of real numbers. -/
theorem arrays (h : Cert.Pre_finite.fn (F := Ideal) a0 a1 a2 a3 a4 a5 = fun _ => 1#1) :
    (∃ Q : AQK, (∀ b t h d, a0 (ix4 b t h d) = ((Q b t h d : ℝ) : EReal)) ∧ ∀ b t h d, |Q b t h d| < (2 : ℝ) ^ (128 : ℤ))
      ∧ (∃ K : AQK, (∀ b t h d, a1 (ix4 b t h d) = ((K b t h d : ℝ) : EReal)) ∧ ∀ b t h d, |K b t h d| < (2 : ℝ) ^ (128 : ℤ))
      ∧ (∃ V : AV, ∀ b t h v, a2 (ix4 b t h v) = ((V b t h v : ℝ) : EReal)) ∧ (∃ G : AP, ∀ b t h, a3 (ix3 b t h) = ((G b t h : ℝ) : EReal))
      ∧ (∃ B : AP, ∀ b t h, a4 (ix3 b t h) = ((B b t h : ℝ) : EReal)) ∧ (∃ S : AS, ∀ b h d v, a5 (ix4 b h d v) = ((S b h d v : ℝ) : EReal)) := by
  obtain ⟨h0, h1, h2, h3, h4, h5⟩ := elements h
  choose Q hQ using h0
  choose K hK using h1
  choose V hV using h2
  choose G hG using h3
  choose B hB using h4
  choose S hS using h5
  have hlt : (255 * 2 ^ (120 : ℤ) : ℝ) < (2 : ℝ) ^ (128 : ℤ) := by norm_num
  exact ⟨⟨fun b t h d => Q (ix4 b t h d), fun b t h d => (hQ _).1, fun b t h d => lt_of_le_of_lt (hQ _).2 hlt⟩,
    ⟨fun b t h d => K (ix4 b t h d), fun b t h d => (hK _).1, fun b t h d => lt_of_le_of_lt (hK _).2 hlt⟩,
    ⟨fun b t h d => V (ix4 b t h d), fun b t h d => (hV _).1⟩, ⟨fun b t h => G (ix3 b t h), fun b t h => (hG _).1⟩,
    ⟨fun b t h => B (ix3 b t h), fun b t h => (hB _).1⟩, ⟨fun b h d v => S (ix4 b h d v), fun b h d v => (hS _).1⟩⟩

end Cert.Pre_finite.Read

end
-- ==== Proof.IdealRun.lean ====
/- The run of the whole program at its results: what the region leaves in its result arrays, carried through the later host operations
   to the six results, the arguments unchanged. -/
module

public import proofs.«01_k».proof.Proof.Gen.KernelIdeal
public import proofs.«01_k».proof.Proof.IdealFrame
public import Idealize.ShloMosaic.Lib.StableHlo.Run
public import Idealize.ShloMosaic.Lib.Pipeline.FrameSuffix

@[expose] public section

noncomputable section

namespace Cert.KernelIdeal.Value

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v12_0` (window 6's): not opened here. -/
def reg_main_v12_0 (c : Dev nD) : Buf (Elt F) ((c.tc : Thread nD τ).loc main_v12_0) := (Gen.dats m 0 c).arrAt 6 cfg0.N
/-- What the kernel region leaves in its result array `main_v12_1` (window 7's): not opened here. -/
def reg_main_v12_1 (c : Dev nD) : Buf (Elt F) ((c.tc : Thread nD τ).loc main_v12_1) := (Gen.dats m 0 c).arrAt 7 cfg0.N
/-- What the kernel region leaves in its result array `main_v12_2` (window 8's): not opened here. -/
def reg_main_v12_2 (c : Dev nD) : Buf (Elt F) ((c.tc : Thread nD τ).loc main_v12_2) := (Gen.dats m 0 c).arrAt 8 cfg0.N
/-- What the kernel region leaves in its result array `main_v12_3` (window 9's): not opened here. -/
def reg_main_v12_3 (c : Dev nD) : Buf (Elt F) ((c.tc : Thread nD τ).loc main_v12_3) := (Gen.dats m 0 c).arrAt 9 cfg0.N
/-- What the kernel region leaves in its result array `main_v12_4` (window 10's): not opened here. -/
def reg_main_v12_4 (c : Dev nD) : Buf (Elt F) ((c.tc : Thread nD τ).loc main_v12_4) := (Gen.dats m 0 c).arrAt 10 cfg0.N
/-- What the kernel region leaves in its result array `main_v12_5` (window 11's): not opened here. -/
def reg_main_v12_5 (c : Dev nD) : Buf (Elt F) ((c.tc : Thread nD τ).loc main_v12_5) := (Gen.dats m 0 c).arrAt 11 cfg0.N

/-- The exit contents at the region's result array `main_v12_0`. -/
theorem exit_main_v12_0 (c : Dev nD) : exitV m c (Proc.devRef .tc main_v12_0) = reg_main_v12_0 m c :=
  Pipeline.withArrays_arr spec0 Gen.launch0.win.arr_inj c (Gen.V0 m c) _ 6
/-- The exit contents at the region's result array `main_v12_2`. -/
theorem exit_main_v12_2 (c : Dev nD) : exitV m c (Proc.devRef .tc main_v12_2) = reg_main_v12_2 m c :=
  Pipeline.withArrays_arr spec0 Gen.launch0.win.arr_inj c (Gen.V0 m c) _ 8
/-- The exit contents at the region's result array `main_v12_3`. -/
theorem exit_main_v12_3 (c : Dev nD) : exitV m c (Proc.devRef .tc main_v12_3) = reg_main_v12_3 m c :=
  Pipeline.withArrays_arr spec0 Gen.launch0.win.arr_inj c (Gen.V0 m c) _ 9
/-- The exit contents at the region's result array `main_v12_4`. -/
theorem exit_main_v12_4 (c : Dev nD) : exitV m c (Proc.devRef .tc main_v12_4) = reg_main_v12_4 m c :=
  Pipeline.withArrays_arr spec0 Gen.launch0.win.arr_inj c (Gen.V0 m c) _ 10
/-- The exit contents at the region's result array `main_v12_5`. -/
theorem exit_main_v12_5 (c : Dev nD) : exitV m c (Proc.devRef .tc main_v12_5) = reg_main_v12_5 m c :=
  Pipeline.withArrays_arr spec0 Gen.launch0.win.arr_inj c (Gen.V0 m c) _ 11
/-- The exit contents at the region's result array `main_v12_1`. -/
theorem exit_main_v12_1 (c : Dev nD) : exitV m c (Proc.devRef .tc main_v12_1) = reg_main_v12_1 m c :=
  Pipeline.withArrays_arr spec0 Gen.launch0.win.arr_inj c (Gen.V0 m c) _ 7

set_option maxHeartbeats 1200000 in
/-- The later operations from any contents `V0`, read at result `main_v14`. -/
theorem tail_main_v14 (V0 : Valuation τ sig (Elt F)) :
    after (List.flatten [Gen.hostOps1]) V0 (Proc.devRef .tc main_v14) = shapeCast _ (transpose S2x10x64x24x256 [0, 2, 3, 1, 4] (V0 (Proc.devRef .tc main_v12_0)) transposes_S2x24x10x64x256_S2x10x64x24x256_0_2_3_1_4) shapeCasts_S2x10x64x24x256_S2x640x24x256 := by
  simp only [Gen.hostOps1, List.flatten_cons, List.flatten_nil, List.append_nil, List.cons_append, List.nil_append]
  after_results <;> rfl
/-- Result `main_v14` after the later operations from the region's exit contents. -/
theorem fin_main_v14 (c : Dev nD) :
    Pipeline.afterTail₀ cfgs (Gen.dats m) 0 (Gen.V0 m) [Gen.hostOps1] c main_v14 = shapeCast _ (transpose S2x10x64x24x256 [0, 2, 3, 1, 4] (reg_main_v12_0 m c) transposes_S2x24x10x64x256_S2x10x64x24x256_0_2_3_1_4) shapeCasts_S2x10x64x24x256_S2x640x24x256 :=
  (tail_main_v14 (exitV m c)).trans (by rw [exit_main_v12_0])

set_option maxHeartbeats 1200000 in
/-- The later operations from any contents `V0`, read at result `main_v16`. -/
theorem tail_main_v16 (V0 : Valuation τ sig (Elt F)) :
    after (List.flatten [Gen.hostOps1]) V0 (Proc.devRef .tc main_v16) = shapeCast _ (transpose S2x10x64x24x128 [0, 2, 3, 1, 4] (V0 (Proc.devRef .tc main_v12_2)) transposes_S2x24x10x64x128_S2x10x64x24x128_0_2_3_1_4) shapeCasts_S2x10x64x24x128_S2x640x24x128 := by
  simp only [Gen.hostOps1, List.flatten_cons, List.flatten_nil, List.append_nil, List.cons_append, List.nil_append]
  after_results <;> rfl
/-- Result `main_v16` after the later operations from the region's exit contents. -/
theorem fin_main_v16 (c : Dev nD) :
    Pipeline.afterTail₀ cfgs (Gen.dats m) 0 (Gen.V0 m) [Gen.hostOps1] c main_v16 = shapeCast _ (transpose S2x10x64x24x128 [0, 2, 3, 1, 4] (reg_main_v12_2 m c) transposes_S2x24x10x64x128_S2x10x64x24x128_0_2_3_1_4) shapeCasts_S2x10x64x24x128_S2x640x24x128 :=
  (tail_main_v16 (exitV m c)).trans (by rw [exit_main_v12_2])

set_option maxHeartbeats 1200000 in
/-- The later operations from any contents `V0`, read at result `main_v19`. -/
theorem tail_main_v19 (V0 : Valuation τ sig (Elt F)) :
    after (List.flatten [Gen.hostOps1]) V0 (Proc.devRef .tc main_v19) = transpose S2x10x24 [0, 2, 1] (shapeCast _ (extractStridedSlice S2x24x10x1 ![0, 0, 0, 0] (V0 (Proc.devRef .tc main_v12_3)) slices_S2x24x10x128_S2x24x10x1_0_0_0_0) shapeCasts_S2x24x10x1_S2x24x10) transposes_S2x24x10_S2x10x24_0_2_1 := by
  simp only [Gen.hostOps1, List.flatten_cons, List.flatten_nil, List.append_nil, List.cons_append, List.nil_append]
  after_results <;> rfl
/-- Result `main_v19` after the later operations from the region's exit contents. -/
theorem fin_main_v19 (c : Dev nD) :
    Pipeline.afterTail₀ cfgs (Gen.dats m) 0 (Gen.V0 m) [Gen.hostOps1] c main_v19 = transpose S2x10x24 [0, 2, 1] (shapeCast _ (extractStridedSlice S2x24x10x1 ![0, 0, 0, 0] (reg_main_v12_3 m c) slices_S2x24x10x128_S2x24x10x1_0_0_0_0) shapeCasts_S2x24x10x1_S2x24x10) transposes_S2x24x10_S2x10x24_0_2_1 :=
  (tail_main_v19 (exitV m c)).trans (by rw [exit_main_v12_3])

set_option maxHeartbeats 1200000 in
/-- The later operations from any contents `V0`, read at result `main_v21`. -/
theorem tail_main_v21 (V0 : Valuation τ sig (Elt F)) :
    after (List.flatten [Gen.hostOps1]) V0 (Proc.devRef .tc main_v21) = shapeCast _ (transpose S2x10x64x24x128 [0, 2, 3, 1, 4] (V0 (Proc.devRef .tc main_v12_4)) transposes_S2x24x10x64x128_S2x10x64x24x128_0_2_3_1_4) shapeCasts_S2x10x64x24x128_S2x640x24x128 := by
  simp only [Gen.hostOps1, List.flatten_cons, List.flatten_nil, List.append_nil, List.cons_append, List.nil_append]
  after_results <;> rfl
/-- Result `main_v21` after the later operations from the region's exit contents. -/
theorem fin_main_v21 (c : Dev nD) :
    Pipeline.afterTail₀ cfgs (Gen.dats m) 0 (Gen.V0 m) [Gen.hostOps1] c main_v21 = shapeCast _ (transpose S2x10x64x24x128 [0, 2, 3, 1, 4] (reg_main_v12_4 m c) transposes_S2x24x10x64x128_S2x10x64x24x128_0_2_3_1_4) shapeCasts_S2x10x64x24x128_S2x640x24x128 :=
  (tail_main_v21 (exitV m c)).trans (by rw [exit_main_v12_4])

set_option maxHeartbeats 1200000 in
/-- The later operations from any contents `V0`, read at result `main_v24`. -/
theorem tail_main_v24 (V0 : Valuation τ sig (Elt F)) :
    after (List.flatten [Gen.hostOps1]) V0 (Proc.devRef .tc main_v24) = transpose S2x10x24 [0, 2, 1] (shapeCast _ (extractStridedSlice S2x24x10x1 ![0, 0, 0, 0] (V0 (Proc.devRef .tc main_v12_5)) slices_S2x24x10x128_S2x24x10x1_0_0_0_0) shapeCasts_S2x24x10x1_S2x24x10) transposes_S2x24x10_S2x10x24_0_2_1 := by
  simp only [Gen.hostOps1, List.flatten_cons, List.flatten_nil, List.append_nil, List.cons_append, List.nil_append]
  after_results <;> rfl
/-- Result `main_v24` after the later operations from the region's exit contents. -/
theorem fin_main_v24 (c : Dev nD) :
    Pipeline.afterTail₀ cfgs (Gen.dats m) 0 (Gen.V0 m) [Gen.hostOps1] c main_v24 = transpose S2x10x24 [0, 2, 1] (shapeCast _ (extractStridedSlice S2x24x10x1 ![0, 0, 0, 0] (reg_main_v12_5 m c) slices_S2x24x10x128_S2x24x10x1_0_0_0_0) shapeCasts_S2x24x10x1_S2x24x10) transposes_S2x24x10_S2x10x24_0_2_1 :=
  (tail_main_v24 (exitV m c)).trans (by rw [exit_main_v12_5])

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v14) = shapeCast _ (transpose S2x10x64x24x256 [0, 2, 3, 1, 4] (reg_main_v12_0 m c) transposes_S2x24x10x64x256_S2x10x64x24x256_0_2_3_1_4) shapeCasts_S2x10x64x24x256_S2x640x24x256
      ∧ r.2.mem ((c.tc : Thread nD τ).loc main_v12_1) = reg_main_v12_1 m c
      ∧ r.2.mem ((c.tc : Thread nD τ).loc main_v16) = shapeCast _ (transpose S2x10x64x24x128 [0, 2, 3, 1, 4] (reg_main_v12_2 m c) transposes_S2x24x10x64x128_S2x10x64x24x128_0_2_3_1_4) shapeCasts_S2x10x64x24x128_S2x640x24x128
      ∧ r.2.mem ((c.tc : Thread nD τ).loc main_v19) = transpose S2x10x24 [0, 2, 1] (shapeCast _ (extractStridedSlice S2x24x10x1 ![0, 0, 0, 0] (reg_main_v12_3 m c) slices_S2x24x10x128_S2x24x10x1_0_0_0_0) shapeCasts_S2x24x10x1_S2x24x10) transposes_S2x24x10_S2x10x24_0_2_1
      ∧ r.2.mem ((c.tc : Thread nD τ).loc main_v21) = shapeCast _ (transpose S2x10x64x24x128 [0, 2, 3, 1, 4] (reg_main_v12_4 m c) transposes_S2x24x10x64x128_S2x10x64x24x128_0_2_3_1_4) shapeCasts_S2x10x64x24x128_S2x640x24x128
      ∧ r.2.mem ((c.tc : Thread nD τ).loc main_v24) = transpose S2x10x24 [0, 2, 1] (shapeCast _ (extractStridedSlice S2x24x10x1 ![0, 0, 0, 0] (reg_main_v12_5 m c) slices_S2x24x10x128_S2x24x10x1_0_0_0_0) shapeCasts_S2x24x10x1_S2x24x10) transposes_S2x24x10_S2x10x24_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v14 (Pipeline.mem_restRefs_of main_v14 (by decide) (by decide))).trans (fin_main_v14 m c),
      ((h c).1 7).trans (show _ = reg_main_v12_1 m c from rfl),
      ((h c).2 main_v16 (Pipeline.mem_restRefs_of main_v16 (by decide) (by decide))).trans (fin_main_v16 m c),
      ((h c).2 main_v19 (Pipeline.mem_restRefs_of main_v19 (by decide) (by decide))).trans (fin_main_v19 m c),
      ((h c).2 main_v21 (Pipeline.mem_restRefs_of main_v21 (by decide) (by decide))).trans (fin_main_v21 m c),
      ((h c).2 main_v24 (Pipeline.mem_restRefs_of main_v24 (by decide) (by decide))).trans (fin_main_v24 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).1 5).trans (((Gen.dats m 0 c).arrAt_in 5 rfl _).trans ((Gen.A_eq m c 5).trans (Gen.V_main_arg5 m c)))⟩) (Gen.run_main m ρ)

end Cert.KernelIdeal.Value

end
-- ==== Proof.IdealArrays.lean ====
/- What the region leaves in its result arrays, block by block, and the blocks it reads, in terms of the arguments. -/
module

public import proofs.«01_k».proof.Proof.IdealRun
public import proofs.«01_k».proof.Proof.Chunks
public import Idealize.ShloMosaic.Lib.Pipeline.Value
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo
open Idealize.ShloMosaic.Tactic
open Idealize.ShloMosaic.Pipeline (Dat)
open Cert.Spec (pos)

variable {F : FTy → Type} [FloatOps F]
variable (m : (ℓ : Loc nD τ sig) → Buf (Elt F) ℓ)

/-- The point of the grid at batch `b` and head `h`. -/
def pt (b : Fin 2) (h : Fin 24) : Fin cfg0.N := ⟨b.val * 24 + h.val, by have := N_0; show _ < grid0.N; omega⟩
/-- Every point is one of these. -/
theorem pt_surj (t : Fin cfg0.N) : ∃ b h, t = pt b h := by
  have hN : cfg0.N = 48 := N_0
  have := t.isLt
  exact ⟨⟨t.val / 24, by omega⟩, ⟨t.val % 24, by omega⟩, Fin.ext (by show t.val = t.val / 24 * 24 + t.val % 24; omega)⟩

/-! ## The blocks the region reads -/

/-- The block of the queries window at each grid point: batch and head, whole in the other axes. -/
theorem ind0 : ∀ (b : Fin 2) (h : Fin 24), win0_0.index (pt b h) 0 = b.val ∧ win0_0.index (pt b h) 1 = h.val ∧ win0_0.index (pt b h) 2 = 0 ∧ win0_0.index (pt b h) 3 = 0 ∧ win0_0.index (pt b h) 4 = 0 := by decide +kernel
/-- The block of input 0 at batch `b` and head `h`. -/
theorem iblk0 (c : Dev nD) (b : Fin 2) (h : Fin 24) (x : Fin 10) (y : Fin 64) (z : Fin 128) :
    iblk m c 0 (pt b h) (ix5 0 0 x y z) = V m c main_v1 (ix5 b h x y z) := by
  obtain ⟨e0, e1, e2, e3, e4⟩ := ind0 b h
  refine congrArg (V m c main_v1) (funext fun a => Fin.ext ?_)
  match a with
  | ⟨0, _⟩ => show win0_0.index (pt b h) 0 * 1 + 1 * 0 = b.val; rw [e0]; omega
  | ⟨1, _⟩ => show win0_0.index (pt b h) 1 * 1 + 1 * 0 = h.val; rw [e1]; omega
  | ⟨2, _⟩ => show win0_0.index (pt b h) 2 * 10 + 1 * x.val = x.val; rw [e2]; omega
  | ⟨3, _⟩ => show win0_0.index (pt b h) 3 * 64 + 1 * y.val = y.val; rw [e3]; omega
  | ⟨4, _⟩ => show win0_0.index (pt b h) 4 * 128 + 1 * z.val = z.val; rw [e4]; omega

/-- The block of the keys window at each grid point: batch and head, whole in the other axes. -/
theorem ind1 : ∀ (b : Fin 2) (h : Fin 24), win0_1.index (pt b h) 0 = b.val ∧ win0_1.index (pt b h) 1 = h.val ∧ win0_1.index (pt b h) 2 = 0 ∧ win0_1.index (pt b h) 3 = 0 ∧ win0_1.index (pt b h) 4 = 0 := by decide +kernel
/-- The block of input 1 at batch `b` and head `h`. -/
theorem iblk1 (c : Dev nD) (b : Fin 2) (h : Fin 24) (x : Fin 10) (y : Fin 64) (z : Fin 128) :
    iblk m c 1 (pt b h) (ix5 0 0 x y z) = V m c main_v3 (ix5 b h x y z) := by
  obtain ⟨e0, e1, e2, e3, e4⟩ := ind1 b h
  refine congrArg (V m c main_v3) (funext fun a => Fin.ext ?_)
  match a with
  | ⟨0, _⟩ => show win0_1.index (pt b h) 0 * 1 + 1 * 0 = b.val; rw [e0]; omega
  | ⟨1, _⟩ => show win0_1.index (pt b h) 1 * 1 + 1 * 0 = h.val; rw [e1]; omega
  | ⟨2, _⟩ => show win0_1.index (pt b h) 2 * 10 + 1 * x.val = x.val; rw [e2]; omega
  | ⟨3, _⟩ => show win0_1.index (pt b h) 3 * 64 + 1 * y.val = y.val; rw [e3]; omega
  | ⟨4, _⟩ => show win0_1.index (pt b h) 4 * 128 + 1 * z.val = z.val; rw [e4]; omega

/-- The block of the values window at each grid point: batch and head, whole in the other axes. -/
theorem ind2 : ∀ (b : Fin 2) (h : Fin 24), win0_2.index (pt b h) 0 = b.val ∧ win0_2.index (pt b h) 1 = h.val ∧ win0_2.index (pt b h) 2 = 0 ∧ win0_2.index (pt b h) 3 = 0 ∧ win0_2.index (pt b h) 4 = 0 := by decide +kernel
/-- The block of input 2 at batch `b` and head `h`. -/
theorem iblk2 (c : Dev nD) (b : Fin 2) (h : Fin 24) (x : Fin 10) (y : Fin 64) (z : Fin 256) :
    iblk m c 2 (pt b h) (ix5 0 0 x y z) = V m c main_v5 (ix5 b h x y z) := by
  obtain ⟨e0, e1, e2, e3, e4⟩ := ind2 b h
  refine congrArg (V m c main_v5) (funext fun a => Fin.ext ?_)
  match a with
  | ⟨0, _⟩ => show win0_2.index (pt b h) 0 * 1 + 1 * 0 = b.val; rw [e0]; omega
  | ⟨1, _⟩ => show win0_2.index (pt b h) 1 * 1 + 1 * 0 = h.val; rw [e1]; omega
  | ⟨2, _⟩ => show win0_2.index (pt b h) 2 * 10 + 1 * x.val = x.val; rw [e2]; omega
  | ⟨3, _⟩ => show win0_2.index (pt b h) 3 * 64 + 1 * y.val = y.val; rw [e3]; omega
  | ⟨4, _⟩ => show win0_2.index (pt b h) 4 * 256 + 1 * z.val = z.val; rw [e4]; omega

/-- The block of the decays window at each grid point: batch and head, whole in the other axes. -/
theorem ind3 : ∀ (b : Fin 2) (h : Fin 24), win0_3.index (pt b h) 0 = b.val ∧ win0_3.index (pt b h) 1 = h.val ∧ win0_3.index (pt b h) 2 = 0 ∧ win0_3.index (pt b h) 3 = 0 := by decide +kernel
/-- The block of input 3 at batch `b` and head `h`. -/
theorem iblk3 (c : Dev nD) (b : Fin 2) (h : Fin 24) (x : Fin 10) (y : Fin 64) :
    iblk m c 3 (pt b h) (ix4 0 0 x y) = V m c main_v8 (ix4 b h x y) := by
  obtain ⟨e0, e1, e2, e3⟩ := ind3 b h
  refine congrArg (V m c main_v8) (funext fun a => Fin.ext ?_)
  match a with
  | ⟨0, _⟩ => show win0_3.index (pt b h) 0 * 1 + 1 * 0 = b.val; rw [e0]; omega
  | ⟨1, _⟩ => show win0_3.index (pt b h) 1 * 1 + 1 * 0 = h.val; rw [e1]; omega
  | ⟨2, _⟩ => show win0_3.index (pt b h) 2 * 10 + 1 * x.val = x.val; rw [e2]; omega
  | ⟨3, _⟩ => show win0_3.index (pt b h) 3 * 64 + 1 * y.val = y.val; rw [e3]; omega

/-- The block of the write strengths window at each grid point: batch and head, whole in the other axes. -/
theorem ind4 : ∀ (b : Fin 2) (h : Fin 24), win0_4.index (pt b h) 0 = b.val ∧ win0_4.index (pt b h) 1 = h.val ∧ win0_4.index (pt b h) 2 = 0 ∧ win0_4.index (pt b h) 3 = 0 := by decide +kernel
/-- The block of input 4 at batch `b` and head `h`. -/
theorem iblk4 (c : Dev nD) (b : Fin 2) (h : Fin 24) (x : Fin 10) (y : Fin 64) :
    iblk m c 4 (pt b h) (ix4 0 0 x y) = V m c main_v11 (ix4 b h x y) := by
  obtain ⟨e0, e1, e2, e3⟩ := ind4 b h
  refine congrArg (V m c main_v11) (funext fun a => Fin.ext ?_)
  match a with
  | ⟨0, _⟩ => show win0_4.index (pt b h) 0 * 1 + 1 * 0 = b.val; rw [e0]; omega
  | ⟨1, _⟩ => show win0_4.index (pt b h) 1 * 1 + 1 * 0 = h.val; rw [e1]; omega
  | ⟨2, _⟩ => show win0_4.index (pt b h) 2 * 10 + 1 * x.val = x.val; rw [e2]; omega
  | ⟨3, _⟩ => show win0_4.index (pt b h) 3 * 64 + 1 * y.val = y.val; rw [e3]; omega

/-- The block of the initial state window at each grid point: batch and head, whole in the other axes. -/
theorem ind5 : ∀ (b : Fin 2) (h : Fin 24), win0_5.index (pt b h) 0 = b.val ∧ win0_5.index (pt b h) 1 = h.val ∧ win0_5.index (pt b h) 2 = 0 ∧ win0_5.index (pt b h) 3 = 0 := by decide +kernel
/-- The block of input 5 at batch `b` and head `h`. -/
theorem iblk5 (c : Dev nD) (b : Fin 2) (h : Fin 24) (x : Fin 128) (y : Fin 256) :
    iblk m c 5 (pt b h) (ix4 0 0 x y) = V m c main_arg5 (ix4 b h x y) := by
  obtain ⟨e0, e1, e2, e3⟩ := ind5 b h
  refine congrArg (V m c main_arg5) (funext fun a => Fin.ext ?_)
  match a with
  | ⟨0, _⟩ => show win0_5.index (pt b h) 0 * 1 + 1 * 0 = b.val; rw [e0]; omega
  | ⟨1, _⟩ => show win0_5.index (pt b h) 1 * 1 + 1 * 0 = h.val; rw [e1]; omega
  | ⟨2, _⟩ => show win0_5.index (pt b h) 2 * 128 + 1 * x.val = x.val; rw [e2]; omega
  | ⟨3, _⟩ => show win0_5.index (pt b h) 3 * 256 + 1 * y.val = y.val; rw [e3]; omega

/-! ## The arrays it reads, in terms of the arguments -/

/-- The cut into chunks, read at an index. -/
theorem cut128 {e : EltTy} (y : Vec F S2x640x24x128 e) (b : Fin 2) (h : Fin 24) (n : Fin 10) (i : Fin 64) (d : Fin 128) :
    transpose S2x24x10x64x128 [0, 3, 1, 2, 4] (shapeCast S2x10x64x24x128 y shapeCasts_S2x640x24x128_S2x10x64x24x128) transposes_S2x10x64x24x128_S2x24x10x64x128_0_3_1_2_4 (ix5 b h n i d)
      = y (ix4 b (pos n i) h d) := by
  pointwise
  rfl
/-- The cut into chunks, read at an index. -/
theorem cut256 {e : EltTy} (y : Vec F S2x640x24x256 e) (b : Fin 2) (h : Fin 24) (n : Fin 10) (i : Fin 64) (d : Fin 256) :
    transpose S2x24x10x64x256 [0, 3, 1, 2, 4] (shapeCast S2x10x64x24x256 y shapeCasts_S2x640x24x256_S2x10x64x24x256) transposes_S2x10x64x24x256_S2x24x10x64x256_0_3_1_2_4 (ix5 b h n i d)
      = y (ix4 b (pos n i) h d) := by
  pointwise
  rfl
/-- The cut into chunks of a number per position, read at an index. -/
theorem cut1 {e : EltTy} (y : Vec F S2x640x24 e) (b : Fin 2) (h : Fin 24) (n : Fin 10) (i : Fin 64) :
    shapeCast S2x24x10x64 (transpose S2x24x10x64x1 [0, 3, 1, 2, 4] (shapeCast S2x10x64x24x1 y shapeCasts_S2x640x24_S2x10x64x24x1) transposes_S2x10x64x24x1_S2x24x10x64x1_0_3_1_2_4) shapeCasts_S2x24x10x64x1_S2x24x10x64 (ix4 b h n i)
      = y (ix3 b (pos n i) h) := by
  pointwise
  rfl
/-- The array the region finds for `q`: the argument cut into chunks, the heads moved before them. -/
theorem V_v1 (c : Dev nD) : V m c main_v1 = transpose S2x24x10x64x128 [0, 3, 1, 2, 4] (shapeCast _ (m ((c : Thread nD τ).loc main_arg0)) shapeCasts_S2x640x24x128_S2x10x64x24x128) transposes_S2x10x64x24x128_S2x24x10x64x128_0_3_1_2_4 := by
  show after (List.flatten [Gen.hostOps0]) (fun b => m (c, b)) (Proc.devRef .tc main_v1) = _
  simp only [Gen.hostOps0, List.flatten_cons, List.flatten_nil, List.append_nil, List.cons_append, List.nil_append]
  after_results <;> rfl
/-- The array the region reads from argument 0: position `i` of chunk `n` of head `h`. -/
theorem in_v1 (c : Dev nD) (b : Fin 2) (h : Fin 24) (n : Fin 10) (i : Fin 64) (d : Fin 128) :
    V m c main_v1 (ix5 b h n i d) = m ((c : Thread nD τ).loc main_arg0) (ix4 b (pos n i) h d) :=
  (congrFun (V_v1 m c) _).trans (cut128 (e := .bf16) (m ((c : Thread nD τ).loc main_arg0)) b h n i d)

/-- The array the region finds for `k`: the argument cut into chunks, the heads moved before them. -/
theorem V_v3 (c : Dev nD) : V m c main_v3 = transpose S2x24x10x64x128 [0, 3, 1, 2, 4] (shapeCast _ (m ((c : Thread nD τ).loc main_arg1)) shapeCasts_S2x640x24x128_S2x10x64x24x128) transposes_S2x10x64x24x128_S2x24x10x64x128_0_3_1_2_4 := by
  show after (List.flatten [Gen.hostOps0]) (fun b => m (c, b)) (Proc.devRef .tc main_v3) = _
  simp only [Gen.hostOps0, List.flatten_cons, List.flatten_nil, List.append_nil, List.cons_append, List.nil_append]
  after_results <;> rfl
/-- The array the region reads from argument 1: position `i` of chunk `n` of head `h`. -/
theorem in_v3 (c : Dev nD) (b : Fin 2) (h : Fin 24) (n : Fin 10) (i : Fin 64) (d : Fin 128) :
    V m c main_v3 (ix5 b h n i d) = m ((c : Thread nD τ).loc main_arg1) (ix4 b (pos n i) h d) :=
  (congrFun (V_v3 m c) _).trans (cut128 (e := .bf16) (m ((c : Thread nD τ).loc main_arg1)) b h n i d)

/-- The array the region finds for `v`: the argument cut into chunks, the heads moved before them. -/
theorem V_v5 (c : Dev nD) : V m c main_v5 = transpose S2x24x10x64x256 [0, 3, 1, 2, 4] (shapeCast _ (m ((c : Thread nD τ).loc main_arg2)) shapeCasts_S2x640x24x256_S2x10x64x24x256) transposes_S2x10x64x24x256_S2x24x10x64x256_0_3_1_2_4 := by
  show after (List.flatten [Gen.hostOps0]) (fun b => m (c, b)) (Proc.devRef .tc main_v5) = _
  simp only [Gen.hostOps0, List.flatten_cons, List.flatten_nil, List.append_nil, List.cons_append, List.nil_append]
  after_results <;> rfl
/-- The array the region reads from argument 2: position `i` of chunk `n` of head `h`. -/
theorem in_v5 (c : Dev nD) (b : Fin 2) (h : Fin 24) (n : Fin 10) (i : Fin 64) (d : Fin 256) :
    V m c main_v5 (ix5 b h n i d) = m ((c : Thread nD τ).loc main_arg2) (ix4 b (pos n i) h d) :=
  (congrFun (V_v5 m c) _).trans (cut256 (e := .bf16) (m ((c : Thread nD τ).loc main_arg2)) b h n i d)

/-- The array the region finds for `g`: the argument cut into chunks, the heads moved before them. -/
theorem V_v8 (c : Dev nD) : V m c main_v8 = shapeCast _ (transpose S2x24x10x64x1 [0, 3, 1, 2, 4] (shapeCast _ (m ((c : Thread nD τ).loc main_arg3)) shapeCasts_S2x640x24_S2x10x64x24x1) transposes_S2x10x64x24x1_S2x24x10x64x1_0_3_1_2_4) shapeCasts_S2x24x10x64x1_S2x24x10x64 := by
  show after (List.flatten [Gen.hostOps0]) (fun b => m (c, b)) (Proc.devRef .tc main_v8) = _
  simp only [Gen.hostOps0, List.flatten_cons, List.flatten_nil, List.append_nil, List.cons_append, List.nil_append]
  after_results <;> rfl
/-- The array the region reads from argument 3: position `i` of chunk `n` of head `h`. -/
theorem in_v8 (c : Dev nD) (b : Fin 2) (h : Fin 24) (n : Fin 10) (i : Fin 64) :
    V m c main_v8 (ix4 b h n i) = m ((c : Thread nD τ).loc main_arg3) (ix3 b (pos n i) h) :=
  (congrFun (V_v8 m c) _).trans (cut1 (e := .f32) (m ((c : Thread nD τ).loc main_arg3)) b h n i)

/-- The array the region finds for `beta`: the argument cut into chunks, the heads moved before them. -/
theorem V_v11 (c : Dev nD) : V m c main_v11 = shapeCast _ (transpose S2x24x10x64x1 [0, 3, 1, 2, 4] (shapeCast _ (m ((c : Thread nD τ).loc main_arg4)) shapeCasts_S2x640x24_S2x10x64x24x1) transposes_S2x10x64x24x1_S2x24x10x64x1_0_3_1_2_4) shapeCasts_S2x24x10x64x1_S2x24x10x64 := by
  show after (List.flatten [Gen.hostOps0]) (fun b => m (c, b)) (Proc.devRef .tc main_v11) = _
  simp only [Gen.hostOps0, List.flatten_cons, List.flatten_nil, List.append_nil, List.cons_append, List.nil_append]
  after_results <;> rfl
/-- The array the region reads from argument 4: position `i` of chunk `n` of head `h`. -/
theorem in_v11 (c : Dev nD) (b : Fin 2) (h : Fin 24) (n : Fin 10) (i : Fin 64) :
    V m c main_v11 (ix4 b h n i) = m ((c : Thread nD τ).loc main_arg4) (ix3 b (pos n i) h) :=
  (congrFun (V_v11 m c) _).trans (cut1 (e := .f32) (m ((c : Thread nD τ).loc main_arg4)) b h n i)

/-! ## What the region leaves -/

/-- The block of the output window at each grid point: batch and head, whole in the other axes. -/
theorem ind6 : ∀ (b : Fin 2) (h : Fin 24), win0_6.index (pt b h) 0 = b.val ∧ win0_6.index (pt b h) 1 = h.val ∧ win0_6.index (pt b h) 2 = 0 ∧ win0_6.index (pt b h) 3 = 0 ∧ win0_6.index (pt b h) 4 = 0 := by decide +kernel
/-- The extents of the block of the output window at each grid point. -/
theorem xs6 : ∀ (b : Fin 2) (h : Fin 24), win0_6.xsize (grid0.coords (pt b h)) 0 = 1 ∧ win0_6.xsize (grid0.coords (pt b h)) 1 = 1 ∧ win0_6.xsize (grid0.coords (pt b h)) 2 = 10 ∧ win0_6.xsize (grid0.coords (pt b h)) 3 = 64 ∧ win0_6.xsize (grid0.coords (pt b h)) 4 = 256 := by decide +kernel
/-- Result array 6 of the region, block by block. -/
def arr6 (c : Dev nD) : Buf (Elt F) ((c : Thread nD τ).loc (Pipeline.arrRef spec0 6)) := fun p : S2x24x10x64x256.Idx =>
  out8 (iblk m c 0 (pt (p 0) (p 1))) (iblk m c 1 (pt (p 0) (p 1))) (iblk m c 2 (pt (p 0) (p 1))) (iblk m c 3 (pt (p 0) (p 1))) (iblk m c 4 (pt (p 0) (p 1))) (iblk m c 5 (pt (p 0) (p 1))) (ix5 0 0 (p 2) (p 3) (p 4))
/-- What each grid point writes back to the output is its block of the whole array. -/
theorem flushed6 (c : Dev nD) (t : Fin cfg0.N) :
    (dats m 0 c).flushed 6 t = (win0_6.blk t).view.read (Elt F) (arr6 m c) := by
  obtain ⟨b, h, rfl⟩ := pt_surj t
  obtain ⟨e0, e1, e2, e3, e4⟩ := ind6 b h
  show (cfg0.win 6).cut (grid0.coords (pt b h)) ((dats m 0 c).after 6 (pt b h)) = _
  rw [after0_6]
  funext y
  have h0 : (y 0 : ℕ) < 1 := (y 0).isLt
  have h1 : (y 1 : ℕ) < 1 := (y 1).isLt
  refine Eq.trans (b := arr6 m c (ix5 b h (y 2) (y 3) (y 4))) ?_ (congrArg (arr6 m c) (funext fun a => Fin.ext ?_))
  · refine congrArg (out8 (iblk m c 0 (pt b h)) (iblk m c 1 (pt b h)) (iblk m c 2 (pt b h)) (iblk m c 3 (pt b h)) (iblk m c 4 (pt b h)) (iblk m c 5 (pt b h))) (funext fun a => Fin.ext ?_)
    match a with
    | ⟨0, _⟩ => show (y 0 : ℕ) = 0; omega
    | ⟨1, _⟩ => show (y 1 : ℕ) = 0; omega
    | ⟨2, _⟩ => rfl
    | ⟨3, _⟩ => rfl
    | ⟨4, _⟩ => rfl
  · match a with
    | ⟨0, _⟩ => show b.val = win0_6.index (pt b h) 0 * 1 + 1 * (y 0 : ℕ); rw [e0]; omega
    | ⟨1, _⟩ => show h.val = win0_6.index (pt b h) 1 * 1 + 1 * (y 1 : ℕ); rw [e1]; omega
    | ⟨2, _⟩ => show (y 2 : ℕ) = win0_6.index (pt b h) 2 * 10 + 1 * (y 2 : ℕ); rw [e2]; omega
    | ⟨3, _⟩ => show (y 3 : ℕ) = win0_6.index (pt b h) 3 * 64 + 1 * (y 3 : ℕ); rw [e3]; omega
    | ⟨4, _⟩ => show (y 4 : ℕ) = win0_6.index (pt b h) 4 * 256 + 1 * (y 4 : ℕ); rw [e4]; omega
/-- Every index of the output lies in a block that some grid point writes back. -/
theorem cover6 (i : S2x24x10x64x256.Idx) :
    ∃ t : Fin cfg0.N, (cfg0.win 6).flush t = true ∧ i ∈ ((cfg0.win 6).blk t).view.set := by
  obtain ⟨e0, e1, e2, e3, e4⟩ := ind6 (i 0) (i 1)
  obtain ⟨x0, x1, x2, x3, x4⟩ := xs6 (i 0) (i 1)
  refine ⟨pt (i 0) (i 1), flush0_6 _, ?_⟩
  show i ∈ ((View.whole main_v12_0).slice (win0_6.rect (pt (i 0) (i 1)))).set
  rw [View.set_slice_whole, Rect.mem_set_unit]
  intro a
  match a with
  | ⟨0, _⟩ => show win0_6.index (pt (i 0) (i 1)) 0 * 1 ≤ (i 0 : ℕ) ∧ (i 0 : ℕ) < win0_6.index (pt (i 0) (i 1)) 0 * 1 + win0_6.xsize (grid0.coords (pt (i 0) (i 1))) 0; rw [e0, x0]; have hi : (i 0 : ℕ) < 2 := (i 0).isLt; omega
  | ⟨1, _⟩ => show win0_6.index (pt (i 0) (i 1)) 1 * 1 ≤ (i 1 : ℕ) ∧ (i 1 : ℕ) < win0_6.index (pt (i 0) (i 1)) 1 * 1 + win0_6.xsize (grid0.coords (pt (i 0) (i 1))) 1; rw [e1, x1]; have hi : (i 1 : ℕ) < 24 := (i 1).isLt; omega
  | ⟨2, _⟩ => show win0_6.index (pt (i 0) (i 1)) 2 * 10 ≤ (i 2 : ℕ) ∧ (i 2 : ℕ) < win0_6.index (pt (i 0) (i 1)) 2 * 10 + win0_6.xsize (grid0.coords (pt (i 0) (i 1))) 2; rw [e2, x2]; have hi : (i 2 : ℕ) < 10 := (i 2).isLt; omega
  | ⟨3, _⟩ => show win0_6.index (pt (i 0) (i 1)) 3 * 64 ≤ (i 3 : ℕ) ∧ (i 3 : ℕ) < win0_6.index (pt (i 0) (i 1)) 3 * 64 + win0_6.xsize (grid0.coords (pt (i 0) (i 1))) 3; rw [e3, x3]; have hi : (i 3 : ℕ) < 64 := (i 3).isLt; omega
  | ⟨4, _⟩ => show win0_6.index (pt (i 0) (i 1)) 4 * 256 ≤ (i 4 : ℕ) ∧ (i 4 : ℕ) < win0_6.index (pt (i 0) (i 1)) 4 * 256 + win0_6.xsize (grid0.coords (pt (i 0) (i 1))) 4; rw [e4, x4]; have hi : (i 4 : ℕ) < 256 := (i 4).isLt; omega
/-- What the region leaves in result array 6. -/
theorem reg6 (c : Dev nD) : reg_main_v12_0 m c = arr6 m c :=
  (dats m 0 c).arrAt_eq_of_cover 6 (arr6 m c) (fun t _ => flushed6 m c t) cover6

/-- The block of the final state window at each grid point: batch and head, whole in the other axes. -/
theorem ind7 : ∀ (b : Fin 2) (h : Fin 24), win0_7.index (pt b h) 0 = b.val ∧ win0_7.index (pt b h) 1 = h.val ∧ win0_7.index (pt b h) 2 = 0 ∧ win0_7.index (pt b h) 3 = 0 := by decide +kernel
/-- The extents of the block of the final state window at each grid point. -/
theorem xs7 : ∀ (b : Fin 2) (h : Fin 24), win0_7.xsize (grid0.coords (pt b h)) 0 = 1 ∧ win0_7.xsize (grid0.coords (pt b h)) 1 = 1 ∧ win0_7.xsize (grid0.coords (pt b h)) 2 = 128 ∧ win0_7.xsize (grid0.coords (pt b h)) 3 = 256 := by decide +kernel
/-- Result array 7 of the region, block by block. -/
def arr7 (c : Dev nD) : Buf (Elt F) ((c : Thread nD τ).loc (Pipeline.arrRef spec0 7)) := fun p : S2x24x128x256.Idx =>
  out9 (iblk m c 1 (pt (p 0) (p 1))) (iblk m c 2 (pt (p 0) (p 1))) (iblk m c 3 (pt (p 0) (p 1))) (iblk m c 4 (pt (p 0) (p 1))) (iblk m c 5 (pt (p 0) (p 1))) (ix4 0 0 (p 2) (p 3))
/-- What each grid point writes back to the final state is its block of the whole array. -/
theorem flushed7 (c : Dev nD) (t : Fin cfg0.N) :
    (dats m 0 c).flushed 7 t = (win0_7.blk t).view.read (Elt F) (arr7 m c) := by
  obtain ⟨b, h, rfl⟩ := pt_surj t
  obtain ⟨e0, e1, e2, e3⟩ := ind7 b h
  show (cfg0.win 7).cut (grid0.coords (pt b h)) ((dats m 0 c).after 7 (pt b h)) = _
  rw [after0_7]
  funext y
  have h0 : (y 0 : ℕ) < 1 := (y 0).isLt
  have h1 : (y 1 : ℕ) < 1 := (y 1).isLt
  refine Eq.trans (b := arr7 m c (ix4 b h (y 2) (y 3))) ?_ (congrArg (arr7 m c) (funext fun a => Fin.ext ?_))
  · refine congrArg (out9 (iblk m c 1 (pt b h)) (iblk m c 2 (pt b h)) (iblk m c 3 (pt b h)) (iblk m c 4 (pt b h)) (iblk m c 5 (pt b h))) (funext fun a => Fin.ext ?_)
    match a with
    | ⟨0, _⟩ => show (y 0 : ℕ) = 0; omega
    | ⟨1, _⟩ => show (y 1 : ℕ) = 0; omega
    | ⟨2, _⟩ => rfl
    | ⟨3, _⟩ => rfl
  · match a with
    | ⟨0, _⟩ => show b.val = win0_7.index (pt b h) 0 * 1 + 1 * (y 0 : ℕ); rw [e0]; omega
    | ⟨1, _⟩ => show h.val = win0_7.index (pt b h) 1 * 1 + 1 * (y 1 : ℕ); rw [e1]; omega
    | ⟨2, _⟩ => show (y 2 : ℕ) = win0_7.index (pt b h) 2 * 128 + 1 * (y 2 : ℕ); rw [e2]; omega
    | ⟨3, _⟩ => show (y 3 : ℕ) = win0_7.index (pt b h) 3 * 256 + 1 * (y 3 : ℕ); rw [e3]; omega
/-- Every index of the final state lies in a block that some grid point writes back. -/
theorem cover7 (i : S2x24x128x256.Idx) :
    ∃ t : Fin cfg0.N, (cfg0.win 7).flush t = true ∧ i ∈ ((cfg0.win 7).blk t).view.set := by
  obtain ⟨e0, e1, e2, e3⟩ := ind7 (i 0) (i 1)
  obtain ⟨x0, x1, x2, x3⟩ := xs7 (i 0) (i 1)
  refine ⟨pt (i 0) (i 1), flush0_7 _, ?_⟩
  show i ∈ ((View.whole main_v12_1).slice (win0_7.rect (pt (i 0) (i 1)))).set
  rw [View.set_slice_whole, Rect.mem_set_unit]
  intro a
  match a with
  | ⟨0, _⟩ => show win0_7.index (pt (i 0) (i 1)) 0 * 1 ≤ (i 0 : ℕ) ∧ (i 0 : ℕ) < win0_7.index (pt (i 0) (i 1)) 0 * 1 + win0_7.xsize (grid0.coords (pt (i 0) (i 1))) 0; rw [e0, x0]; have hi : (i 0 : ℕ) < 2 := (i 0).isLt; omega
  | ⟨1, _⟩ => show win0_7.index (pt (i 0) (i 1)) 1 * 1 ≤ (i 1 : ℕ) ∧ (i 1 : ℕ) < win0_7.index (pt (i 0) (i 1)) 1 * 1 + win0_7.xsize (grid0.coords (pt (i 0) (i 1))) 1; rw [e1, x1]; have hi : (i 1 : ℕ) < 24 := (i 1).isLt; omega
  | ⟨2, _⟩ => show win0_7.index (pt (i 0) (i 1)) 2 * 128 ≤ (i 2 : ℕ) ∧ (i 2 : ℕ) < win0_7.index (pt (i 0) (i 1)) 2 * 128 + win0_7.xsize (grid0.coords (pt (i 0) (i 1))) 2; rw [e2, x2]; have hi : (i 2 : ℕ) < 128 := (i 2).isLt; omega
  | ⟨3, _⟩ => show win0_7.index (pt (i 0) (i 1)) 3 * 256 ≤ (i 3 : ℕ) ∧ (i 3 : ℕ) < win0_7.index (pt (i 0) (i 1)) 3 * 256 + win0_7.xsize (grid0.coords (pt (i 0) (i 1))) 3; rw [e3, x3]; have hi : (i 3 : ℕ) < 256 := (i 3).isLt; omega
/-- What the region leaves in result array 7. -/
theorem reg7 (c : Dev nD) : reg_main_v12_1 m c = arr7 m c :=
  (dats m 0 c).arrAt_eq_of_cover 7 (arr7 m c) (fun t _ => flushed7 m c t) cover7

/-- The block of the key codes window at each grid point: batch and head, whole in the other axes. -/
theorem ind8 : ∀ (b : Fin 2) (h : Fin 24), win0_8.index (pt b h) 0 = b.val ∧ win0_8.index (pt b h) 1 = h.val ∧ win0_8.index (pt b h) 2 = 0 ∧ win0_8.index (pt b h) 3 = 0 ∧ win0_8.index (pt b h) 4 = 0 := by decide +kernel
/-- The extents of the block of the key codes window at each grid point. -/
theorem xs8 : ∀ (b : Fin 2) (h : Fin 24), win0_8.xsize (grid0.coords (pt b h)) 0 = 1 ∧ win0_8.xsize (grid0.coords (pt b h)) 1 = 1 ∧ win0_8.xsize (grid0.coords (pt b h)) 2 = 10 ∧ win0_8.xsize (grid0.coords (pt b h)) 3 = 64 ∧ win0_8.xsize (grid0.coords (pt b h)) 4 = 128 := by decide +kernel
/-- Result array 8 of the region, block by block. -/
def arr8 (c : Dev nD) : Buf (Elt F) ((c : Thread nD τ).loc (Pipeline.arrRef spec0 8)) := fun p : S2x24x10x64x128.Idx =>
  out10 (iblk m c 1 (pt (p 0) (p 1))) (ix5 0 0 (p 2) (p 3) (p 4))
/-- What each grid point writes back to the key codes is its block of the whole array. -/
theorem flushed8 (c : Dev nD) (t : Fin cfg0.N) :
    (dats m 0 c).flushed 8 t = (win0_8.blk t).view.read (Elt F) (arr8 m c) := by
  obtain ⟨b, h, rfl⟩ := pt_surj t
  obtain ⟨e0, e1, e2, e3, e4⟩ := ind8 b h
  show (cfg0.win 8).cut (grid0.coords (pt b h)) ((dats m 0 c).after 8 (pt b h)) = _
  rw [after0_8]
  funext y
  have h0 : (y 0 : ℕ) < 1 := (y 0).isLt
  have h1 : (y 1 : ℕ) < 1 := (y 1).isLt
  refine Eq.trans (b := arr8 m c (ix5 b h (y 2) (y 3) (y 4))) ?_ (congrArg (arr8 m c) (funext fun a => Fin.ext ?_))
  · refine congrArg (out10 (iblk m c 1 (pt b h))) (funext fun a => Fin.ext ?_)
    match a with
    | ⟨0, _⟩ => show (y 0 : ℕ) = 0; omega
    | ⟨1, _⟩ => show (y 1 : ℕ) = 0; omega
    | ⟨2, _⟩ => rfl
    | ⟨3, _⟩ => rfl
    | ⟨4, _⟩ => rfl
  · match a with
    | ⟨0, _⟩ => show b.val = win0_8.index (pt b h) 0 * 1 + 1 * (y 0 : ℕ); rw [e0]; omega
    | ⟨1, _⟩ => show h.val = win0_8.index (pt b h) 1 * 1 + 1 * (y 1 : ℕ); rw [e1]; omega
    | ⟨2, _⟩ => show (y 2 : ℕ) = win0_8.index (pt b h) 2 * 10 + 1 * (y 2 : ℕ); rw [e2]; omega
    | ⟨3, _⟩ => show (y 3 : ℕ) = win0_8.index (pt b h) 3 * 64 + 1 * (y 3 : ℕ); rw [e3]; omega
    | ⟨4, _⟩ => show (y 4 : ℕ) = win0_8.index (pt b h) 4 * 128 + 1 * (y 4 : ℕ); rw [e4]; omega
/-- Every index of the key codes lies in a block that some grid point writes back. -/
theorem cover8 (i : S2x24x10x64x128.Idx) :
    ∃ t : Fin cfg0.N, (cfg0.win 8).flush t = true ∧ i ∈ ((cfg0.win 8).blk t).view.set := by
  obtain ⟨e0, e1, e2, e3, e4⟩ := ind8 (i 0) (i 1)
  obtain ⟨x0, x1, x2, x3, x4⟩ := xs8 (i 0) (i 1)
  refine ⟨pt (i 0) (i 1), flush0_8 _, ?_⟩
  show i ∈ ((View.whole main_v12_2).slice (win0_8.rect (pt (i 0) (i 1)))).set
  rw [View.set_slice_whole, Rect.mem_set_unit]
  intro a
  match a with
  | ⟨0, _⟩ => show win0_8.index (pt (i 0) (i 1)) 0 * 1 ≤ (i 0 : ℕ) ∧ (i 0 : ℕ) < win0_8.index (pt (i 0) (i 1)) 0 * 1 + win0_8.xsize (grid0.coords (pt (i 0) (i 1))) 0; rw [e0, x0]; have hi : (i 0 : ℕ) < 2 := (i 0).isLt; omega
  | ⟨1, _⟩ => show win0_8.index (pt (i 0) (i 1)) 1 * 1 ≤ (i 1 : ℕ) ∧ (i 1 : ℕ) < win0_8.index (pt (i 0) (i 1)) 1 * 1 + win0_8.xsize (grid0.coords (pt (i 0) (i 1))) 1; rw [e1, x1]; have hi : (i 1 : ℕ) < 24 := (i 1).isLt; omega
  | ⟨2, _⟩ => show win0_8.index (pt (i 0) (i 1)) 2 * 10 ≤ (i 2 : ℕ) ∧ (i 2 : ℕ) < win0_8.index (pt (i 0) (i 1)) 2 * 10 + win0_8.xsize (grid0.coords (pt (i 0) (i 1))) 2; rw [e2, x2]; have hi : (i 2 : ℕ) < 10 := (i 2).isLt; omega
  | ⟨3, _⟩ => show win0_8.index (pt (i 0) (i 1)) 3 * 64 ≤ (i 3 : ℕ) ∧ (i 3 : ℕ) < win0_8.index (pt (i 0) (i 1)) 3 * 64 + win0_8.xsize (grid0.coords (pt (i 0) (i 1))) 3; rw [e3, x3]; have hi : (i 3 : ℕ) < 64 := (i 3).isLt; omega
  | ⟨4, _⟩ => show win0_8.index (pt (i 0) (i 1)) 4 * 128 ≤ (i 4 : ℕ) ∧ (i 4 : ℕ) < win0_8.index (pt (i 0) (i 1)) 4 * 128 + win0_8.xsize (grid0.coords (pt (i 0) (i 1))) 4; rw [e4, x4]; have hi : (i 4 : ℕ) < 128 := (i 4).isLt; omega
/-- What the region leaves in result array 8. -/
theorem reg8 (c : Dev nD) : reg_main_v12_2 m c = arr8 m c :=
  (dats m 0 c).arrAt_eq_of_cover 8 (arr8 m c) (fun t _ => flushed8 m c t) cover8

/-- The block of the key scales window at each grid point: batch and head, whole in the other axes. -/
theorem ind9 : ∀ (b : Fin 2) (h : Fin 24), win0_9.index (pt b h) 0 = b.val ∧ win0_9.index (pt b h) 1 = h.val ∧ win0_9.index (pt b h) 2 = 0 ∧ win0_9.index (pt b h) 3 = 0 := by decide +kernel
/-- The extents of the block of the key scales window at each grid point. -/
theorem xs9 : ∀ (b : Fin 2) (h : Fin 24), win0_9.xsize (grid0.coords (pt b h)) 0 = 1 ∧ win0_9.xsize (grid0.coords (pt b h)) 1 = 1 ∧ win0_9.xsize (grid0.coords (pt b h)) 2 = 10 ∧ win0_9.xsize (grid0.coords (pt b h)) 3 = 128 := by decide +kernel
/-- Result array 9 of the region, block by block. -/
def arr9 (c : Dev nD) : Buf (Elt F) ((c : Thread nD τ).loc (Pipeline.arrRef spec0 9)) := fun p : S2x24x10x128.Idx =>
  out11 (iblk m c 1 (pt (p 0) (p 1))) (ix4 0 0 (p 2) (p 3))
/-- What each grid point writes back to the key scales is its block of the whole array. -/
theorem flushed9 (c : Dev nD) (t : Fin cfg0.N) :
    (dats m 0 c).flushed 9 t = (win0_9.blk t).view.read (Elt F) (arr9 m c) := by
  obtain ⟨b, h, rfl⟩ := pt_surj t
  obtain ⟨e0, e1, e2, e3⟩ := ind9 b h
  show (cfg0.win 9).cut (grid0.coords (pt b h)) ((dats m 0 c).after 9 (pt b h)) = _
  rw [after0_9]
  funext y
  have h0 : (y 0 : ℕ) < 1 := (y 0).isLt
  have h1 : (y 1 : ℕ) < 1 := (y 1).isLt
  refine Eq.trans (b := arr9 m c (ix4 b h (y 2) (y 3))) ?_ (congrArg (arr9 m c) (funext fun a => Fin.ext ?_))
  · refine congrArg (out11 (iblk m c 1 (pt b h))) (funext fun a => Fin.ext ?_)
    match a with
    | ⟨0, _⟩ => show (y 0 : ℕ) = 0; omega
    | ⟨1, _⟩ => show (y 1 : ℕ) = 0; omega
    | ⟨2, _⟩ => rfl
    | ⟨3, _⟩ => rfl
  · match a with
    | ⟨0, _⟩ => show b.val = win0_9.index (pt b h) 0 * 1 + 1 * (y 0 : ℕ); rw [e0]; omega
    | ⟨1, _⟩ => show h.val = win0_9.index (pt b h) 1 * 1 + 1 * (y 1 : ℕ); rw [e1]; omega
    | ⟨2, _⟩ => show (y 2 : ℕ) = win0_9.index (pt b h) 2 * 10 + 1 * (y 2 : ℕ); rw [e2]; omega
    | ⟨3, _⟩ => show (y 3 : ℕ) = win0_9.index (pt b h) 3 * 128 + 1 * (y 3 : ℕ); rw [e3]; omega
/-- Every index of the key scales lies in a block that some grid point writes back. -/
theorem cover9 (i : S2x24x10x128.Idx) :
    ∃ t : Fin cfg0.N, (cfg0.win 9).flush t = true ∧ i ∈ ((cfg0.win 9).blk t).view.set := by
  obtain ⟨e0, e1, e2, e3⟩ := ind9 (i 0) (i 1)
  obtain ⟨x0, x1, x2, x3⟩ := xs9 (i 0) (i 1)
  refine ⟨pt (i 0) (i 1), flush0_9 _, ?_⟩
  show i ∈ ((View.whole main_v12_3).slice (win0_9.rect (pt (i 0) (i 1)))).set
  rw [View.set_slice_whole, Rect.mem_set_unit]
  intro a
  match a with
  | ⟨0, _⟩ => show win0_9.index (pt (i 0) (i 1)) 0 * 1 ≤ (i 0 : ℕ) ∧ (i 0 : ℕ) < win0_9.index (pt (i 0) (i 1)) 0 * 1 + win0_9.xsize (grid0.coords (pt (i 0) (i 1))) 0; rw [e0, x0]; have hi : (i 0 : ℕ) < 2 := (i 0).isLt; omega
  | ⟨1, _⟩ => show win0_9.index (pt (i 0) (i 1)) 1 * 1 ≤ (i 1 : ℕ) ∧ (i 1 : ℕ) < win0_9.index (pt (i 0) (i 1)) 1 * 1 + win0_9.xsize (grid0.coords (pt (i 0) (i 1))) 1; rw [e1, x1]; have hi : (i 1 : ℕ) < 24 := (i 1).isLt; omega
  | ⟨2, _⟩ => show win0_9.index (pt (i 0) (i 1)) 2 * 10 ≤ (i 2 : ℕ) ∧ (i 2 : ℕ) < win0_9.index (pt (i 0) (i 1)) 2 * 10 + win0_9.xsize (grid0.coords (pt (i 0) (i 1))) 2; rw [e2, x2]; have hi : (i 2 : ℕ) < 10 := (i 2).isLt; omega
  | ⟨3, _⟩ => show win0_9.index (pt (i 0) (i 1)) 3 * 128 ≤ (i 3 : ℕ) ∧ (i 3 : ℕ) < win0_9.index (pt (i 0) (i 1)) 3 * 128 + win0_9.xsize (grid0.coords (pt (i 0) (i 1))) 3; rw [e3, x3]; have hi : (i 3 : ℕ) < 128 := (i 3).isLt; omega
/-- What the region leaves in result array 9. -/
theorem reg9 (c : Dev nD) : reg_main_v12_3 m c = arr9 m c :=
  (dats m 0 c).arrAt_eq_of_cover 9 (arr9 m c) (fun t _ => flushed9 m c t) cover9

/-- The block of the query codes window at each grid point: batch and head, whole in the other axes. -/
theorem ind10 : ∀ (b : Fin 2) (h : Fin 24), win0_10.index (pt b h) 0 = b.val ∧ win0_10.index (pt b h) 1 = h.val ∧ win0_10.index (pt b h) 2 = 0 ∧ win0_10.index (pt b h) 3 = 0 ∧ win0_10.index (pt b h) 4 = 0 := by decide +kernel
/-- The extents of the block of the query codes window at each grid point. -/
theorem xs10 : ∀ (b : Fin 2) (h : Fin 24), win0_10.xsize (grid0.coords (pt b h)) 0 = 1 ∧ win0_10.xsize (grid0.coords (pt b h)) 1 = 1 ∧ win0_10.xsize (grid0.coords (pt b h)) 2 = 10 ∧ win0_10.xsize (grid0.coords (pt b h)) 3 = 64 ∧ win0_10.xsize (grid0.coords (pt b h)) 4 = 128 := by decide +kernel
/-- Result array 10 of the region, block by block. -/
def arr10 (c : Dev nD) : Buf (Elt F) ((c : Thread nD τ).loc (Pipeline.arrRef spec0 10)) := fun p : S2x24x10x64x128.Idx =>
  out12 (iblk m c 0 (pt (p 0) (p 1))) (ix5 0 0 (p 2) (p 3) (p 4))
/-- What each grid point writes back to the query codes is its block of the whole array. -/
theorem flushed10 (c : Dev nD) (t : Fin cfg0.N) :
    (dats m 0 c).flushed 10 t = (win0_10.blk t).view.read (Elt F) (arr10 m c) := by
  obtain ⟨b, h, rfl⟩ := pt_surj t
  obtain ⟨e0, e1, e2, e3, e4⟩ := ind10 b h
  show (cfg0.win 10).cut (grid0.coords (pt b h)) ((dats m 0 c).after 10 (pt b h)) = _
  rw [after0_10]
  funext y
  have h0 : (y 0 : ℕ) < 1 := (y 0).isLt
  have h1 : (y 1 : ℕ) < 1 := (y 1).isLt
  refine Eq.trans (b := arr10 m c (ix5 b h (y 2) (y 3) (y 4))) ?_ (congrArg (arr10 m c) (funext fun a => Fin.ext ?_))
  · refine congrArg (out12 (iblk m c 0 (pt b h))) (funext fun a => Fin.ext ?_)
    match a with
    | ⟨0, _⟩ => show (y 0 : ℕ) = 0; omega
    | ⟨1, _⟩ => show (y 1 : ℕ) = 0; omega
    | ⟨2, _⟩ => rfl
    | ⟨3, _⟩ => rfl
    | ⟨4, _⟩ => rfl
  · match a with
    | ⟨0, _⟩ => show b.val = win0_10.index (pt b h) 0 * 1 + 1 * (y 0 : ℕ); rw [e0]; omega
    | ⟨1, _⟩ => show h.val = win0_10.index (pt b h) 1 * 1 + 1 * (y 1 : ℕ); rw [e1]; omega
    | ⟨2, _⟩ => show (y 2 : ℕ) = win0_10.index (pt b h) 2 * 10 + 1 * (y 2 : ℕ); rw [e2]; omega
    | ⟨3, _⟩ => show (y 3 : ℕ) = win0_10.index (pt b h) 3 * 64 + 1 * (y 3 : ℕ); rw [e3]; omega
    | ⟨4, _⟩ => show (y 4 : ℕ) = win0_10.index (pt b h) 4 * 128 + 1 * (y 4 : ℕ); rw [e4]; omega
/-- Every index of the query codes lies in a block that some grid point writes back. -/
theorem cover10 (i : S2x24x10x64x128.Idx) :
    ∃ t : Fin cfg0.N, (cfg0.win 10).flush t = true ∧ i ∈ ((cfg0.win 10).blk t).view.set := by
  obtain ⟨e0, e1, e2, e3, e4⟩ := ind10 (i 0) (i 1)
  obtain ⟨x0, x1, x2, x3, x4⟩ := xs10 (i 0) (i 1)
  refine ⟨pt (i 0) (i 1), flush0_10 _, ?_⟩
  show i ∈ ((View.whole main_v12_4).slice (win0_10.rect (pt (i 0) (i 1)))).set
  rw [View.set_slice_whole, Rect.mem_set_unit]
  intro a
  match a with
  | ⟨0, _⟩ => show win0_10.index (pt (i 0) (i 1)) 0 * 1 ≤ (i 0 : ℕ) ∧ (i 0 : ℕ) < win0_10.index (pt (i 0) (i 1)) 0 * 1 + win0_10.xsize (grid0.coords (pt (i 0) (i 1))) 0; rw [e0, x0]; have hi : (i 0 : ℕ) < 2 := (i 0).isLt; omega
  | ⟨1, _⟩ => show win0_10.index (pt (i 0) (i 1)) 1 * 1 ≤ (i 1 : ℕ) ∧ (i 1 : ℕ) < win0_10.index (pt (i 0) (i 1)) 1 * 1 + win0_10.xsize (grid0.coords (pt (i 0) (i 1))) 1; rw [e1, x1]; have hi : (i 1 : ℕ) < 24 := (i 1).isLt; omega
  | ⟨2, _⟩ => show win0_10.index (pt (i 0) (i 1)) 2 * 10 ≤ (i 2 : ℕ) ∧ (i 2 : ℕ) < win0_10.index (pt (i 0) (i 1)) 2 * 10 + win0_10.xsize (grid0.coords (pt (i 0) (i 1))) 2; rw [e2, x2]; have hi : (i 2 : ℕ) < 10 := (i 2).isLt; omega
  | ⟨3, _⟩ => show win0_10.index (pt (i 0) (i 1)) 3 * 64 ≤ (i 3 : ℕ) ∧ (i 3 : ℕ) < win0_10.index (pt (i 0) (i 1)) 3 * 64 + win0_10.xsize (grid0.coords (pt (i 0) (i 1))) 3; rw [e3, x3]; have hi : (i 3 : ℕ) < 64 := (i 3).isLt; omega
  | ⟨4, _⟩ => show win0_10.index (pt (i 0) (i 1)) 4 * 128 ≤ (i 4 : ℕ) ∧ (i 4 : ℕ) < win0_10.index (pt (i 0) (i 1)) 4 * 128 + win0_10.xsize (grid0.coords (pt (i 0) (i 1))) 4; rw [e4, x4]; have hi : (i 4 : ℕ) < 128 := (i 4).isLt; omega
/-- What the region leaves in result array 10. -/
theorem reg10 (c : Dev nD) : reg_main_v12_4 m c = arr10 m c :=
  (dats m 0 c).arrAt_eq_of_cover 10 (arr10 m c) (fun t _ => flushed10 m c t) cover10

/-- The block of the query scales window at each grid point: batch and head, whole in the other axes. -/
theorem ind11 : ∀ (b : Fin 2) (h : Fin 24), win0_11.index (pt b h) 0 = b.val ∧ win0_11.index (pt b h) 1 = h.val ∧ win0_11.index (pt b h) 2 = 0 ∧ win0_11.index (pt b h) 3 = 0 := by decide +kernel
/-- The extents of the block of the query scales window at each grid point. -/
theorem xs11 : ∀ (b : Fin 2) (h : Fin 24), win0_11.xsize (grid0.coords (pt b h)) 0 = 1 ∧ win0_11.xsize (grid0.coords (pt b h)) 1 = 1 ∧ win0_11.xsize (grid0.coords (pt b h)) 2 = 10 ∧ win0_11.xsize (grid0.coords (pt b h)) 3 = 128 := by decide +kernel
/-- Result array 11 of the region, block by block. -/
def arr11 (c : Dev nD) : Buf (Elt F) ((c : Thread nD τ).loc (Pipeline.arrRef spec0 11)) := fun p : S2x24x10x128.Idx =>
  out13 (iblk m c 0 (pt (p 0) (p 1))) (ix4 0 0 (p 2) (p 3))
/-- What each grid point writes back to the query scales is its block of the whole array. -/
theorem flushed11 (c : Dev nD) (t : Fin cfg0.N) :
    (dats m 0 c).flushed 11 t = (win0_11.blk t).view.read (Elt F) (arr11 m c) := by
  obtain ⟨b, h, rfl⟩ := pt_surj t
  obtain ⟨e0, e1, e2, e3⟩ := ind11 b h
  show (cfg0.win 11).cut (grid0.coords (pt b h)) ((dats m 0 c).after 11 (pt b h)) = _
  rw [after0_11]
  funext y
  have h0 : (y 0 : ℕ) < 1 := (y 0).isLt
  have h1 : (y 1 : ℕ) < 1 := (y 1).isLt
  refine Eq.trans (b := arr11 m c (ix4 b h (y 2) (y 3))) ?_ (congrArg (arr11 m c) (funext fun a => Fin.ext ?_))
  · refine congrArg (out13 (iblk m c 0 (pt b h))) (funext fun a => Fin.ext ?_)
    match a with
    | ⟨0, _⟩ => show (y 0 : ℕ) = 0; omega
    | ⟨1, _⟩ => show (y 1 : ℕ) = 0; omega
    | ⟨2, _⟩ => rfl
    | ⟨3, _⟩ => rfl
  · match a with
    | ⟨0, _⟩ => show b.val = win0_11.index (pt b h) 0 * 1 + 1 * (y 0 : ℕ); rw [e0]; omega
    | ⟨1, _⟩ => show h.val = win0_11.index (pt b h) 1 * 1 + 1 * (y 1 : ℕ); rw [e1]; omega
    | ⟨2, _⟩ => show (y 2 : ℕ) = win0_11.index (pt b h) 2 * 10 + 1 * (y 2 : ℕ); rw [e2]; omega
    | ⟨3, _⟩ => show (y 3 : ℕ) = win0_11.index (pt b h) 3 * 128 + 1 * (y 3 : ℕ); rw [e3]; omega
/-- Every index of the query scales lies in a block that some grid point writes back. -/
theorem cover11 (i : S2x24x10x128.Idx) :
    ∃ t : Fin cfg0.N, (cfg0.win 11).flush t = true ∧ i ∈ ((cfg0.win 11).blk t).view.set := by
  obtain ⟨e0, e1, e2, e3⟩ := ind11 (i 0) (i 1)
  obtain ⟨x0, x1, x2, x3⟩ := xs11 (i 0) (i 1)
  refine ⟨pt (i 0) (i 1), flush0_11 _, ?_⟩
  show i ∈ ((View.whole main_v12_5).slice (win0_11.rect (pt (i 0) (i 1)))).set
  rw [View.set_slice_whole, Rect.mem_set_unit]
  intro a
  match a with
  | ⟨0, _⟩ => show win0_11.index (pt (i 0) (i 1)) 0 * 1 ≤ (i 0 : ℕ) ∧ (i 0 : ℕ) < win0_11.index (pt (i 0) (i 1)) 0 * 1 + win0_11.xsize (grid0.coords (pt (i 0) (i 1))) 0; rw [e0, x0]; have hi : (i 0 : ℕ) < 2 := (i 0).isLt; omega
  | ⟨1, _⟩ => show win0_11.index (pt (i 0) (i 1)) 1 * 1 ≤ (i 1 : ℕ) ∧ (i 1 : ℕ) < win0_11.index (pt (i 0) (i 1)) 1 * 1 + win0_11.xsize (grid0.coords (pt (i 0) (i 1))) 1; rw [e1, x1]; have hi : (i 1 : ℕ) < 24 := (i 1).isLt; omega
  | ⟨2, _⟩ => show win0_11.index (pt (i 0) (i 1)) 2 * 10 ≤ (i 2 : ℕ) ∧ (i 2 : ℕ) < win0_11.index (pt (i 0) (i 1)) 2 * 10 + win0_11.xsize (grid0.coords (pt (i 0) (i 1))) 2; rw [e2, x2]; have hi : (i 2 : ℕ) < 10 := (i 2).isLt; omega
  | ⟨3, _⟩ => show win0_11.index (pt (i 0) (i 1)) 3 * 128 ≤ (i 3 : ℕ) ∧ (i 3 : ℕ) < win0_11.index (pt (i 0) (i 1)) 3 * 128 + win0_11.xsize (grid0.coords (pt (i 0) (i 1))) 3; rw [e3, x3]; have hi : (i 3 : ℕ) < 128 := (i 3).isLt; omega
/-- What the region leaves in result array 11. -/
theorem reg11 (c : Dev nD) : reg_main_v12_5 m c = arr11 m c :=
  (dats m 0 c).arrAt_eq_of_cover 11 (arr11 m c) (fun t _ => flushed11 m c t) cover11

end Cert.KernelIdeal.Value

end
-- ==== Proof.KernelValue.lean ====
/- What each named piece of a chunk's trip of the kernel holds over the reals, given real blocks. -/
module

public import proofs.«01_k».proof.Proof.IdealBlocks
public import proofs.«01_k».proof.Proof.Spec

@[expose] public section

set_option maxRecDepth 16384

noncomputable section

namespace Cert.KernelIdeal.Gen

open Idealize.ShloMosaic Idealize.ShloMosaic.TcCoe Idealize.ShloMosaic.Tactic
open Cert.Quant Cert.Spec Cert.Inverse

variable {kb qb : Vec Ideal S1x1x1x64x128 .bf16} {vb : Vec Ideal S1x1x1x64x256 .bf16} {gb bb : Vec Ideal S1x1x1x64 .f32}
  {st : Vec Ideal S1x1x128x256 .f32} {X Y : KQ} {W : VV} {g b : PP} {S : SS}

/-- The blocks hold real numbers. -/
def IsQK (kb : Vec Ideal S1x1x1x64x128 .bf16) (X : KQ) : Prop :=
  (∀ i d, kb (ix5 0 0 0 i d) = ((X i d : ℝ) : EReal)) ∧ ∀ i d, |X i d| < (2 : ℝ) ^ (128 : ℤ)
/-- The block holds a chunk of real values. -/
def IsV (vb : Vec Ideal S1x1x1x64x256 .bf16) (W : VV) : Prop := ∀ i d, vb (ix5 0 0 0 i d) = ((W i d : ℝ) : EReal)
/-- The block holds one real per position. -/
def IsP (gb : Vec Ideal S1x1x1x64 .f32) (g : PP) : Prop := ∀ i, gb (ix4 0 0 0 i) = ((g i : ℝ) : EReal)
/-- The block holds a real state. -/
def IsS (st : Vec Ideal S1x1x128x256 .f32) (S : SS) : Prop := ∀ d v, st (ix4 0 0 d v) = ((S d v : ℝ) : EReal)

/-! ### The quantiser -/

/-- The largest absolute key over 448. -/
theorem kY_eq (hk : IsQK kb X) : k0_pay10 kb (ix2 0 0) = ((amax X * c448 : ℝ) : EReal) := by
  pointwise [k0_pay10, k0_pay8]
  simp only [hk.1, cabs, bot_bits, fold_amax, c448_bits, cmul]

/-- The largest absolute query over 448. -/
theorem qY_eq (hq : IsQK qb Y) : k0_pay17 (k0_pay9 qb) (ix2 0 0) = ((amax Y * c448 : ℝ) : EReal) := by
  pointwise [k0_pay17, k0_pay9]
  simp only [hq.1, cabs, bot_bits, fold_amax, c448_bits, cmul]

/-- The key scale. -/
theorem kScale_eq (hk : IsQK kb X) : kScale kb (ix2 0 0) = ((scale X : ℝ) : EReal) := by
  have e : kScale kb (ix2 0 0) = Ideal.ofBits .f32 (IntOp.shli .vector (IntOp.addi (expoWord (k0_pay10 kb (ix2 0 0))) 127#32) 23#32) := rfl
  rw [e, kY_eq hk]
  exact (expoWord_scale _ (y_range X hk.2).1 (y_range X hk.2).2).1

/-- The query scale. -/
theorem qScale_eq (hq : IsQK qb Y) : qScale qb (ix2 0 0) = ((scale Y : ℝ) : EReal) := by
  have e : qScale qb (ix2 0 0) = Ideal.ofBits .f32 (IntOp.shli .vector (IntOp.addi (expoWord (k0_pay17 (k0_pay9 qb) (ix2 0 0))) 127#32) 23#32) := rfl
  rw [e, qY_eq hq]
  exact (expoWord_scale _ (y_range Y hq.2).1 (y_range Y hq.2).2).1

/-- The inverse query scale. -/
theorem qInv_eq (hq : IsQK qb Y) : qInv qb (ix2 0 0) = ((inv Y : ℝ) : EReal) := by
  have e : qInv qb (ix2 0 0) = Ideal.ofBits .f32 (IntOp.shli .vector (IntOp.subi 127#32 (expoWord (k0_pay17 (k0_pay9 qb) (ix2 0 0)))) 23#32) := rfl
  rw [e, qY_eq hq]
  exact (expoWord_scale _ (y_range Y hq.2).1 (y_range Y hq.2).2).2

/-- The key codes. -/
theorem kCode_eq (hk : IsQK kb X) (i : Fin 64) (d : Fin 128) : kCode kb (ix2 i d) = ((code X i d : ℝ) : EReal) := by
  have e : Ideal.ofBits .f32 (IntOp.shli .vector (IntOp.subi 127#32 (k0_pay13 (k0_pay10 kb) (k0_pay11 kb) (k0_pay12 kb) (16#32) (ix2 0 0))) 23#32)
      = ((inv X : ℝ) : EReal) := by
    have e' : k0_pay13 (k0_pay10 kb) (k0_pay11 kb) (k0_pay12 kb) (16#32) (ix2 0 0) = expoWord (k0_pay10 kb (ix2 0 0)) := rfl
    rw [e', kY_eq hk]
    exact (expoWord_scale _ (y_range X hk.2).1 (y_range X hk.2).2).2
  pointwise [kCode, k0_pay16, k0_pay8, k0_pay15]
  rw [e, hk.1, hi_bits, lo_bits, cmul, cmax, cmin]
  rfl

/-- The query codes. -/
theorem qCode_eq (hq : IsQK qb Y) (i : Fin 64) (d : Fin 128) : qCode qb (ix2 i d) = ((code Y i d : ℝ) : EReal) := by
  pointwise [qCode, k0_pay25, k0_pay9]
  rw [qInv_eq hq, hq.1, hi_bits, lo_bits, cmul, cmax, cmin]
  rfl

/-- The reciprocal norms of the keys. -/
theorem kNorm_eq (hk : IsQK kb X) (i : Fin 64) : kNorm kb (ix2 i 0) = ((nrm X i : ℝ) : EReal) := by
  pointwise [kNorm, k0_pay30, k0_pay8]
  simp only [hk.1, cmul, csum, eps_bits, cadd]
  exact crsqrt _ (nrm_pos X i)

/-- The reciprocal norms of the queries. -/
theorem qNorm_eq (hq : IsQK qb Y) (i : Fin 64) : qNorm qb (ix2 i 0) = ((nrm Y i : ℝ) : EReal) := by
  pointwise [qNorm, k0_pay31, k0_pay32, k0_pay9]
  simp only [hq.1, cmul, csum, eps_bits, cadd]
  exact crsqrt _ (nrm_pos Y i)

/-! ### The columns -/

/-- The running sums of the log decays: a masked row sum over the triangle. -/
theorem gC_eq (hg : IsP gb g) (i : Fin 64) : gC gb (ix2 i 0) = ((cum g i : ℝ) : EReal) := by
  pointwise [gC, k0_pay34, k0_pay3, k0_pay1]
  simp only [hg _, pos_ge, selif, cite0, csum]
  rfl

/-- The write strengths as a column: a masked row sum over the diagonal. -/
theorem betaC_eq (hb : IsP bb b) (i : Fin 64) : betaC bb (ix2 i 0) = ((b i : ℝ) : EReal) := by
  pointwise [betaC, k0_pay33, k0_pay4]
  simp only [hb _, pos_eq, selif, cite0, csum, Finset.sum_ite_eq, Finset.mem_univ, if_true]

/-! ### The squares -/

/-- The products of normalised keys. -/
theorem kkM_eq (hk : IsQK kb X) (i j : Fin 64) : kkM kb (ix2 i j) = ((kk X i j : ℝ) : EReal) := by
  pointwise [kkM, k0_pay36, k0_pay35, k0_pay4]
  simp only [kCode_eq hk, kScale_eq hk, kNorm_eq hk, pos_eq, selif, cite0, csum, cmul, Finset.sum_ite_eq', Finset.mem_univ, if_true]
  rfl

/-- The products of normalised queries and keys. -/
theorem qkM_eq (hq : IsQK qb Y) (hk : IsQK kb X) (i j : Fin 64) : qkM qb kb (ix2 i j) = ((qk Y X i j : ℝ) : EReal) := by
  have e : ∀ i, k0_pay32 (k0_pay31 (k0_pay9 qb)) (Ideal.ofBits .f32 897988541#32) (ix2 i 0) = ((nrm Y i : ℝ) : EReal) := qNorm_eq hq
  pointwise [qkM, k0_pay37, k0_pay35, k0_pay4]
  simp only [e, qCode_eq hq, qScale_eq hq, kCode_eq hk, kScale_eq hk, kNorm_eq hk, qsc_bits, pos_eq, selif, cite0, csum, cmul, Finset.sum_ite_eq', Finset.mem_univ, if_true]
  rfl

/-- The differences of running sums. -/
theorem diffM_eq (hg : IsP gb g) (i j : Fin 64) : diffM gb (ix2 i j) = ((cum g i - cum g j : ℝ) : EReal) := by
  have e : ∀ i, k0_pay34 k0_pay3 gb (ix2 i 0) = ((cum g i : ℝ) : EReal) := gC_eq hg
  pointwise [diffM, k0_pay38, k0_pay4]
  simp only [e, pos_eq, selif, cite0, csum, csub, Finset.sum_ite_eq', Finset.mem_univ, if_true]

/-- The decays between positions. -/
theorem decM_eq (hg : IsP gb g) (i j : Fin 64) : decM gb (ix2 i j) = ((dec g i j : ℝ) : EReal) := by
  pointwise [decM, k0_pay39, k0_pay1]
  simp only [diffM_eq hg, pos_ge, selif]
  unfold dec
  split_ifs <;> rfl

/-- The system's strictly lower triangular matrix. -/
theorem sysM_eq (hk : IsQK kb X) (hg : IsP gb g) (hb : IsP bb b) (i j : Fin 64) : sysM kb gb bb (ix2 i j) = ((sysA X g b i j : ℝ) : EReal) := by
  have e : ∀ i j, k0_pay39 k0_pay1 (diffM gb) (0 : EReal) (ix2 i j) = ((dec g i j : ℝ) : EReal) := by
    rw [← Ideal.ofBits_zero_f32]; exact decM_eq hg
  pointwise [sysM, k0_pay40, k0_pay2]
  simp only [e, betaC_eq hb, kkM_eq hk, pos_gt, selif, cite0, cmul]
  rfl

/-! ### The inverse of the system -/

/-- The identity matrix. -/
theorem pay4_eq (i j : Fin 64) : k0_pay4 (F := Ideal) (ix2 i j) = (((1 : M) i j : ℝ) : EReal) := by
  pointwise [k0_pay4]
  simp only [pos_eq, selif, cite10]
  rw [Matrix.one_apply]

/-- The first level of the inverse: the identity less the joining entries. -/
theorem dbl_one (A : M) (i j : Fin 64) : (1 : M) i j - (if off 0 i j then A i j else 0) = dbl A 1 i j := by
  simp [dbl, offM]

/-- One further level of the inverse, written with sums. -/
theorem dbl_succ (A : M) (l : ℕ) (i j : Fin 64) :
    dbl A l i j - ∑ x, dbl A l i x * ∑ y, (if off l x y then A x y * dbl A l y j else 0) = dbl A (l + 1) i j := by
  simp only [dbl, Matrix.sub_apply, Matrix.mul_apply, offM, ite_mul, zero_mul]

/-- The mask of level 0 of the inverse, read from shifted positions. -/
theorem mask0 (i j : Fin 64) : IntOp.andi (IntOp.cmpi .eq (IntOp.shrsi .vector (BitVec.ofNat 32 i.val) 1#32) (IntOp.shrsi .vector (BitVec.ofNat 32 j.val) 1#32))
    (IntOp.cmpi .ne (IntOp.shrsi .vector (BitVec.ofNat 32 i.val) 0#32) (IntOp.shrsi .vector (BitVec.ofNat 32 j.val) 0#32)) = if off 0 i j then 1#1 else 0#1 :=
  offBit_eq 0 i j
/-- The mask of level 1 of the inverse, read from shifted positions. -/
theorem mask1 (i j : Fin 64) : IntOp.andi (IntOp.cmpi .eq (IntOp.shrsi .vector (BitVec.ofNat 32 i.val) 2#32) (IntOp.shrsi .vector (BitVec.ofNat 32 j.val) 2#32))
    (IntOp.cmpi .ne (IntOp.shrsi .vector (BitVec.ofNat 32 i.val) 1#32) (IntOp.shrsi .vector (BitVec.ofNat 32 j.val) 1#32)) = if off 1 i j then 1#1 else 0#1 :=
  offBit_eq 1 i j
/-- The mask of level 2 of the inverse, read from shifted positions. -/
theorem mask2 (i j : Fin 64) : IntOp.andi (IntOp.cmpi .eq (IntOp.shrsi .vector (BitVec.ofNat 32 i.val) 3#32) (IntOp.shrsi .vector (BitVec.ofNat 32 j.val) 3#32))
    (IntOp.cmpi .ne (IntOp.shrsi .vector (BitVec.ofNat 32 i.val) 2#32) (IntOp.shrsi .vector (BitVec.ofNat 32 j.val) 2#32)) = if off 2 i j then 1#1 else 0#1 :=
  offBit_eq 2 i j
/-- The mask of level 3 of the inverse, read from shifted positions. -/
theorem mask3 (i j : Fin 64) : IntOp.andi (IntOp.cmpi .eq (IntOp.shrsi .vector (BitVec.ofNat 32 i.val) 4#32) (IntOp.shrsi .vector (BitVec.ofNat 32 j.val) 4#32))
    (IntOp.cmpi .ne (IntOp.shrsi .vector (BitVec.ofNat 32 i.val) 3#32) (IntOp.shrsi .vector (BitVec.ofNat 32 j.val) 3#32)) = if off 3 i j then 1#1 else 0#1 :=
  offBit_eq 3 i j
/-- The mask of level 4 of the inverse, read from shifted positions. -/
theorem mask4 (i j : Fin 64) : IntOp.andi (IntOp.cmpi .eq (IntOp.shrsi .vector (BitVec.ofNat 32 i.val) 5#32) (IntOp.shrsi .vector (BitVec.ofNat 32 j.val) 5#32))
    (IntOp.cmpi .ne (IntOp.shrsi .vector (BitVec.ofNat 32 i.val) 4#32) (IntOp.shrsi .vector (BitVec.ofNat 32 j.val) 4#32)) = if off 4 i j then 1#1 else 0#1 :=
  offBit_eq 4 i j
/-- The mask of level 5 of the inverse, read from shifted positions. -/
theorem mask5 (i j : Fin 64) : IntOp.andi (IntOp.cmpi .eq (IntOp.shrsi .vector (BitVec.ofNat 32 i.val) 6#32) (IntOp.shrsi .vector (BitVec.ofNat 32 j.val) 6#32))
    (IntOp.cmpi .ne (IntOp.shrsi .vector (BitVec.ofNat 32 i.val) 5#32) (IntOp.shrsi .vector (BitVec.ofNat 32 j.val) 5#32)) = if off 5 i j then 1#1 else 0#1 :=
  offBit_eq 5 i j

/-- The inverse after two levels. -/
theorem inv3_eq (hk : IsQK kb X) (hg : IsP gb g) (hb : IsP bb b) (i j : Fin 64) : inv3 kb gb bb (ix2 i j) = ((dbl (sysA X g b) 2 i j : ℝ) : EReal) := by
  have e : ∀ i j, k0_pay40 k0_pay1 k0_pay2 (betaC bb) (kkM kb) (diffM gb) (0 : EReal) (ix2 i j) = ((sysA X g b i j : ℝ) : EReal) := by
    rw [← Ideal.ofBits_zero_f32]; exact sysM_eq hk hg hb
  pointwise [inv3, k0_pay41]
  simp only [e, pay4_eq, mask0, mask1, selif, cite0, csub, cmul, csum, dbl_one]
  rw [dbl_succ]

/-- The inverse after four levels. -/
theorem inv5_eq (hk : IsQK kb X) (hg : IsP gb g) (hb : IsP bb b) (i j : Fin 64) : inv5 kb gb bb (ix2 i j) = ((dbl (sysA X g b) 4 i j : ℝ) : EReal) := by
  pointwise [inv5, k0_pay44, k0_pay42, k0_pay43]
  simp only [sysM_eq hk hg hb, inv3_eq hk hg hb, mask2, mask3, selif, cite0, csub, cmul, csum, dbl_succ]

/-- The inverse after six levels. -/
theorem inv6_eq (hk : IsQK kb X) (hg : IsP gb g) (hb : IsP bb b) (i j : Fin 64) : inv6 kb gb bb (ix2 i j) = ((invT X g b i j : ℝ) : EReal) := by
  have e : ∀ i j, k0_pay45 rowV colV (sysM kb gb bb) (inv3 kb gb bb) (k0_pay42 rowV) (k0_pay43 colV) (ix2 i j)
      = ((∑ y, (if off 4 i y then sysA X g b i y * dbl (sysA X g b) 4 y j else 0) : ℝ) : EReal) := by
    intro i j
    have e' : ∀ i j, k0_pay44 rowV colV (sysM kb gb bb) (inv3 kb gb bb) (k0_pay42 rowV) (k0_pay43 colV) (ix2 i j) = ((dbl (sysA X g b) 4 i j : ℝ) : EReal) :=
      inv5_eq hk hg hb
    pointwise [k0_pay45]
    simp only [e', sysM_eq hk hg hb, mask4, selif, cite0, csub, cmul, csum]
  pointwise [inv6, k0_pay46]
  simp only [e, sysM_eq hk hg hb, inv5_eq hk hg hb, mask5, selif, cite0, csub, cmul, csum, dbl_succ]
  rfl

/-! ### One step of the recurrence -/

/-- The normalised keys. -/
theorem knM_eq (hk : IsQK kb X) (i : Fin 64) (d : Fin 128) : knM kb (ix2 i d) = ((kn X i d : ℝ) : EReal) := by
  pointwise [knM, k0_pay47]
  simp only [kCode_eq hk, kScale_eq hk, kNorm_eq hk, cmul]
  rfl

/-- The normalised and scaled queries. -/
theorem qnM_eq (hq : IsQK qb Y) (i : Fin 64) (d : Fin 128) : qnM qb (ix2 i d) = ((qn Y i d : ℝ) : EReal) := by
  pointwise [qnM, k0_pay48]
  simp only [qCode_eq hq, qScale_eq hq, qNorm_eq hq, qsc_bits, cmul]
  rfl

/-- What the state does not yet hold of the values. -/
theorem rhsM_eq (hk : IsQK kb X) (hv : IsV vb W) (hg : IsP gb g) (hs : IsS st S) (j : Fin 64) (v : Fin 256) :
    rhsM kb vb gb st (ix2 j v) = ((W j v - Real.exp (cum g j) * ∑ d, kn X j d * S d v : ℝ) : EReal) := by
  have e : ∀ i d, k0_pay47 (kScale kb) (kCode kb) (kNorm kb) (ix2 i d) = ((kn X i d : ℝ) : EReal) := knM_eq hk
  pointwise [rhsM, k0_pay51, k0_pay50, k0_pay49]
  simp only [blkS_eq, e, hv _ _, hs _ _, gC_eq hg, cexp, cmul, csum, csub]

/-- The outputs of one trip. -/
theorem oStep_eq (hq : IsQK qb Y) (hk : IsQK kb X) (hv : IsV vb W) (hg : IsP gb g) (hb : IsP bb b) (hs : IsS st S) (i : Fin 64) (v : Fin 256) :
    oStep qb kb vb gb bb st (ix5 0 0 0 i v) = ((oOut Y X W g b S i v : ℝ) : EReal) := by
  pointwise [oStep, k0_pay6, k0_pay5, k0_pay50, k0_pay49, k0_pay52]
  simp only [blkS_eq, hs _ _, gC_eq hg, betaC_eq hb, qnM_eq hq, qkM_eq hq hk, decM_eq hg, inv6_eq hk hg hb, rhsM_eq hk hv hg hs, cexp, cmul, csum, cadd]
  rfl

/-- The state after one trip. -/
theorem sStep_eq (hk : IsQK kb X) (hv : IsV vb W) (hg : IsP gb g) (hb : IsP bb b) (hs : IsS st S) : IsS (sStep kb vb gb bb st) (sOut X W g b S) := by
  intro d v
  pointwise [sStep, k0_pay7, k0_pay5, k0_pay50, k0_pay49, k0_pay52]
  simp only [blkS_eq, hs _ _, gC_eq hg, betaC_eq hb, knM_eq hk, inv6_eq hk hg hb, rhsM_eq hk hv hg hs, cexp, cmul, csum, cadd, csub]
  rfl

end Cert.KernelIdeal.Gen

end
-- ==== Proof.Results.lean ====
/- The six results as arrays of real numbers. -/
module

public import proofs.«01_k».proof.Proof.Chunks

@[expose] public section

noncomputable section

namespace Cert.Spec

open Idealize.ShloMosaic

/-- The chunk position `t` lies in, and its place in that chunk. -/
def chunkOf (t : Fin 640) : Fin 10 := ⟨t.val / 64, by omega⟩
/-- The place of position `t` inside its chunk. -/
def placeOf (t : Fin 640) : Fin 64 := ⟨t.val % 64, by omega⟩
/-- Chunk and place give the position back. -/
theorem pos_chunk_place (t : Fin 640) : pos (chunkOf t) (placeOf t) = t := Fin.ext (by simp only [pos, chunkOf, placeOf]; omega)

/-- The output, the codes and the scales. The final state is `hst … 10`. -/
def outA (Q K : AQK) (V : AV) (G B : AP) (S : AS) (b : Fin 2) (t : Fin 640) (h : Fin 24) (v : Fin 256) : ℝ :=
  oOut (chQK Q b h (chunkOf t)) (chQK K b h (chunkOf t)) (chV V b h (chunkOf t)) (chP G b h (chunkOf t)) (chP B b h (chunkOf t))
    (hst K V G B S b h (chunkOf t).val) (placeOf t) v
/-- The codes of an array of keys or queries. -/
def codeA (X : AQK) (b : Fin 2) (t : Fin 640) (h : Fin 24) (d : Fin 128) : ℝ := code (chQK X b h (chunkOf t)) (placeOf t) d
/-- The scale of each block of an array of keys or queries. -/
def scaleA (X : AQK) (b : Fin 2) (n : Fin 10) (h : Fin 24) : ℝ := scale (chQK X b h n)

end Cert.Spec

end
-- ==== Proof.KernelResults.lean ====
/- The kernel's six results over the real numbers. -/
module

public import proofs.«01_k».proof.Proof.IdealArrays
public import proofs.«01_k».proof.Proof.KernelValue
public import proofs.«01_k».proof.Proof.Results

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Tactic
open Cert.Spec

section Blocks

variable {F : FTy → Type} [FloatOps F]

/-- A chunk's block of a windowed input, read at an index. -/
theorem blkQK_read (x : Vec F S1x1x10x64x128 .bf16) (k : Fin k0_t1_loop.trips) (n : Fin 10) (hn : k.val = n.val) (i : Fin 64) (d : Fin 128) :
    blkQK x k (ix5 0 0 0 i d) = x (ix5 0 0 n i d) := by
  refine congrArg x (funext fun a => Fin.ext ?_)
  match a with
  | ⟨0, _⟩ => show k0_off1 k 0 + 1 * 0 = 0; rw [off1_eq]; rfl
  | ⟨1, _⟩ => show k0_off1 k 1 + 1 * 0 = 0; rw [off1_eq]; rfl
  | ⟨2, _⟩ => show k0_off1 k 2 + 1 * 0 = n.val; rw [off1_eq]; exact hn
  | ⟨3, _⟩ => show k0_off1 k 3 + 1 * i.val = i.val; rw [off1_eq]; exact (Nat.zero_add _).trans (Nat.one_mul _)
  | ⟨4, _⟩ => show k0_off1 k 4 + 1 * d.val = d.val; rw [off1_eq]; exact (Nat.zero_add _).trans (Nat.one_mul _)
/-- Chunk `k` of a values block, at an index. -/
theorem blkV_read (x : Vec F S1x1x10x64x256 .bf16) (k : Fin k0_t1_loop.trips) (n : Fin 10) (hn : k.val = n.val) (i : Fin 64) (d : Fin 256) :
    blkV x k (ix5 0 0 0 i d) = x (ix5 0 0 n i d) := by
  refine congrArg x (funext fun a => Fin.ext ?_)
  match a with
  | ⟨0, _⟩ => show k0_off4 k 0 + 1 * 0 = 0; rw [off4_eq]; rfl
  | ⟨1, _⟩ => show k0_off4 k 1 + 1 * 0 = 0; rw [off4_eq]; rfl
  | ⟨2, _⟩ => show k0_off4 k 2 + 1 * 0 = n.val; rw [off4_eq]; exact hn
  | ⟨3, _⟩ => show k0_off4 k 3 + 1 * i.val = i.val; rw [off4_eq]; exact (Nat.zero_add _).trans (Nat.one_mul _)
  | ⟨4, _⟩ => show k0_off4 k 4 + 1 * d.val = d.val; rw [off4_eq]; exact (Nat.zero_add _).trans (Nat.one_mul _)
/-- Chunk `k` of a block of decays or write strengths, at an index. -/
theorem blkG_read (x : Vec F S1x1x10x64 .f32) (k : Fin k0_t1_loop.trips) (n : Fin 10) (hn : k.val = n.val) (i : Fin 64) :
    blkG x k (ix4 0 0 0 i) = x (ix4 0 0 n i) := by
  refine congrArg x (funext fun a => Fin.ext ?_)
  match a with
  | ⟨0, _⟩ => show k0_off3 k 0 + 1 * 0 = 0; rw [off3_eq]; rfl
  | ⟨1, _⟩ => show k0_off3 k 1 + 1 * 0 = 0; rw [off3_eq]; rfl
  | ⟨2, _⟩ => show k0_off3 k 2 + 1 * 0 = n.val; rw [off3_eq]; exact hn
  | ⟨3, _⟩ => show k0_off3 k 3 + 1 * i.val = i.val; rw [off3_eq]; exact (Nat.zero_add _).trans (Nat.one_mul _)

/-- The codes as stored, and a scale spread over the lanes. -/
theorem pay26_read (y : FVec F S64x128 .fp8e4m3) (i : Fin 64) (d : Fin 128) : k0_pay26 y (ix5 0 0 0 i d) = y (ix2 i d) := by
  pointwise [k0_pay26]
/-- The query codes as stored, at an index. -/
theorem pay27_read (y : FVec F S64x128 .f32) (z : FVec F S1x1 .f32) (i : Fin 64) (d : Fin 128) :
    k0_pay27 y z (ix5 0 0 0 i d) = k0_pay25 y z (ix2 i d) := by
  unfold k0_pay27
  generalize k0_pay25 y z = w
  pointwise
/-- The key scale as stored, at any lane. -/
theorem pay28_read (y : FVec F S1x1 .f32) (l : Fin 128) : k0_pay28 y (ix4 0 0 0 l) = y (ix2 0 0) := by
  pointwise [k0_pay28]
/-- The query scale as stored, at any lane. -/
theorem pay29_read (y : FVec F S1x1 .f32) (l : Fin 128) : k0_pay29 y (ix4 0 0 0 l) = y (ix2 0 0) := by
  pointwise [k0_pay29]

/-- The chunks put back in one row of positions. -/
theorem join128 {e : EltTy} (y : Vec F S2x24x10x64x128 e) (b : Fin 2) (t : Fin 640) (h : Fin 24) (d : Fin 128) :
    shapeCast S2x640x24x128 (transpose S2x10x64x24x128 [0, 2, 3, 1, 4] y transposes_S2x24x10x64x128_S2x10x64x24x128_0_2_3_1_4) shapeCasts_S2x10x64x24x128_S2x640x24x128 (ix4 b t h d)
      = y (ix5 b h (chunkOf t) (placeOf t) d) := by
  pointwise
  rfl
/-- The output's chunks put back in the order of positions. -/
theorem join256 {e : EltTy} (y : Vec F S2x24x10x64x256 e) (b : Fin 2) (t : Fin 640) (h : Fin 24) (d : Fin 256) :
    shapeCast S2x640x24x256 (transpose S2x10x64x24x256 [0, 2, 3, 1, 4] y transposes_S2x24x10x64x256_S2x10x64x24x256_0_2_3_1_4) shapeCasts_S2x10x64x24x256_S2x640x24x256 (ix4 b t h d)
      = y (ix5 b h (chunkOf t) (placeOf t) d) := by
  pointwise
  rfl
/-- A scale array cut to its first lane, chunks before heads. -/
theorem lane0 (y : Vec F S2x24x10x128 .f32) (b : Fin 2) (n : Fin 10) (h : Fin 24) :
    transpose S2x10x24 [0, 2, 1] (shapeCast S2x24x10 (extractStridedSlice S2x24x10x1 ![0, 0, 0, 0] y slices_S2x24x10x128_S2x24x10x1_0_0_0_0) shapeCasts_S2x24x10x1_S2x24x10) transposes_S2x24x10_S2x10x24_0_2_1 (ix3 b n h)
      = y (ix4 b h n 0) := by
  pointwise

end Blocks

variable (m : (ℓ : Loc nD τ sig) → Buf (Elt Ideal) ℓ) (c : Dev nD)

/-- The arguments hold real numbers, the queries and keys below 2^128. -/
structure Reals (Q K : AQK) (V : AV) (G B : AP) (S : AS) : Prop where
  q : ∀ b t h d, m ((c : Thread nD τ).loc main_arg0) (ix4 b t h d) = ((Q b t h d : ℝ) : EReal)
  k : ∀ b t h d, m ((c : Thread nD τ).loc main_arg1) (ix4 b t h d) = ((K b t h d : ℝ) : EReal)
  v : ∀ b t h d, m ((c : Thread nD τ).loc main_arg2) (ix4 b t h d) = ((V b t h d : ℝ) : EReal)
  g : ∀ b t h, m ((c : Thread nD τ).loc main_arg3) (ix3 b t h) = ((G b t h : ℝ) : EReal)
  b : ∀ b t h, m ((c : Thread nD τ).loc main_arg4) (ix3 b t h) = ((B b t h : ℝ) : EReal)
  s : ∀ b h d v, m ((c : Thread nD τ).loc main_arg5) (ix4 b h d v) = ((S b h d v : ℝ) : EReal)
  qlt : ∀ b t h d, |Q b t h d| < (2 : ℝ) ^ (128 : ℤ)
  klt : ∀ b t h d, |K b t h d| < (2 : ℝ) ^ (128 : ℤ)

variable {m c} {Q K : AQK} {V : AV} {G B : AP} {S : AS}
variable (r : Reals m c Q K V G B S) (b : Fin 2) (h : Fin 24)
include r

/-- The blocks of head `h` of batch `b` hold the chunks of that head. -/
theorem isQ (k : Fin k0_t1_loop.trips) (n : Fin 10) (hn : k.val = n.val) : IsQK (blkQK (iblk m c 0 (pt b h)) k) (chQK Q b h n) :=
  ⟨fun i d => (blkQK_read _ k n hn i d).trans ((iblk0 m c b h n i d).trans ((in_v1 m c b h n i d).trans (r.q b (pos n i) h d))), fun i d => r.qlt b (pos n i) h d⟩
/-- The key block of head `h` of batch `b` holds the chunks of that head. -/
theorem isK (k : Fin k0_t1_loop.trips) (n : Fin 10) (hn : k.val = n.val) : IsQK (blkQK (iblk m c 1 (pt b h)) k) (chQK K b h n) :=
  ⟨fun i d => (blkQK_read _ k n hn i d).trans ((iblk1 m c b h n i d).trans ((in_v3 m c b h n i d).trans (r.k b (pos n i) h d))), fun i d => r.klt b (pos n i) h d⟩
/-- The value block holds the chunks of that head. -/
theorem isV (k : Fin k0_t1_loop.trips) (n : Fin 10) (hn : k.val = n.val) : IsV (blkV (iblk m c 2 (pt b h)) k) (chV V b h n) :=
  fun i d => (blkV_read _ k n hn i d).trans ((iblk2 m c b h n i d).trans ((in_v5 m c b h n i d).trans (r.v b (pos n i) h d)))
/-- The decay block holds the chunks of that head. -/
theorem isG (k : Fin k0_t1_loop.trips) (n : Fin 10) (hn : k.val = n.val) : IsP (blkG (iblk m c 3 (pt b h)) k) (chP G b h n) :=
  fun i => (blkG_read _ k n hn i).trans ((iblk3 m c b h n i).trans ((in_v8 m c b h n i).trans (r.g b (pos n i) h)))
/-- The write strength block holds the chunks of that head. -/
theorem isB (k : Fin k0_t1_loop.trips) (n : Fin 10) (hn : k.val = n.val) : IsP (blkG (iblk m c 4 (pt b h)) k) (chP B b h n) :=
  fun i => (blkG_read _ k n hn i).trans ((iblk4 m c b h n i).trans ((in_v11 m c b h n i).trans (r.b b (pos n i) h)))

/-- The state before chunk `n`. -/
theorem isSt (n : ℕ) (hn : n ≤ 10) :
    IsS (stAt (iblk m c 1 (pt b h)) (iblk m c 2 (pt b h)) (iblk m c 3 (pt b h)) (iblk m c 4 (pt b h)) (iblk m c 5 (pt b h)) n)
      (hst K V G B S b h n) := by
  induction n with
  | zero => exact fun d v => (iblk5 m c b h d v).trans ((congrFun (V_main_arg5 m c) _).trans (r.s b h d v))
  | succ n ih =>
    have ht : n < k0_t1_loop.trips := by rw [trips_eq]; omega
    rw [stAt, dif_pos ht, hst_succ K V G B S b h ⟨n, by omega⟩]
    exact sStep_eq (isK r b h ⟨n, ht⟩ ⟨n, by omega⟩ rfl) (isV r b h ⟨n, ht⟩ ⟨n, by omega⟩ rfl) (isG r b h ⟨n, ht⟩ ⟨n, by omega⟩ rfl)
      (isB r b h ⟨n, ht⟩ ⟨n, by omega⟩ rfl) (ih (by omega))

/-! ### The region's result arrays -/

/-- The output array of the region, over the reals. -/
theorem arr6_read (n : Fin 10) (i : Fin 64) (v : Fin 256) : arr6 m c (ix5 b h n i v)
    = ((oOut (chQK Q b h n) (chQK K b h n) (chV V b h n) (chP G b h n) (chP B b h n) (hst K V G B S b h n.val) i v : ℝ) : EReal) :=
  oStep_eq (isQ r b h _ n rfl) (isK r b h _ n rfl) (isV r b h _ n rfl) (isG r b h _ n rfl) (isB r b h _ n rfl) (isSt r b h n.val (by omega)) i v
/-- The final-state array of the region, over the reals. -/
theorem arr7_read (d : Fin 128) (v : Fin 256) : arr7 m c (ix4 b h d v) = ((hst K V G B S b h 10 d v : ℝ) : EReal) :=
  isSt r b h 10 (le_refl _) d v
/-- The key-code array of the region, over the reals. -/
theorem arr8_read (n : Fin 10) (i : Fin 64) (d : Fin 128) : arr8 m c (ix5 b h n i d) = ((code (chQK K b h n) i d : ℝ) : EReal) :=
  (pay26_read _ i d).trans (kCode_eq (isK r b h _ n rfl) i d)
/-- The key-scale array of the region, over the reals. -/
theorem arr9_read (n : Fin 10) (l : Fin 128) : arr9 m c (ix4 b h n l) = ((scale (chQK K b h n) : ℝ) : EReal) :=
  (pay28_read _ l).trans (kScale_eq (isK r b h _ n rfl))
/-- The query-code array of the region, over the reals. -/
theorem arr10_read (n : Fin 10) (i : Fin 64) (d : Fin 128) : arr10 m c (ix5 b h n i d) = ((code (chQK Q b h n) i d : ℝ) : EReal) :=
  (pay27_read _ _ i d).trans (qCode_eq (isQ r b h _ n rfl) i d)
/-- The query-scale array of the region, over the reals. -/
theorem arr11_read (n : Fin 10) (l : Fin 128) : arr11 m c (ix4 b h n l) = ((scale (chQK Q b h n) : ℝ) : EReal) :=
  (pay29_read _ l).trans (qScale_eq (isQ r b h _ n rfl))

omit b h

/-! ### The six results -/

/-- The kernel's first result: the outputs. -/
theorem res_o : shapeCast S2x640x24x256 (transpose S2x10x64x24x256 [0, 2, 3, 1, 4] (reg_main_v12_0 m c) transposes_S2x24x10x64x256_S2x10x64x24x256_0_2_3_1_4) shapeCasts_S2x10x64x24x256_S2x640x24x256
    = fun p : S2x640x24x256.Idx => ((outA Q K V G B S (p 0) (p 1) (p 2) (p 3) : ℝ) : EReal) := by
  funext p
  rw [reg6]
  exact (congrArg _ (eq_ix4 p)).trans ((join256 (e := .bf16) (arr6 m c) (p 0) (p 1) (p 2) (p 3)).trans (arr6_read r (p 0) (p 2) (chunkOf (p 1)) (placeOf (p 1)) (p 3)))
/-- The kernel's second result: the final state. -/
theorem res_s : reg_main_v12_1 m c = fun p : S2x24x128x256.Idx => ((hst K V G B S (p 0) (p 1) 10 (p 2) (p 3) : ℝ) : EReal) := by
  funext p
  rw [reg7]
  exact (congrArg (arr7 m c) (eq_ix4 p)).trans (arr7_read r (p 0) (p 1) (p 2) (p 3))
/-- The kernel's third result: the key codes. -/
theorem res_k : shapeCast S2x640x24x128 (transpose S2x10x64x24x128 [0, 2, 3, 1, 4] (reg_main_v12_2 m c) transposes_S2x24x10x64x128_S2x10x64x24x128_0_2_3_1_4) shapeCasts_S2x10x64x24x128_S2x640x24x128
    = fun p : S2x640x24x128.Idx => ((codeA K (p 0) (p 1) (p 2) (p 3) : ℝ) : EReal) := by
  funext p
  rw [reg8]
  exact (congrArg _ (eq_ix4 p)).trans ((join128 (e := .fp8e4m3) (arr8 m c) (p 0) (p 1) (p 2) (p 3)).trans (arr8_read r (p 0) (p 2) (chunkOf (p 1)) (placeOf (p 1)) (p 3)))
/-- The kernel's fourth result: the key scales. -/
theorem res_ks : transpose S2x10x24 [0, 2, 1] (shapeCast S2x24x10 (extractStridedSlice S2x24x10x1 ![0, 0, 0, 0] (reg_main_v12_3 m c) slices_S2x24x10x128_S2x24x10x1_0_0_0_0) shapeCasts_S2x24x10x1_S2x24x10) transposes_S2x24x10_S2x10x24_0_2_1
    = fun p : S2x10x24.Idx => ((scaleA K (p 0) (p 1) (p 2) : ℝ) : EReal) := by
  funext p
  rw [reg9]
  exact (congrArg _ (eq_ix3 p)).trans ((lane0 (arr9 m c) (p 0) (p 1) (p 2)).trans (arr9_read r (p 0) (p 2) (p 1) 0))
/-- The kernel's fifth result: the query codes. -/
theorem res_q : shapeCast S2x640x24x128 (transpose S2x10x64x24x128 [0, 2, 3, 1, 4] (reg_main_v12_4 m c) transposes_S2x24x10x64x128_S2x10x64x24x128_0_2_3_1_4) shapeCasts_S2x10x64x24x128_S2x640x24x128
    = fun p : S2x640x24x128.Idx => ((codeA Q (p 0) (p 1) (p 2) (p 3) : ℝ) : EReal) := by
  funext p
  rw [reg10]
  exact (congrArg _ (eq_ix4 p)).trans ((join128 (e := .fp8e4m3) (arr10 m c) (p 0) (p 1) (p 2) (p 3)).trans (arr10_read r (p 0) (p 2) (chunkOf (p 1)) (placeOf (p 1)) (p 3)))
/-- The kernel's sixth result: the query scales. -/
theorem res_qs : transpose S2x10x24 [0, 2, 1] (shapeCast S2x24x10 (extractStridedSlice S2x24x10x1 ![0, 0, 0, 0] (reg_main_v12_5 m c) slices_S2x24x10x128_S2x24x10x1_0_0_0_0) shapeCasts_S2x24x10x1_S2x24x10) transposes_S2x24x10_S2x10x24_0_2_1
    = fun p : S2x10x24.Idx => ((scaleA Q (p 0) (p 1) (p 2) : ℝ) : EReal) := by
  funext p
  rw [reg11]
  exact (congrArg _ (eq_ix3 p)).trans ((lane0 (arr11 m c) (p 0) (p 1) (p 2)).trans (arr11_read r (p 0) (p 2) (p 1) 0))

end Cert.KernelIdeal.Value

end
-- ==== Proof.RefQuant.lean ====
/- The reference's quantiser over the real numbers. -/
module

public import proofs.«01_k».proof.Proof.Gen.ReferenceIdeal.Read
public import proofs.«01_k».proof.Proof.Chunks

@[expose] public section

set_option maxRecDepth 16384

noncomputable section

namespace Cert.ReferenceIdeal.Read

open Idealize.ShloMosaic Idealize.ShloMosaic.TcCoe Idealize.ShloMosaic.Tactic Cert.ReferenceIdeal
open Cert.Quant Cert.Spec Cert.Inverse

variable {x0 x1 : (⟨S2x640x24x128, .bf16⟩ : BufTy).Contents (Elt Ideal)} {K Q : AQK}
variable (b : Fin 2) (n : Fin 10) (h : Fin 24) (i : Fin 64) (d : Fin 128)

/-- An array of 16-bit floats that holds real numbers below `2 ^ 128`. -/
def RQK (x : (⟨S2x640x24x128, .bf16⟩ : BufTy).Contents (Elt Ideal)) (K : AQK) : Prop :=
  (∀ b t h d, x (ix4 b t h d) = ((K b t h d : ℝ) : EReal)) ∧ ∀ b t h d, |K b t h d| < (2 : ℝ) ^ (128 : ℤ)

/-- The maximum over a block. -/
theorem fold_drop (f : S2x10x24x64x128.Idx → EReal) (X : KQ) (hf : ∀ i d, f (ix5 b n h i d) = ((|X i d| : ℝ) : EReal)) :
    Finset.fold max (⊥ : EReal) f {i | Gen.reducesTo_S2x10x24x64x128_S2x10x24_d3_4.drop i = ix3 b n h} = ((amax X : ℝ) : EReal) := by
  apply le_antisymm
  · rw [Finset.fold_max_le]
    refine ⟨bot_le, fun p hp => ?_⟩
    have hd := (Finset.mem_filter.mp hp).2
    have h0 : p 0 = b := congrFun hd 0
    have h1 : p 1 = n := congrFun hd 1
    have h2 : p 2 = h := congrFun hd 2
    obtain ⟨i, hi⟩ : ∃ i : Fin 64, i = p 3 := ⟨p 3, rfl⟩
    obtain ⟨d, hd'⟩ : ∃ d : Fin 128, d = p 4 := ⟨p 4, rfl⟩
    have e : p = ix5 b n h i d := by
      rw [← h0, ← h1, ← h2, hi, hd']; exact eq_ix5 p
    rw [e, hf i d]
    exact EReal.coe_le_coe_iff.mpr (le_amax X i d)
  · obtain ⟨i, d, e⟩ := amax_mem X
    rw [Finset.le_fold_max]
    refine Or.inr ⟨ix5 b n h i d, Finset.mem_filter.mpr ⟨Finset.mem_univ _, ?_⟩, by rw [hf, e]⟩
    funext a
    fin_cases a <;> rfl

/-- The reference's exponent, from the logarithm, is the exponent of the block: zero for a block of zeros, otherwise the floor of the logarithm plus one, held at -126. -/
theorem exp_read (X : KQ) : Scalar.select (FloatOps.cmpf (F := Ideal) (φ := .f32) .oeq ((amax X : ℝ) : EReal) 0) 0
    (max (Ideal.liftRound Int.floor (Ideal.div (Ideal.log ((amax X * c448 : ℝ) : EReal)) (Ideal.log ((2 : ℝ) : EReal))) + 1) ((-126 : ℝ) : EReal))
    = (((ex X : ℤ) : ℝ) : EReal) := by
  have hl : Ideal.log ((2 : ℝ) : EReal) = ((Real.log 2 : ℝ) : EReal) := by
    change (if (2 : ℝ) ≤ 0 then (⊥ : EReal) else _) = _
    rw [if_neg (by norm_num)]
  have hc : FloatOps.cmpf (F := Ideal) (φ := .f32) .oeq ((amax X : ℝ) : EReal) 0 = if ((amax X : ℝ) : EReal) = 0 then 1#1 else 0#1 := by
    change BitVec.ofBool (decide _) = _
    split_ifs with hz <;> simp [hz]
  rw [hc, selif]
  by_cases h0 : amax X = 0
  · have : ex X = 0 := by unfold ex expo; rw [h0, zero_mul, if_pos rfl]
    rw [this]
    rw [h0]; simp
  · have hp : 0 < amax X * c448 := mul_pos (lt_of_le_of_ne (amax_nonneg X) (Ne.symm h0)) c448_pos
    have hly : Ideal.log ((amax X * c448 : ℝ) : EReal) = ((Real.log (amax X * c448) : ℝ) : EReal) := by
      change (if amax X * c448 ≤ 0 then (⊥ : EReal) else _) = _
      rw [if_neg (not_le.mpr hp)]
    have hs : ¬ ((amax X : ℝ) : EReal) = 0 := by exact_mod_cast h0
    have hr : ∀ a : ℝ, Ideal.liftRound Int.floor (a : EReal) = (((⌊a⌋ : ℤ) : ℝ) : EReal) := fun _ => rfl
    rw [if_neg hs, hl, hly, cdiv _ _ (Real.log_pos (by norm_num)).ne', hr, show (1 : EReal) = ((1 : ℝ) : EReal) from rfl, cadd, cmax]
    unfold ex expo
    rw [if_neg hp.ne']
    congr 1
    push_cast
    rfl

/-- Two to an integer power, as the reference computes it. -/
theorem pow_read (e : ℤ) : Ideal.pow ((2 : ℝ) : EReal) ((e : ℝ) : EReal) = (((2 : ℝ) ^ e : ℝ) : EReal) := by
  change ((Real.rpow 2 (e : ℝ) : ℝ) : EReal) = _
  congr 1
  exact Real.rpow_intCast 2 e

/-! ### Keys -/

/-- The reference's chunks of keys, at written coordinates. -/
theorem kchunk_eq' (hx : RQK x1 K) : val_main_v2 x1 (ix5 b n h i d) = ((chQK K b h n i d : ℝ) : EReal) := by
  pointwise [val_main_v0, val_main_v1, val_main_v2]
  exact hx.1 b (pos n i) h d
/-- The reference's chunks of keys, at any index. -/
theorem kchunk_eq (hx : RQK x1 K) (p : S2x10x24x64x128.Idx) : val_main_v2 x1 p = ((chQK K (p 0) (p 2) (p 1) (p 3) (p 4) : ℝ) : EReal) :=
  (congrArg _ (eq_ix5 p)).trans (kchunk_eq' (p 0) (p 1) (p 2) (p 3) (p 4) hx)

/-- The reference's largest absolute value of a block of keys, at written coordinates. -/
theorem kamax_eq' (hx : RQK x1 K) : val_main_v14 x1 (ix3 b n h) = ((amax (chQK K b h n) : ℝ) : EReal) := by
  pointwise [val_main_v14, val_main_v13, val_main_cst]
  rw [bot_bits]
  exact fold_drop b n h _ _ fun i d => by rw [kchunk_eq' b n h i d hx, cabs]
/-- The reference's largest absolute value of a block of keys. -/
theorem kamax_eq (hx : RQK x1 K) (p : S2x10x24.Idx) : val_main_v14 x1 p = ((amax (chQK K (p 0) (p 2) (p 1)) : ℝ) : EReal) :=
  (congrArg _ (eq_ix3 p)).trans (kamax_eq' (p 0) (p 1) (p 2) hx)

/-- The reference's exponent of a block of keys. -/
theorem kexp_eq (hx : RQK x1 K) (p : S2x10x24.Idx) : val_main_v29 x1 p = (((ex (chQK K (p 0) (p 2) (p 1)) : ℤ) : ℝ) : EReal) := by
  simp -implicitDefEqProofs only [val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_call0_v0_apply, val_main_call0_v1_apply, val_main_cst_0_apply, val_main_cst_1_apply, val_main_cst_2_apply, val_main_cst_3_apply, val_main_cst_4_apply, val_main_cst_5_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, kamax_eq hx, cmul]
  exact exp_read (chQK K (p 0) (p 2) (p 1))

/-- The reference's scale of a block of keys. -/
theorem kscale_eq (hx : RQK x1 K) (p : S2x10x24.Idx) : val_main_v31 x1 p = ((scale (chQK K (p 0) (p 2) (p 1)) : ℝ) : EReal) := by
  simp -implicitDefEqProofs only [val_main_v30_apply, val_main_v31_apply, val_main_cst_6_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, kexp_eq hx]
  exact pow_read _

/-- The reference's inverse scale of a block of keys. -/
theorem kinv_eq (hx : RQK x1 K) (p : S2x10x24.Idx) : val_main_v34 x1 p = ((inv (chQK K (p 0) (p 2) (p 1)) : ℝ) : EReal) := by
  simp -implicitDefEqProofs only [val_main_v32_apply, val_main_v33_apply, val_main_v34_apply, val_main_cst_7_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, kexp_eq hx, ← EReal.coe_neg, ← Int.cast_neg]
  exact pow_read _

/-- The reference's key codes. -/
theorem kcode_eq (hx : RQK x1 K) (p : S2x10x24x64x128.Idx) : val_main_v38 x1 p = ((code (chQK K (p 0) (p 2) (p 1)) (p 3) (p 4) : ℝ) : EReal) := by
  simp -implicitDefEqProofs only [val_main_v35_apply, val_main_v36_apply, val_main_v37_apply, val_main_v38_apply, val_main_call1_v0_apply, val_main_call1_v1_apply, val_main_call1_v2_apply, val_main_call1_v3_apply, val_main_call1_v4_apply, val_main_cst_8_apply, val_main_cst_9_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, kinv_eq hx, kchunk_eq hx, cmul, cmax, cmin]
  rfl

/-! ### Queries -/

/-- The reference's chunks of queries, at written coordinates. -/
theorem qchunk_eq' (hx : RQK x0 Q) : val_main_v5 x0 (ix5 b n h i d) = ((chQK Q b h n i d : ℝ) : EReal) := by
  pointwise [val_main_v3, val_main_v4, val_main_v5]
  exact hx.1 b (pos n i) h d
/-- The reference's chunks of queries, at any index. -/
theorem qchunk_eq (hx : RQK x0 Q) (p : S2x10x24x64x128.Idx) : val_main_v5 x0 p = ((chQK Q (p 0) (p 2) (p 1) (p 3) (p 4) : ℝ) : EReal) :=
  (congrArg _ (eq_ix5 p)).trans (qchunk_eq' (p 0) (p 1) (p 2) (p 3) (p 4) hx)

/-- The reference's largest absolute value of a block of queries, at written coordinates. -/
theorem qamax_eq' (hx : RQK x0 Q) : val_main_v40 x0 (ix3 b n h) = ((amax (chQK Q b h n) : ℝ) : EReal) := by
  pointwise [val_main_v40, val_main_v39, val_main_cst_10]
  rw [bot_bits]
  exact fold_drop b n h _ _ fun i d => by rw [qchunk_eq' b n h i d hx, cabs]
/-- The reference's largest absolute value of a block of queries. -/
theorem qamax_eq (hx : RQK x0 Q) (p : S2x10x24.Idx) : val_main_v40 x0 p = ((amax (chQK Q (p 0) (p 2) (p 1)) : ℝ) : EReal) :=
  (congrArg _ (eq_ix3 p)).trans (qamax_eq' (p 0) (p 1) (p 2) hx)

/-- The reference's exponent of a block of queries. -/
theorem qexp_eq (hx : RQK x0 Q) (p : S2x10x24.Idx) : val_main_v55 x0 p = (((ex (chQK Q (p 0) (p 2) (p 1)) : ℤ) : ℝ) : EReal) := by
  simp -implicitDefEqProofs only [val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_call2_v0_apply, val_main_call2_v1_apply, val_main_cst_11_apply, val_main_cst_12_apply, val_main_cst_13_apply, val_main_cst_14_apply, val_main_cst_15_apply, val_main_cst_16_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, qamax_eq hx, cmul]
  exact exp_read (chQK Q (p 0) (p 2) (p 1))

/-- The reference's scale of a block of queries. -/
theorem qscale_eq (hx : RQK x0 Q) (p : S2x10x24.Idx) : val_main_v57 x0 p = ((scale (chQK Q (p 0) (p 2) (p 1)) : ℝ) : EReal) := by
  simp -implicitDefEqProofs only [val_main_v56_apply, val_main_v57_apply, val_main_cst_17_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, qexp_eq hx]
  exact pow_read _

/-- The reference's inverse scale of a block of queries. -/
theorem qinv_eq (hx : RQK x0 Q) (p : S2x10x24.Idx) : val_main_v60 x0 p = ((inv (chQK Q (p 0) (p 2) (p 1)) : ℝ) : EReal) := by
  simp -implicitDefEqProofs only [val_main_v58_apply, val_main_v59_apply, val_main_v60_apply, val_main_cst_18_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, qexp_eq hx, ← EReal.coe_neg, ← Int.cast_neg]
  exact pow_read _

/-- The reference's query codes. -/
theorem qcode_eq (hx : RQK x0 Q) (p : S2x10x24x64x128.Idx) : val_main_v64 x0 p = ((code (chQK Q (p 0) (p 2) (p 1)) (p 3) (p 4) : ℝ) : EReal) := by
  simp -implicitDefEqProofs only [val_main_v61_apply, val_main_v62_apply, val_main_v63_apply, val_main_v64_apply, val_main_call3_v0_apply, val_main_call3_v1_apply, val_main_call3_v2_apply, val_main_call3_v3_apply, val_main_call3_v4_apply, val_main_cst_19_apply, val_main_cst_20_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, qinv_eq hx, qchunk_eq hx, cmul, cmax, cmin]
  rfl

end Cert.ReferenceIdeal.Read

end
-- ==== Proof.RefCumsum.lean ====
/- The reference's running sums over the real numbers. -/
module

public import proofs.«01_k».proof.Proof.Gen.ReferenceIdeal.Read
public import proofs.«01_k».proof.Proof.Chunks

@[expose] public section

set_option maxRecDepth 16384

noncomputable section

namespace Cert.ReferenceIdeal.Read

open Idealize.ShloMosaic Idealize.ShloMosaic.TcCoe Idealize.ShloMosaic.Tactic Cert.ReferenceIdeal
open Cert.Quant Cert.Spec Cert.Inverse

/-- A left fold of additions is the sum of the list. -/
theorem foldl_add {α : Type} (f : α → EReal) (l : List α) (v : EReal) : l.foldl (fun r k => r + f k) v = v + (l.map f).sum := by
  induction l generalizing v with
  | nil => simp
  | cons a l ih => rw [List.foldl_cons, ih, List.map_cons, List.sum_cons, add_assoc]

/-- Which window positions stay inside: the turned position is at most `i` exactly when the window reaches the array. -/
theorem turn_le : ∀ i k : Fin 64, (k + (i + 1) ≤ i) = (63 ≤ i.val + k.val) := by
  intro i k
  have := (by decide +kernel : ∀ i k : Fin 64, (k + (i + 1) ≤ i) ↔ (63 ≤ i.val + k.val))
  exact propext (this i k)
/-- The turned position as a number. -/
theorem turn_val : ∀ i k : Fin 64, 63 ≤ i.val + k.val → (k + (i + 1)).val = i.val + k.val - 63 := by
  decide +kernel

/-- The shape of the running sum's window. -/
abbrev W4 : Shape := ⟨4, ![1, 1, 1, 64]⟩
/-- A window of 64 positions along the last axis. -/
def win : Fin 64 ≃ W4.Idx where
  toFun k := ix4 (0 : Fin 1) (0 : Fin 1) (0 : Fin 1) k
  invFun q := q 3
  left_inv k := rfl
  right_inv q := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A sum of reals, re-indexed, as a sum of extended reals. -/
theorem csum' {α : Type} [Fintype α] (e : Fin 64 ≃ α) (f : α → ℝ) : ((∑ k, f (e k) : ℝ) : EReal) = ∑ q, ((f q : ℝ) : EReal) := by
  rw [← csum]
  exact Equiv.sum_comp e (fun q => ((f q : ℝ) : EReal))

/-- A window sum from zero is the sum over the window's positions. -/
theorem window_sum {s t : Shape} (window strides lo hi : Fin s.rank → ℕ) (h : s.ReduceWindows window strides lo hi t) (x : s.Idx → EReal) (j : t.Idx)
    (T : (⟨s.rank, window⟩ : Shape).Idx → EReal)
    (h1 : ∀ q, (hin : ∀ a, lo a ≤ (j (a.cast h.1.symm)).val * strides a + (q a).val ∧ (j (a.cast h.1.symm)).val * strides a + (q a).val - lo a < s.size a) →
      x (fun a => ⟨(j (a.cast h.1.symm)).val * strides a + (q a).val - lo a, (hin a).2⟩) = T q)
    (h0 : ∀ q, (¬ ∀ a, lo a ≤ (j (a.cast h.1.symm)).val * strides a + (q a).val ∧ (j (a.cast h.1.symm)).val * strides a + (q a).val - lo a < s.size a) → 0 = T q) :
    Ideal.hostReduceWindowAdd window strides lo hi h x 0 j = ∑ q, T q := by
  unfold Ideal.hostReduceWindowAdd Host.reduceWindow
  dsimp only
  rw [foldl_add, zero_add, ← Fin.sum_univ_def, ← Equiv.sum_comp (⟨s.rank, window⟩ : Shape).rowMajor.symm T]
  refine Finset.sum_congr rfl fun m _ => ?_
  split
  · next hin => exact h1 _ hin
  · next hin => exact h0 _ hin

/-- A window sum of 64 positions, padded low by 63, is the running sum. -/
theorem cum_read (x : (⟨S2x10x24x64, .f32⟩ : BufTy).Contents (Elt Ideal)) (f : PP) (b : Fin 2) (n : Fin 10) (h : Fin 24) (i : Fin 64)
    (hx : ∀ j, x (ix4 b n h j) = ((f j : ℝ) : EReal)) (hw : S2x10x24x64.ReduceWindows ![1, 1, 1, 64] ![1, 1, 1, 1] ![0, 0, 0, 63] ![0, 0, 0, 0] S2x10x24x64) :
    Ideal.hostReduceWindowAdd ![1, 1, 1, 64] ![1, 1, 1, 1] ![0, 0, 0, 63] ![0, 0, 0, 0] hw x 0 (ix4 b n h i) = ((cum f i : ℝ) : EReal) := by
  refine (window_sum (s := S2x10x24x64) (t := S2x10x24x64) _ _ _ _ hw x (ix4 b n h i)
    (fun q => ((if 63 ≤ i.val + (q 3).val then f ((show Fin 64 from q 3) + (i + 1)) else 0 : ℝ) : EReal)) ?_ ?_).trans ?_
  · intro q hin
    have h3 : 63 ≤ i.val * 1 + (q 3).val ∧ i.val * 1 + (q 3).val - 63 < 64 := hin 3
    rw [if_pos (by omega), ← hx]
    have q0 : (q 0).val = 0 := by have : (q 0).val < 1 := (q 0).isLt; omega
    have q1 : (q 1).val = 0 := by have : (q 1).val < 1 := (q 1).isLt; omega
    have q2 : (q 2).val = 0 := by have : (q 2).val < 1 := (q 2).isLt; omega
    refine congrArg x (funext fun a => Fin.ext ?_)
    match a with
    | ⟨0, _⟩ => show b.val * 1 + (q 0).val - 0 = b.val; omega
    | ⟨1, _⟩ => show n.val * 1 + (q 1).val - 0 = n.val; omega
    | ⟨2, _⟩ => show h.val * 1 + (q 2).val - 0 = h.val; omega
    | ⟨3, _⟩ => show i.val * 1 + (q 3).val - 63 = ((show Fin 64 from q 3) + (i + 1)).val; rw [turn_val i _ (by show 63 ≤ i.val + (q 3).val; omega)]; show _ = i.val + (q 3).val - 63; omega
  · intro q hin
    have q0 : (q 0).val = 0 := by have : (q 0).val < 1 := (q 0).isLt; omega
    have q1 : (q 1).val = 0 := by have : (q 1).val < 1 := (q 1).isLt; omega
    have q2 : (q 2).val = 0 := by have : (q 2).val < 1 := (q 2).isLt; omega
    have q3 : (q 3).val < 64 := (q 3).isLt
    rw [if_neg, EReal.coe_zero]
    intro hle
    refine hin fun a => ?_
    match a with
    | ⟨0, _⟩ => show 0 ≤ b.val * 1 + (q 0).val ∧ b.val * 1 + (q 0).val - 0 < 2; omega
    | ⟨1, _⟩ => show 0 ≤ n.val * 1 + (q 1).val ∧ n.val * 1 + (q 1).val - 0 < 10; omega
    | ⟨2, _⟩ => show 0 ≤ h.val * 1 + (q 2).val ∧ h.val * 1 + (q 2).val - 0 < 24; omega
    | ⟨3, _⟩ => show 63 ≤ i.val * 1 + (q 3).val ∧ i.val * 1 + (q 3).val - 63 < 64; omega
  · rw [← csum' win]
    congr 1
    unfold cum
    rw [← Equiv.sum_comp (Equiv.addRight (i + 1)) (fun j => if j ≤ i then f j else 0)]
    refine Finset.sum_congr rfl fun k _ => ?_
    simp only [Equiv.coe_addRight, turn_le]
    rfl

end Cert.ReferenceIdeal.Read

end
-- ==== Proof.RefChunk.lean ====
/- The reference's values within a chunk over the real numbers. -/
module

public import proofs.«01_k».proof.Proof.Gen.ReferenceIdeal.Read
public import proofs.«01_k».proof.Proof.Chunks
public import proofs.«01_k».proof.Proof.RefQuant
public import proofs.«01_k».proof.Proof.RefCumsum

@[expose] public section

set_option maxRecDepth 16384

noncomputable section

namespace Cert.ReferenceIdeal.Read

open Idealize.ShloMosaic Idealize.ShloMosaic.TcCoe Idealize.ShloMosaic.Tactic Cert.ReferenceIdeal
open Cert.Quant Cert.Spec Cert.Inverse

variable {x0 x1 : (⟨S2x640x24x128, .bf16⟩ : BufTy).Contents (Elt Ideal)} {K Q : AQK}
variable {x2 : (⟨S2x640x24x256, .bf16⟩ : BufTy).Contents (Elt Ideal)} {V : AV}
variable {x3 x4 : (⟨S2x640x24, .f32⟩ : BufTy).Contents (Elt Ideal)} {G B : AP}
variable (b : Fin 2) (n : Fin 10) (h : Fin 24) (i j : Fin 64) (d : Fin 128) (v : Fin 256)

/-- An array of values that holds real numbers. -/
def RV (x : (⟨S2x640x24x256, .bf16⟩ : BufTy).Contents (Elt Ideal)) (V : AV) : Prop := ∀ b t h v, x (ix4 b t h v) = ((V b t h v : ℝ) : EReal)
/-- An array with one real number per position and head. -/
def RP (x : (⟨S2x640x24, .f32⟩ : BufTy).Contents (Elt Ideal)) (G : AP) : Prop := ∀ b t h, x (ix3 b t h) = ((G b t h : ℝ) : EReal)

/-- The reference's chunks of values, at written coordinates. -/
theorem v8_eq' (hv : RV x2 V) : val_main_v8 x2 (ix5 b n h i v) = ((chV V b h n i v : ℝ) : EReal) := by
  pointwise [val_main_v6, val_main_v7, val_main_v8]
  exact hv b (pos n i) h v
/-- The reference's chunks of values. -/
theorem v8_eq (hv : RV x2 V) (p : S2x10x24x64x256.Idx) : val_main_v8 x2 p = ((chV V (p 0) (p 2) (p 1) (p 3) (p 4) : ℝ) : EReal) :=
  (congrArg _ (eq_ix5 p)).trans (v8_eq' (p 0) (p 1) (p 2) (p 3) (p 4) hv)
/-- The reference's chunks of log decays. -/
theorem v10_eq' (hg : RP x3 G) : val_main_v10 x3 (ix4 b n h i) = ((chP G b h n i : ℝ) : EReal) := by
  pointwise [val_main_v9, val_main_v10]
  exact hg b (pos n i) h
/-- The reference's chunks of write strengths, at written coordinates. -/
theorem v12_eq' (hb : RP x4 B) : val_main_v12 x4 (ix4 b n h i) = ((chP B b h n i : ℝ) : EReal) := by
  pointwise [val_main_v11, val_main_v12]
  exact hb b (pos n i) h
/-- The reference's chunks of write strengths. -/
theorem v12_eq (hb : RP x4 B) (p : S2x10x24x64.Idx) : val_main_v12 x4 p = ((chP B (p 0) (p 2) (p 1) (p 3) : ℝ) : EReal) :=
  (congrArg _ (eq_ix4 p)).trans (v12_eq' (p 0) (p 1) (p 2) (p 3) hb)

/-- One over the square root is the reciprocal norm. -/
theorem nrm_read (X : KQ) (i : Fin 64) : Ideal.div 1 (Ideal.sqrt (((∑ d, X i d * X i d) + epsR : ℝ) : EReal)) = ((nrm X i : ℝ) : EReal) := by
  rw [csqrt _ (nrm_pos X i), show (1 : EReal) = ((1 : ℝ) : EReal) from rfl, cdiv _ _ (Real.sqrt_pos.mpr (nrm_pos X i)).ne', one_div]
  rfl

/-- The reciprocal norms of the keys. -/
theorem kr_eq (hx : RQK x1 K) (p : S2x10x24x64.Idx) : val_main_v73 x1 p = ((nrm (chQK K (p 0) (p 2) (p 1)) (p 3) : ℝ) : EReal) := by
  simp -implicitDefEqProofs only [val_main_v67_apply, val_main_v68_apply, val_main_v69_apply, val_main_v70_apply, val_main_v71_apply, val_main_v72_apply, val_main_v73_apply, val_main_cst_21_apply, val_main_cst_22_apply, val_main_cst_23_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, kchunk_eq hx, cmul, csum, cadd, csub, cexp, cite0, cite10, selif, zero_add]
  exact nrm_read (chQK K (p 0) (p 2) (p 1)) (p 3)

/-- The reciprocal norms of the queries. -/
theorem qr_eq (hq : RQK x0 Q) (p : S2x10x24x64.Idx) : val_main_v80 x0 p = ((nrm (chQK Q (p 0) (p 2) (p 1)) (p 3) : ℝ) : EReal) := by
  simp -implicitDefEqProofs only [val_main_v74_apply, val_main_v75_apply, val_main_v76_apply, val_main_v77_apply, val_main_v78_apply, val_main_v79_apply, val_main_v80_apply, val_main_cst_24_apply, val_main_cst_25_apply, val_main_cst_26_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, qchunk_eq hq, cmul, csum, cadd, csub, cexp, cite0, cite10, selif, zero_add]
  exact nrm_read (chQK Q (p 0) (p 2) (p 1)) (p 3)

/-- The normalised keys. -/
theorem kn_eq (hx : RQK x1 K) (p : S2x10x24x64x128.Idx) : val_main_v86 x1 p = ((kn (chQK K (p 0) (p 2) (p 1)) (p 3) (p 4) : ℝ) : EReal) := by
  simp -implicitDefEqProofs only [val_main_v65_apply, val_main_v81_apply, val_main_v82_apply, val_main_v83_apply, val_main_v84_apply, val_main_v85_apply, val_main_v86_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, kcode_eq hx, kscale_eq hx, kr_eq hx, cmul, csum, cadd, csub, cexp, cite0, cite10, selif, zero_add]
  rfl

/-- The normalised and scaled queries. -/
theorem qn_eq (hq : RQK x0 Q) (p : S2x10x24x64x128.Idx) : val_main_v94 x0 p = ((qn (chQK Q (p 0) (p 2) (p 1)) (p 3) (p 4) : ℝ) : EReal) := by
  simp -implicitDefEqProofs only [val_main_v66_apply, val_main_v87_apply, val_main_v88_apply, val_main_v89_apply, val_main_v90_apply, val_main_v91_apply, val_main_v92_apply, val_main_v93_apply, val_main_v94_apply, val_main_cst_27_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, qcode_eq hq, qscale_eq hq, qr_eq hq, cmul, csum, cadd, csub, cexp, cite0, cite10, selif, zero_add]
  rfl

/-- The mask of the triangle with its diagonal. -/
theorem ge_eq (p : S64x64.Idx) : val_main_v100 (F := Ideal) p = if (show Fin 64 from p 1) ≤ (show Fin 64 from p 0) then 1#1 else 0#1 := by
  simp -implicitDefEqProofs only [val_main_v95_apply, val_main_v96_apply, val_main_v97_apply, val_main_v98_apply, val_main_v99_apply, val_main_v100_apply]
  exact pos_ge (p 0) (p 1)
/-- The mask of the strict triangle. -/
theorem gt_eq (p : S64x64.Idx) : val_main_v105 (F := Ideal) p = if (show Fin 64 from p 1) < (show Fin 64 from p 0) then 1#1 else 0#1 := by
  simp -implicitDefEqProofs only [val_main_v95_apply, val_main_v101_apply, val_main_v102_apply, val_main_v103_apply, val_main_v104_apply, val_main_v105_apply]
  exact pos_gt (p 0) (p 1)
/-- The running sums of the log decays, at written coordinates. -/
theorem cum_eq' (hg : RP x3 G) : val_main_v106 x3 (ix4 b n h i) = ((cum (chP G b h n) i : ℝ) : EReal) := by
  have hz : val_main_call4_call0_v0 (F := Ideal) (Shape.Idx.first Gen.h_S_) = 0 := by
    simp -implicitDefEqProofs only [val_main_call4_call0_v0_apply, val_main_call4_call0_cst_apply, Ideal.ofBits_def, Ideal.ofBits_zero_f32]
  unfold val_main_v106 Host.reduceWindowAdd
  rw [Ideal.hostReduceWindowAdd_def, hz]
  exact cum_read (val_main_v10 x3) (chP G b h n) b n h i (fun j => v10_eq' b n h j hg) _
/-- The running sums of the log decays. -/
theorem cum_eq (hg : RP x3 G) (p : S2x10x24x64.Idx) : val_main_v106 x3 p = ((cum (chP G (p 0) (p 2) (p 1)) (p 3) : ℝ) : EReal) :=
  (congrArg _ (eq_ix4 p)).trans (cum_eq' (p 0) (p 1) (p 2) (p 3) hg)
/-- The decays between positions. -/
theorem dec_eq (hg : RP x3 G) (p : S2x10x24x64x64.Idx) : val_main_v114 x3 p = ((dec (chP G (p 0) (p 2) (p 1)) (p 3) (p 4) : ℝ) : EReal) := by
  simp -implicitDefEqProofs only [val_main_v107_apply, val_main_v108_apply, val_main_v109_apply, val_main_v110_apply, val_main_v111_apply, val_main_v112_apply, val_main_v113_apply, val_main_v114_apply, val_main_call5_v0_apply, val_main_call5_v1_apply, val_main_call5_v2_apply, val_main_call6_v0_apply, val_main_call6_v1_apply, val_main_call6_v2_apply, val_main_cst_28_apply, val_main_cst_29_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, cum_eq hg, ge_eq, cmul, csum, cadd, csub, cexp, cite0, cite10, selif, zero_add]
  change (((if (show Fin 64 from p 4) ≤ (show Fin 64 from p 3) then Real.exp (if (show Fin 64 from p 4) ≤ (show Fin 64 from p 3) then cum (chP G (p 0) (p 2) (p 1)) (p 3) - cum (chP G (p 0) (p 2) (p 1)) (p 4) else 0) else 0) : ℝ) : EReal) = _
  unfold dec
  by_cases hc : (show Fin 64 from p 4) ≤ (show Fin 64 from p 3)
  · rw [if_pos hc, if_pos hc, if_pos hc]
  · rw [if_neg hc, if_neg hc]

/-- The products of normalised keys. -/
theorem kk_eq (hx : RQK x1 K) (p : S2x10x24x64x64.Idx) : val_main_v125 x1 p = ((kk (chQK K (p 0) (p 2) (p 1)) (p 3) (p 4) : ℝ) : EReal) := by
  simp -implicitDefEqProofs only [val_main_v65_apply, val_main_v115_apply, val_main_v116_apply, val_main_v117_apply, val_main_v118_apply, val_main_v119_apply, val_main_v120_apply, val_main_v121_apply, val_main_v122_apply, val_main_v123_apply, val_main_v124_apply, val_main_v125_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, kcode_eq hx, kscale_eq hx, kr_eq hx, cmul, csum, cadd, csub, cexp, cite0, cite10, selif, zero_add]
  rfl

/-- The products of normalised queries and keys. -/
theorem qk_eq (hx : RQK x1 K) (hq : RQK x0 Q) (p : S2x10x24x64x64.Idx) : val_main_v138 x0 x1 p = ((qk (chQK Q (p 0) (p 2) (p 1)) (chQK K (p 0) (p 2) (p 1)) (p 3) (p 4) : ℝ) : EReal) := by
  simp -implicitDefEqProofs only [val_main_v65_apply, val_main_v66_apply, val_main_v126_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_cst_30_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, kcode_eq hx, kscale_eq hx, kr_eq hx, qcode_eq hq, qscale_eq hq, qr_eq hq, cmul, csum, cadd, csub, cexp, cite0, cite10, selif, zero_add]
  rfl

/-- The system's strictly lower triangular matrix. -/
theorem sys_eq (hx : RQK x1 K) (hg : RP x3 G) (hb : RP x4 B) (p : S2x10x24x64x64.Idx) : val_main_v143 x1 x3 x4 p = ((sysA (chQK K (p 0) (p 2) (p 1)) (chP G (p 0) (p 2) (p 1)) (chP B (p 0) (p 2) (p 1)) (p 3) (p 4) : ℝ) : EReal) := by
  simp -implicitDefEqProofs only [val_main_v139_apply, val_main_v140_apply, val_main_v141_apply, val_main_v142_apply, val_main_v143_apply, val_main_call7_v0_apply, val_main_call7_v1_apply, val_main_call7_v2_apply, val_main_cst_31_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, kk_eq hx, dec_eq hg, v12_eq hb, gt_eq, cmul, csum, cadd, csub, cexp, cite0, cite10, selif, zero_add]
  rfl

/-- Its negative. -/
theorem neg_eq (hx : RQK x1 K) (hg : RP x3 G) (hb : RP x4 B) (p : S2x10x24x64x64.Idx) : val_main_v144 x1 x3 x4 p = (((-(sysA (chQK K (p 0) (p 2) (p 1)) (chP G (p 0) (p 2) (p 1)) (chP B (p 0) (p 2) (p 1))) : M) (p 3) (p 4) : ℝ) : EReal) := by
  simp -implicitDefEqProofs only [val_main_v144_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, sys_eq hx hg hb, ← EReal.coe_neg, cmul, csum, cadd, csub, cexp, cite0, cite10, selif, zero_add]
  rfl

/-- The comparison of row and column as a number is the identity matrix. -/
theorem eye_read (i j : Fin 64) : FloatOps.uitofp (F := Ideal) .f32 (if i = j then 1#1 else 0#1) = (((1 : M) i j : ℝ) : EReal) := by
  rw [Matrix.one_apply]
  by_cases hc : i = j
  · rw [if_pos hc, if_pos hc]; change (((1#1 : BitVec 1).toNat : ℝ) : EReal) = _; norm_num
  · rw [if_neg hc, if_neg hc]; change (((0#1 : BitVec 1).toNat : ℝ) : EReal) = _; norm_num
/-- The identity matrix. -/
theorem one_eq (p : S2x10x24x64x64.Idx) : val_main_v152 (F := Ideal) p = (((1 : M) (p 3) (p 4) : ℝ) : EReal) := by
  simp -implicitDefEqProofs only [val_main_v145_apply, val_main_v146_apply, val_main_v147_apply, val_main_v148_apply, val_main_v149_apply, val_main_v150_apply, val_main_v151_apply, val_main_v152_apply, val_main_c_apply]
  have e : IntOp.cmpi .eq (IntOp.addi (BitVec.ofNat 32 (p 3).val) 0#32) (BitVec.ofNat 32 (p 4).val) = if (show Fin 64 from p 3) = (show Fin 64 from p 4) then 1#1 else 0#1 := by
    rw [show ∀ a : BitVec 32, IntOp.addi a 0#32 = a from fun a => BitVec.add_zero a]
    exact pos_eq (p 3) (p 4)
  refine (congrArg (FloatOps.uitofp (F := Ideal) .f32) e).trans ?_
  exact eye_read (p 3) (p 4)
/-- The product of powers after 0 squarings. -/
theorem t0_eq (hx : RQK x1 K) (hg : RP x3 G) (hb : RP x4 B) (p : S2x10x24x64x64.Idx) : val_main_v153 x1 x3 x4 p = (((neu (-(sysA (chQK K (p 0) (p 2) (p 1)) (chP G (p 0) (p 2) (p 1)) (chP B (p 0) (p 2) (p 1))) : M) 0).1 (p 3) (p 4) : ℝ) : EReal) := by
  simp -implicitDefEqProofs only [val_main_v153_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, one_eq, neg_eq hx hg hb, cmul, csum, cadd, csub, cexp, cite0, cite10, selif, zero_add]
  rfl

/-- The power of the negated system after 1 squarings. -/
theorem p1_eq (hx : RQK x1 K) (hg : RP x3 G) (hb : RP x4 B) (p : S2x10x24x64x64.Idx) : val_main_v154 x1 x3 x4 p = (((neu (-(sysA (chQK K (p 0) (p 2) (p 1)) (chP G (p 0) (p 2) (p 1)) (chP B (p 0) (p 2) (p 1))) : M) 1).2 (p 3) (p 4) : ℝ) : EReal) := by
  simp -implicitDefEqProofs only [val_main_v154_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, neg_eq hx hg hb, cmul, csum, cadd, csub, cexp, cite0, cite10, selif, zero_add]
  exact congrArg _ (Matrix.mul_apply (M := (neu (-(sysA (chQK K (p 0) (p 2) (p 1)) (chP G (p 0) (p 2) (p 1)) (chP B (p 0) (p 2) (p 1))) : M) 0).2) (N := (neu (-(sysA (chQK K (p 0) (p 2) (p 1)) (chP G (p 0) (p 2) (p 1)) (chP B (p 0) (p 2) (p 1))) : M) 0).2) (i := p 3) (k := p 4)).symm

/-- The product of powers after 1 squarings. -/
theorem t1_eq (hx : RQK x1 K) (hg : RP x3 G) (hb : RP x4 B) (p : S2x10x24x64x64.Idx) : val_main_v156 x1 x3 x4 p = (((neu (-(sysA (chQK K (p 0) (p 2) (p 1)) (chP G (p 0) (p 2) (p 1)) (chP B (p 0) (p 2) (p 1))) : M) 1).1 (p 3) (p 4) : ℝ) : EReal) := by
  simp -implicitDefEqProofs only [val_main_v155_apply, val_main_v156_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, p1_eq hx hg hb, t0_eq hx hg hb, cmul, csum, cadd, csub, cexp, cite0, cite10, selif, zero_add]
  exact congrArg (fun z : ℝ => (((neu (-(sysA (chQK K (p 0) (p 2) (p 1)) (chP G (p 0) (p 2) (p 1)) (chP B (p 0) (p 2) (p 1))) : M) 0).1 (p 3) (p 4) + z : ℝ) : EReal)) (Matrix.mul_apply (M := (neu (-(sysA (chQK K (p 0) (p 2) (p 1)) (chP G (p 0) (p 2) (p 1)) (chP B (p 0) (p 2) (p 1))) : M) 0).1) (N := (neu (-(sysA (chQK K (p 0) (p 2) (p 1)) (chP G (p 0) (p 2) (p 1)) (chP B (p 0) (p 2) (p 1))) : M) 1).2) (i := p 3) (k := p 4)).symm

/-- The power of the negated system after 2 squarings. -/
theorem p2_eq (hx : RQK x1 K) (hg : RP x3 G) (hb : RP x4 B) (p : S2x10x24x64x64.Idx) : val_main_v157 x1 x3 x4 p = (((neu (-(sysA (chQK K (p 0) (p 2) (p 1)) (chP G (p 0) (p 2) (p 1)) (chP B (p 0) (p 2) (p 1))) : M) 2).2 (p 3) (p 4) : ℝ) : EReal) := by
  simp -implicitDefEqProofs only [val_main_v157_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, p1_eq hx hg hb, cmul, csum, cadd, csub, cexp, cite0, cite10, selif, zero_add]
  exact congrArg _ (Matrix.mul_apply (M := (neu (-(sysA (chQK K (p 0) (p 2) (p 1)) (chP G (p 0) (p 2) (p 1)) (chP B (p 0) (p 2) (p 1))) : M) 1).2) (N := (neu (-(sysA (chQK K (p 0) (p 2) (p 1)) (chP G (p 0) (p 2) (p 1)) (chP B (p 0) (p 2) (p 1))) : M) 1).2) (i := p 3) (k := p 4)).symm

/-- The product of powers after 2 squarings. -/
theorem t2_eq (hx : RQK x1 K) (hg : RP x3 G) (hb : RP x4 B) (p : S2x10x24x64x64.Idx) : val_main_v159 x1 x3 x4 p = (((neu (-(sysA (chQK K (p 0) (p 2) (p 1)) (chP G (p 0) (p 2) (p 1)) (chP B (p 0) (p 2) (p 1))) : M) 2).1 (p 3) (p 4) : ℝ) : EReal) := by
  simp -implicitDefEqProofs only [val_main_v158_apply, val_main_v159_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, p2_eq hx hg hb, t1_eq hx hg hb, cmul, csum, cadd, csub, cexp, cite0, cite10, selif, zero_add]
  exact congrArg (fun z : ℝ => (((neu (-(sysA (chQK K (p 0) (p 2) (p 1)) (chP G (p 0) (p 2) (p 1)) (chP B (p 0) (p 2) (p 1))) : M) 1).1 (p 3) (p 4) + z : ℝ) : EReal)) (Matrix.mul_apply (M := (neu (-(sysA (chQK K (p 0) (p 2) (p 1)) (chP G (p 0) (p 2) (p 1)) (chP B (p 0) (p 2) (p 1))) : M) 1).1) (N := (neu (-(sysA (chQK K (p 0) (p 2) (p 1)) (chP G (p 0) (p 2) (p 1)) (chP B (p 0) (p 2) (p 1))) : M) 2).2) (i := p 3) (k := p 4)).symm

/-- The power of the negated system after 3 squarings. -/
theorem p3_eq (hx : RQK x1 K) (hg : RP x3 G) (hb : RP x4 B) (p : S2x10x24x64x64.Idx) : val_main_v160 x1 x3 x4 p = (((neu (-(sysA (chQK K (p 0) (p 2) (p 1)) (chP G (p 0) (p 2) (p 1)) (chP B (p 0) (p 2) (p 1))) : M) 3).2 (p 3) (p 4) : ℝ) : EReal) := by
  simp -implicitDefEqProofs only [val_main_v160_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, p2_eq hx hg hb, cmul, csum, cadd, csub, cexp, cite0, cite10, selif, zero_add]
  exact congrArg _ (Matrix.mul_apply (M := (neu (-(sysA (chQK K (p 0) (p 2) (p 1)) (chP G (p 0) (p 2) (p 1)) (chP B (p 0) (p 2) (p 1))) : M) 2).2) (N := (neu (-(sysA (chQK K (p 0) (p 2) (p 1)) (chP G (p 0) (p 2) (p 1)) (chP B (p 0) (p 2) (p 1))) : M) 2).2) (i := p 3) (k := p 4)).symm

/-- The product of powers after 3 squarings. -/
theorem t3_eq (hx : RQK x1 K) (hg : RP x3 G) (hb : RP x4 B) (p : S2x10x24x64x64.Idx) : val_main_v162 x1 x3 x4 p = (((neu (-(sysA (chQK K (p 0) (p 2) (p 1)) (chP G (p 0) (p 2) (p 1)) (chP B (p 0) (p 2) (p 1))) : M) 3).1 (p 3) (p 4) : ℝ) : EReal) := by
  simp -implicitDefEqProofs only [val_main_v161_apply, val_main_v162_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, p3_eq hx hg hb, t2_eq hx hg hb, cmul, csum, cadd, csub, cexp, cite0, cite10, selif, zero_add]
  exact congrArg (fun z : ℝ => (((neu (-(sysA (chQK K (p 0) (p 2) (p 1)) (chP G (p 0) (p 2) (p 1)) (chP B (p 0) (p 2) (p 1))) : M) 2).1 (p 3) (p 4) + z : ℝ) : EReal)) (Matrix.mul_apply (M := (neu (-(sysA (chQK K (p 0) (p 2) (p 1)) (chP G (p 0) (p 2) (p 1)) (chP B (p 0) (p 2) (p 1))) : M) 2).1) (N := (neu (-(sysA (chQK K (p 0) (p 2) (p 1)) (chP G (p 0) (p 2) (p 1)) (chP B (p 0) (p 2) (p 1))) : M) 3).2) (i := p 3) (k := p 4)).symm

/-- The power of the negated system after 4 squarings. -/
theorem p4_eq (hx : RQK x1 K) (hg : RP x3 G) (hb : RP x4 B) (p : S2x10x24x64x64.Idx) : val_main_v163 x1 x3 x4 p = (((neu (-(sysA (chQK K (p 0) (p 2) (p 1)) (chP G (p 0) (p 2) (p 1)) (chP B (p 0) (p 2) (p 1))) : M) 4).2 (p 3) (p 4) : ℝ) : EReal) := by
  simp -implicitDefEqProofs only [val_main_v163_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, p3_eq hx hg hb, cmul, csum, cadd, csub, cexp, cite0, cite10, selif, zero_add]
  exact congrArg _ (Matrix.mul_apply (M := (neu (-(sysA (chQK K (p 0) (p 2) (p 1)) (chP G (p 0) (p 2) (p 1)) (chP B (p 0) (p 2) (p 1))) : M) 3).2) (N := (neu (-(sysA (chQK K (p 0) (p 2) (p 1)) (chP G (p 0) (p 2) (p 1)) (chP B (p 0) (p 2) (p 1))) : M) 3).2) (i := p 3) (k := p 4)).symm

/-- The product of powers after 4 squarings. -/
theorem t4_eq (hx : RQK x1 K) (hg : RP x3 G) (hb : RP x4 B) (p : S2x10x24x64x64.Idx) : val_main_v165 x1 x3 x4 p = (((neu (-(sysA (chQK K (p 0) (p 2) (p 1)) (chP G (p 0) (p 2) (p 1)) (chP B (p 0) (p 2) (p 1))) : M) 4).1 (p 3) (p 4) : ℝ) : EReal) := by
  simp -implicitDefEqProofs only [val_main_v164_apply, val_main_v165_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, p4_eq hx hg hb, t3_eq hx hg hb, cmul, csum, cadd, csub, cexp, cite0, cite10, selif, zero_add]
  exact congrArg (fun z : ℝ => (((neu (-(sysA (chQK K (p 0) (p 2) (p 1)) (chP G (p 0) (p 2) (p 1)) (chP B (p 0) (p 2) (p 1))) : M) 3).1 (p 3) (p 4) + z : ℝ) : EReal)) (Matrix.mul_apply (M := (neu (-(sysA (chQK K (p 0) (p 2) (p 1)) (chP G (p 0) (p 2) (p 1)) (chP B (p 0) (p 2) (p 1))) : M) 3).1) (N := (neu (-(sysA (chQK K (p 0) (p 2) (p 1)) (chP G (p 0) (p 2) (p 1)) (chP B (p 0) (p 2) (p 1))) : M) 4).2) (i := p 3) (k := p 4)).symm

/-- The power of the negated system after 5 squarings. -/
theorem p5_eq (hx : RQK x1 K) (hg : RP x3 G) (hb : RP x4 B) (p : S2x10x24x64x64.Idx) : val_main_v166 x1 x3 x4 p = (((neu (-(sysA (chQK K (p 0) (p 2) (p 1)) (chP G (p 0) (p 2) (p 1)) (chP B (p 0) (p 2) (p 1))) : M) 5).2 (p 3) (p 4) : ℝ) : EReal) := by
  simp -implicitDefEqProofs only [val_main_v166_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, p4_eq hx hg hb, cmul, csum, cadd, csub, cexp, cite0, cite10, selif, zero_add]
  exact congrArg _ (Matrix.mul_apply (M := (neu (-(sysA (chQK K (p 0) (p 2) (p 1)) (chP G (p 0) (p 2) (p 1)) (chP B (p 0) (p 2) (p 1))) : M) 4).2) (N := (neu (-(sysA (chQK K (p 0) (p 2) (p 1)) (chP G (p 0) (p 2) (p 1)) (chP B (p 0) (p 2) (p 1))) : M) 4).2) (i := p 3) (k := p 4)).symm

/-- The product of powers after 5 squarings. -/
theorem t5_eq (hx : RQK x1 K) (hg : RP x3 G) (hb : RP x4 B) (p : S2x10x24x64x64.Idx) : val_main_v168 x1 x3 x4 p = (((neu (-(sysA (chQK K (p 0) (p 2) (p 1)) (chP G (p 0) (p 2) (p 1)) (chP B (p 0) (p 2) (p 1))) : M) 5).1 (p 3) (p 4) : ℝ) : EReal) := by
  simp -implicitDefEqProofs only [val_main_v167_apply, val_main_v168_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, p5_eq hx hg hb, t4_eq hx hg hb, cmul, csum, cadd, csub, cexp, cite0, cite10, selif, zero_add]
  exact congrArg (fun z : ℝ => (((neu (-(sysA (chQK K (p 0) (p 2) (p 1)) (chP G (p 0) (p 2) (p 1)) (chP B (p 0) (p 2) (p 1))) : M) 4).1 (p 3) (p 4) + z : ℝ) : EReal)) (Matrix.mul_apply (M := (neu (-(sysA (chQK K (p 0) (p 2) (p 1)) (chP G (p 0) (p 2) (p 1)) (chP B (p 0) (p 2) (p 1))) : M) 4).1) (N := (neu (-(sysA (chQK K (p 0) (p 2) (p 1)) (chP G (p 0) (p 2) (p 1)) (chP B (p 0) (p 2) (p 1))) : M) 5).2) (i := p 3) (k := p 4)).symm

/-- The reference's inverse is the inverse of the unit lower triangular system. -/
theorem inv_eq (hx : RQK x1 K) (hg : RP x3 G) (hb : RP x4 B) (p : S2x10x24x64x64.Idx) : val_main_v168 x1 x3 x4 p = ((invT (chQK K (p 0) (p 2) (p 1)) (chP G (p 0) (p 2) (p 1)) (chP B (p 0) (p 2) (p 1)) (p 3) (p 4) : ℝ) : EReal) := by
  rw [t5_eq hx hg hb]
  unfold invT
  rw [dbl_eq_neu (sysA_lower (chQK K (p 0) (p 2) (p 1)) (chP G (p 0) (p 2) (p 1)) (chP B (p 0) (p 2) (p 1)))]
/-- The inverse applied to the keys, weighted by decay and write strength. -/
theorem w_eq (hx : RQK x1 K) (hg : RP x3 G) (hb : RP x4 B) (p : S2x10x24x64x128.Idx) : val_main_v174 x1 x3 x4 p = ((∑ j, invT (chQK K (p 0) (p 2) (p 1)) (chP G (p 0) (p 2) (p 1)) (chP B (p 0) (p 2) (p 1)) (p 3) j * ((chP B (p 0) (p 2) (p 1)) j * Real.exp (cum (chP G (p 0) (p 2) (p 1)) j) * kn (chQK K (p 0) (p 2) (p 1)) j (p 4)) : ℝ) : EReal) := by
  simp -implicitDefEqProofs only [val_main_v169_apply, val_main_v170_apply, val_main_v171_apply, val_main_v172_apply, val_main_v173_apply, val_main_v174_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, inv_eq hx hg hb, kn_eq hx, v12_eq hb, cum_eq hg, cmul, csum, cadd, csub, cexp, cite0, cite10, selif, zero_add]
  rfl

/-- The inverse applied to the values, weighted by write strength. -/
theorem u_eq (hx : RQK x1 K) (hg : RP x3 G) (hb : RP x4 B) (hv : RV x2 V) (p : S2x10x24x64x256.Idx) : val_main_v178 x1 x2 x3 x4 p = ((∑ j, invT (chQK K (p 0) (p 2) (p 1)) (chP G (p 0) (p 2) (p 1)) (chP B (p 0) (p 2) (p 1)) (p 3) j * ((chP B (p 0) (p 2) (p 1)) j * (chV V (p 0) (p 2) (p 1)) j (p 4)) : ℝ) : EReal) := by
  simp -implicitDefEqProofs only [val_main_v175_apply, val_main_v176_apply, val_main_v177_apply, val_main_v178_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, inv_eq hx hg hb, v8_eq hv, v12_eq hb, cmul, csum, cadd, csub, cexp, cite0, cite10, selif, zero_add]
  rfl

/-- The decayed products of queries and keys. -/
theorem pm_eq (hx : RQK x1 K) (hq : RQK x0 Q) (hg : RP x3 G) (p : S2x10x24x64x64.Idx) : val_main_v179 x0 x1 x3 p = ((qk (chQK Q (p 0) (p 2) (p 1)) (chQK K (p 0) (p 2) (p 1)) (p 3) (p 4) * dec (chP G (p 0) (p 2) (p 1)) (p 3) (p 4) : ℝ) : EReal) := by
  simp -implicitDefEqProofs only [val_main_v179_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, qk_eq hx hq, dec_eq hg, cmul, csum, cadd, csub, cexp, cite0, cite10, selif, zero_add]

/-- The decayed queries. -/
theorem qg_eq (hq : RQK x0 Q) (hg : RP x3 G) (p : S2x10x24x64x128.Idx) : val_main_v182 x0 x3 p = ((Real.exp (cum (chP G (p 0) (p 2) (p 1)) (p 3)) * qn (chQK Q (p 0) (p 2) (p 1)) (p 3) (p 4) : ℝ) : EReal) := by
  simp -implicitDefEqProofs only [val_main_v169_apply, val_main_v180_apply, val_main_v181_apply, val_main_v182_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, qn_eq hq, cum_eq hg, cmul, csum, cadd, csub, cexp, cite0, cite10, selif, zero_add]
  rfl

/-- The keys decayed to the end of the chunk. -/
theorem kd_eq (hx : RQK x1 K) (hg : RP x3 G) (p : S2x10x24x64x128.Idx) : val_main_v189 x1 x3 p = ((Real.exp (cum (chP G (p 0) (p 2) (p 1)) 63 - cum (chP G (p 0) (p 2) (p 1)) (p 3)) * kn (chQK K (p 0) (p 2) (p 1)) (p 3) (p 4) : ℝ) : EReal) := by
  simp -implicitDefEqProofs only [val_main_v183_apply, val_main_v184_apply, val_main_v185_apply, val_main_v186_apply, val_main_v187_apply, val_main_v188_apply, val_main_v189_apply, Ideal.addf_def, Ideal.subf_def, Ideal.mulf_def, Ideal.hostDivf_def, Ideal.hostPowf_def, Ideal.hostNegf_def, Ideal.negf_def, Ideal.maximumf_def, Ideal.minimumf_def, Ideal.hostUnary_log_def, Ideal.hostUnary_exp_def, Ideal.hostUnary_sqrt_def, Ideal.hostUnary_floor_def, Ideal.ofBits_def, c448_bits, eps_bits, qsc_bits, hi_bits, lo_bits, two_bits, low_bits, Ideal.ofBits_zero_f32, Ideal.ofBits_one_f32, kn_eq hx, cum_eq hg, cmul, csum, cadd, csub, cexp, cite0, cite10, selif, zero_add]
  rfl

/-- The last running sum of a chunk. -/
theorem last_eq' (hg : RP x3 G) : val_main_v191 x3 (ix3 b n h) = ((cum (chP G b h n) 63 : ℝ) : EReal) := by
  have h0 := fun i => cum_eq' b n h i hg
  unfold val_main_v191 val_main_v190
  generalize val_main_v106 x3 = y at h0 ⊢
  pointwise
  exact h0 63
/-- The decay over a whole chunk. -/
theorem last_eq (hg : RP x3 G) (p : S2x10x24.Idx) : val_main_v192 x3 p = ((Real.exp (cum (chP G (p 0) (p 2) (p 1)) 63) : ℝ) : EReal) := by
  rw [val_main_v192_apply, (congrArg (val_main_v191 x3) (eq_ix3 p)).trans (last_eq' (p 0) (p 1) (p 2) hg), Ideal.hostUnary_exp_def, cexp]

end Cert.ReferenceIdeal.Read

end
-- ==== Proof.RefStepsA.lean ====
/- The reference's recurrence, chunks 0 to 4, over the real numbers. -/
module

public import proofs.«01_k».proof.Proof.Gen.ReferenceIdeal.Read
public import proofs.«01_k».proof.Proof.Chunks
public import proofs.«01_k».proof.Proof.RefChunk

@[expose] public section

set_option maxRecDepth 16384

noncomputable section

namespace Cert.ReferenceIdeal.Read

open Idealize.ShloMosaic Idealize.ShloMosaic.TcCoe Idealize.ShloMosaic.Tactic Cert.ReferenceIdeal
open Cert.Quant Cert.Spec Cert.Inverse

variable {x0 x1 : (⟨S2x640x24x128, .bf16⟩ : BufTy).Contents (Elt Ideal)} {K Q : AQK}
variable {x2 : (⟨S2x640x24x256, .bf16⟩ : BufTy).Contents (Elt Ideal)} {V : AV}
variable {x3 x4 : (⟨S2x640x24, .f32⟩ : BufTy).Contents (Elt Ideal)} {G B : AP}
variable {x5 : (⟨S2x24x128x256, .f32⟩ : BufTy).Contents (Elt Ideal)} {S : AS}

/-! ### Chunk 0 -/

/-- Chunk 0 of the inverse applied to the values, as cut out. -/
theorem u_0 (p : S2x24x64x256.Idx) : val_main_v194 x1 x2 x3 x4 p = val_main_v178 x1 x2 x3 x4 (ix5 (p 0) 0 (p 1) (p 2) (p 3)) := by
  have key : ∀ a c i v, val_main_v194 x1 x2 x3 x4 (ix4 a c i v) = val_main_v178 x1 x2 x3 x4 (ix5 a 0 c i v) := by
    intro a c i v
    unfold val_main_v194 val_main_v193
    generalize val_main_v178 x1 x2 x3 x4 = y
    pointwise
    all_goals rfl
  exact (congrArg _ (eq_ix4 p)).trans (key _ _ _ _)
/-- Chunk 0 of the inverse applied to the decayed keys, as cut out. -/
theorem w_0 (p : S2x24x64x128.Idx) : val_main_v196 x1 x3 x4 p = val_main_v174 x1 x3 x4 (ix5 (p 0) 0 (p 1) (p 2) (p 3)) := by
  have key : ∀ a c i v, val_main_v196 x1 x3 x4 (ix4 a c i v) = val_main_v174 x1 x3 x4 (ix5 a 0 c i v) := by
    intro a c i v
    unfold val_main_v196 val_main_v195
    generalize val_main_v174 x1 x3 x4 = y
    pointwise
    all_goals rfl
  exact (congrArg _ (eq_ix4 p)).trans (key _ _ _ _)
/-- Chunk 0 of the decayed queries, as cut out. -/
theorem qg_0 (p : S2x24x64x128.Idx) : val_main_v200 x0 x3 p = val_main_v182 x0 x3 (ix5 (p 0) 0 (p 1) (p 2) (p 3)) := by
  have key : ∀ a c i v, val_main_v200 x0 x3 (ix4 a c i v) = val_main_v182 x0 x3 (ix5 a 0 c i v) := by
    intro a c i v
    unfold val_main_v200 val_main_v199
    generalize val_main_v182 x0 x3 = y
    pointwise
    all_goals rfl
  exact (congrArg _ (eq_ix4 p)).trans (key _ _ _ _)
/-- Chunk 0 of the decayed products, as cut out. -/
theorem pm_0 (p : S2x24x64x64.Idx) : val_main_v203 x0 x1 x3 p = val_main_v179 x0 x1 x3 (ix5 (p 0) 0 (p 1) (p 2) (p 3)) := by
  have key : ∀ a c i v, val_main_v203 x0 x1 x3 (ix4 a c i v) = val_main_v179 x0 x1 x3 (ix5 a 0 c i v) := by
    intro a c i v
    unfold val_main_v203 val_main_v202
    generalize val_main_v179 x0 x1 x3 = y
    pointwise
    all_goals rfl
  exact (congrArg _ (eq_ix4 p)).trans (key _ _ _ _)
/-- Chunk 0 of the keys decayed to the end of the chunk, as cut out. -/
theorem kd_0 (p : S2x24x64x128.Idx) : val_main_v212 x1 x3 p = val_main_v189 x1 x3 (ix5 (p 0) 0 (p 1) (p 2) (p 3)) := by
  have key : ∀ a c i v, val_main_v212 x1 x3 (ix4 a c i v) = val_main_v189 x1 x3 (ix5 a 0 c i v) := by
    intro a c i v
    unfold val_main_v212 val_main_v211
    generalize val_main_v189 x1 x3 = y
    pointwise
    all_goals rfl
  exact (congrArg _ (eq_ix4 p)).trans (key _ _ _ _)
/-- Chunk 0 of the whole-chunk decay, as cut out. -/
theorem de_0 (p : S2x24.Idx) : val_main_v207 x3 p = val_main_v192 x3 (ix3 (p 0) 0 (p 1)) := by
  have key : ∀ a c, val_main_v207 x3 (ix2 a c) = val_main_v192 x3 (ix3 a 0 c) := by
    intro a c
    unfold val_main_v207 val_main_v206
    generalize val_main_v192 x3 = y
    pointwise
    all_goals rfl
  exact (congrArg _ (eq_ix2 p)).trans (key _ _)
/-- The values written at chunk 0. -/
theorem vn_0 (hx : RQK x1 K) (hv : RV x2 V) (hg : RP x3 G) (hb : RP x4 B) (hS : ∀ p : S2x24x128x256.Idx, x5 p = ((hst K V G B S (p 0) (p 1) 0 (p 2) (p 3) : ℝ) : EReal)) (p : S2x24x64x256.Idx) :
    val_main_v198 x1 x2 x3 x4 x5 p = ((vnew (chQK K (p 0) (p 1) 0) (chV V (p 0) (p 1) 0) (chP G (p 0) (p 1) 0) (chP B (p 0) (p 1) 0) (hst K V G B S (p 0) (p 1) 0) (p 2) (p 3) : ℝ) : EReal) := by
  simp -implicitDefEqProofs only [val_main_v197_apply, val_main_v198_apply, Ideal.subf_def, u_0, w_0, u_eq hx hg hb hv, w_eq hx hg hb, hS, cmul, csum, cadd, csub]
  exact congrArg _ (vnew_eq (chQK K (p 0) (p 1) 0) (chV V (p 0) (p 1) 0) (chP G (p 0) (p 1) 0) (chP B (p 0) (p 1) 0) (hst K V G B S (p 0) (p 1) 0) (p 2) (p 3)).symm
/-- The output of chunk 0. -/
theorem o_0 (hx : RQK x1 K) (hv : RV x2 V) (hg : RP x3 G) (hb : RP x4 B) (hq : RQK x0 Q) (hS : ∀ p : S2x24x128x256.Idx, x5 p = ((hst K V G B S (p 0) (p 1) 0 (p 2) (p 3) : ℝ) : EReal)) (p : S2x24x64x256.Idx) :
    val_main_v205 x0 x1 x2 x3 x4 x5 p = ((oOut (chQK Q (p 0) (p 1) 0) (chQK K (p 0) (p 1) 0) (chV V (p 0) (p 1) 0) (chP G (p 0) (p 1) 0) (chP B (p 0) (p 1) 0) (hst K V G B S (p 0) (p 1) 0) (p 2) (p 3) : ℝ) : EReal) := by
  simp -implicitDefEqProofs only [val_main_v201_apply, val_main_v204_apply, val_main_v205_apply, Ideal.addf_def, qg_0, pm_0, qg_eq hq hg, pm_eq hx hq hg, vn_0 hx hv hg hb hS, hS, cmul, csum, cadd, csub]
  rfl
/-- The state after chunk 0. -/
theorem s_0 (hx : RQK x1 K) (hv : RV x2 V) (hg : RP x3 G) (hb : RP x4 B) (hS : ∀ p : S2x24x128x256.Idx, x5 p = ((hst K V G B S (p 0) (p 1) 0 (p 2) (p 3) : ℝ) : EReal)) (p : S2x24x128x256.Idx) :
    val_main_v214 x1 x2 x3 x4 x5 p = ((hst K V G B S (p 0) (p 1) 1 (p 2) (p 3) : ℝ) : EReal) := by
  simp -implicitDefEqProofs only [val_main_v208_apply, val_main_v209_apply, val_main_v210_apply, val_main_v213_apply, val_main_v214_apply, Ideal.addf_def, Ideal.mulf_def, de_0, kd_0, last_eq hg, kd_eq hx hg, vn_0 hx hv hg hb hS, hS, cmul, csum, cadd, csub]
  exact congrArg _ (congrFun (congrFun (hst_succ K V G B S (p 0) (p 1) 0) (p 2)) (p 3)).symm

/-! ### Chunk 1 -/

/-- Chunk 1 of the inverse applied to the values, as cut out. -/
theorem u_1 (p : S2x24x64x256.Idx) : val_main_v216 x1 x2 x3 x4 p = val_main_v178 x1 x2 x3 x4 (ix5 (p 0) 1 (p 1) (p 2) (p 3)) := by
  have key : ∀ a c i v, val_main_v216 x1 x2 x3 x4 (ix4 a c i v) = val_main_v178 x1 x2 x3 x4 (ix5 a 1 c i v) := by
    intro a c i v
    unfold val_main_v216 val_main_v215
    generalize val_main_v178 x1 x2 x3 x4 = y
    pointwise
    all_goals rfl
  exact (congrArg _ (eq_ix4 p)).trans (key _ _ _ _)
/-- Chunk 1 of the inverse applied to the decayed keys, as cut out. -/
theorem w_1 (p : S2x24x64x128.Idx) : val_main_v218 x1 x3 x4 p = val_main_v174 x1 x3 x4 (ix5 (p 0) 1 (p 1) (p 2) (p 3)) := by
  have key : ∀ a c i v, val_main_v218 x1 x3 x4 (ix4 a c i v) = val_main_v174 x1 x3 x4 (ix5 a 1 c i v) := by
    intro a c i v
    unfold val_main_v218 val_main_v217
    generalize val_main_v174 x1 x3 x4 = y
    pointwise
    all_goals rfl
  exact (congrArg _ (eq_ix4 p)).trans (key _ _ _ _)
/-- Chunk 1 of the decayed queries, as cut out. -/
theorem qg_1 (p : S2x24x64x128.Idx) : val_main_v222 x0 x3 p = val_main_v182 x0 x3 (ix5 (p 0) 1 (p 1) (p 2) (p 3)) := by
  have key : ∀ a c i v, val_main_v222 x0 x3 (ix4 a c i v) = val_main_v182 x0 x3 (ix5 a 1 c i v) := by
    intro a c i v
    unfold val_main_v222 val_main_v221
    generalize val_main_v182 x0 x3 = y
    pointwise
    all_goals rfl
  exact (congrArg _ (eq_ix4 p)).trans (key _ _ _ _)
/-- Chunk 1 of the decayed products, as cut out. -/
theorem pm_1 (p : S2x24x64x64.Idx) : val_main_v225 x0 x1 x3 p = val_main_v179 x0 x1 x3 (ix5 (p 0) 1 (p 1) (p 2) (p 3)) := by
  have key : ∀ a c i v, val_main_v225 x0 x1 x3 (ix4 a c i v) = val_main_v179 x0 x1 x3 (ix5 a 1 c i v) := by
    intro a c i v
    unfold val_main_v225 val_main_v224
    generalize val_main_v179 x0 x1 x3 = y
    pointwise
    all_goals rfl
  exact (congrArg _ (eq_ix4 p)).trans (key _ _ _ _)
/-- Chunk 1 of the keys decayed to the end of the chunk, as cut out. -/
theorem kd_1 (p : S2x24x64x128.Idx) : val_main_v234 x1 x3 p = val_main_v189 x1 x3 (ix5 (p 0) 1 (p 1) (p 2) (p 3)) := by
  have key : ∀ a c i v, val_main_v234 x1 x3 (ix4 a c i v) = val_main_v189 x1 x3 (ix5 a 1 c i v) := by
    intro a c i v
    unfold val_main_v234 val_main_v233
    generalize val_main_v189 x1 x3 = y
    pointwise
    all_goals rfl
  exact (congrArg _ (eq_ix4 p)).trans (key _ _ _ _)
/-- Chunk 1 of the whole-chunk decay, as cut out. -/
theorem de_1 (p : S2x24.Idx) : val_main_v229 x3 p = val_main_v192 x3 (ix3 (p 0) 1 (p 1)) := by
  have key : ∀ a c, val_main_v229 x3 (ix2 a c) = val_main_v192 x3 (ix3 a 1 c) := by
    intro a c
    unfold val_main_v229 val_main_v228
    generalize val_main_v192 x3 = y
    pointwise
    all_goals rfl
  exact (congrArg _ (eq_ix2 p)).trans (key _ _)
/-- The values written at chunk 1. -/
theorem vn_1 (hx : RQK x1 K) (hv : RV x2 V) (hg : RP x3 G) (hb : RP x4 B) (hS : ∀ p : S2x24x128x256.Idx, val_main_v214 x1 x2 x3 x4 x5 p = ((hst K V G B S (p 0) (p 1) 1 (p 2) (p 3) : ℝ) : EReal)) (p : S2x24x64x256.Idx) :
    val_main_v220 x1 x2 x3 x4 x5 p = ((vnew (chQK K (p 0) (p 1) 1) (chV V (p 0) (p 1) 1) (chP G (p 0) (p 1) 1) (chP B (p 0) (p 1) 1) (hst K V G B S (p 0) (p 1) 1) (p 2) (p 3) : ℝ) : EReal) := by
  simp -implicitDefEqProofs only [val_main_v219_apply, val_main_v220_apply, Ideal.subf_def, u_1, w_1, u_eq hx hg hb hv, w_eq hx hg hb, hS, cmul, csum, cadd, csub]
  exact congrArg _ (vnew_eq (chQK K (p 0) (p 1) 1) (chV V (p 0) (p 1) 1) (chP G (p 0) (p 1) 1) (chP B (p 0) (p 1) 1) (hst K V G B S (p 0) (p 1) 1) (p 2) (p 3)).symm
/-- The output of chunk 1. -/
theorem o_1 (hx : RQK x1 K) (hv : RV x2 V) (hg : RP x3 G) (hb : RP x4 B) (hq : RQK x0 Q) (hS : ∀ p : S2x24x128x256.Idx, val_main_v214 x1 x2 x3 x4 x5 p = ((hst K V G B S (p 0) (p 1) 1 (p 2) (p 3) : ℝ) : EReal)) (p : S2x24x64x256.Idx) :
    val_main_v227 x0 x1 x2 x3 x4 x5 p = ((oOut (chQK Q (p 0) (p 1) 1) (chQK K (p 0) (p 1) 1) (chV V (p 0) (p 1) 1) (chP G (p 0) (p 1) 1) (chP B (p 0) (p 1) 1) (hst K V G B S (p 0) (p 1) 1) (p 2) (p 3) : ℝ) : EReal) := by
  simp -implicitDefEqProofs only [val_main_v223_apply, val_main_v226_apply, val_main_v227_apply, Ideal.addf_def, qg_1, pm_1, qg_eq hq hg, pm_eq hx hq hg, vn_1 hx hv hg hb hS, hS, cmul, csum, cadd, csub]
  rfl
/-- The state after chunk 1. -/
theorem s_1 (hx : RQK x1 K) (hv : RV x2 V) (hg : RP x3 G) (hb : RP x4 B) (hS : ∀ p : S2x24x128x256.Idx, val_main_v214 x1 x2 x3 x4 x5 p = ((hst K V G B S (p 0) (p 1) 1 (p 2) (p 3) : ℝ) : EReal)) (p : S2x24x128x256.Idx) :
    val_main_v236 x1 x2 x3 x4 x5 p = ((hst K V G B S (p 0) (p 1) 2 (p 2) (p 3) : ℝ) : EReal) := by
  simp -implicitDefEqProofs only [val_main_v230_apply, val_main_v231_apply, val_main_v232_apply, val_main_v235_apply, val_main_v236_apply, Ideal.addf_def, Ideal.mulf_def, de_1, kd_1, last_eq hg, kd_eq hx hg, vn_1 hx hv hg hb hS, hS, cmul, csum, cadd, csub]
  exact congrArg _ (congrFun (congrFun (hst_succ K V G B S (p 0) (p 1) 1) (p 2)) (p 3)).symm

/-! ### Chunk 2 -/

/-- Chunk 2 of the inverse applied to the values, as cut out. -/
theorem u_2 (p : S2x24x64x256.Idx) : val_main_v238 x1 x2 x3 x4 p = val_main_v178 x1 x2 x3 x4 (ix5 (p 0) 2 (p 1) (p 2) (p 3)) := by
  have key : ∀ a c i v, val_main_v238 x1 x2 x3 x4 (ix4 a c i v) = val_main_v178 x1 x2 x3 x4 (ix5 a 2 c i v) := by
    intro a c i v
    unfold val_main_v238 val_main_v237
    generalize val_main_v178 x1 x2 x3 x4 = y
    pointwise
    all_goals rfl
  exact (congrArg _ (eq_ix4 p)).trans (key _ _ _ _)
/-- Chunk 2 of the inverse applied to the decayed keys, as cut out. -/
theorem w_2 (p : S2x24x64x128.Idx) : val_main_v240 x1 x3 x4 p = val_main_v174 x1 x3 x4 (ix5 (p 0) 2 (p 1) (p 2) (p 3)) := by
  have key : ∀ a c i v, val_main_v240 x1 x3 x4 (ix4 a c i v) = val_main_v174 x1 x3 x4 (ix5 a 2 c i v) := by
    intro a c i v
    unfold val_main_v240 val_main_v239
    generalize val_main_v174 x1 x3 x4 = y
    pointwise
    all_goals rfl
  exact (congrArg _ (eq_ix4 p)).trans (key _ _ _ _)
/-- Chunk 2 of the decayed queries, as cut out. -/
theorem qg_2 (p : S2x24x64x128.Idx) : val_main_v244 x0 x3 p = val_main_v182 x0 x3 (ix5 (p 0) 2 (p 1) (p 2) (p 3)) := by
  have key : ∀ a c i v, val_main_v244 x0 x3 (ix4 a c i v) = val_main_v182 x0 x3 (ix5 a 2 c i v) := by
    intro a c i v
    unfold val_main_v244 val_main_v243
    generalize val_main_v182 x0 x3 = y
    pointwise
    all_goals rfl
  exact (congrArg _ (eq_ix4 p)).trans (key _ _ _ _)
/-- Chunk 2 of the decayed products, as cut out. -/
theorem pm_2 (p : S2x24x64x64.Idx) : val_main_v247 x0 x1 x3 p = val_main_v179 x0 x1 x3 (ix5 (p 0) 2 (p 1) (p 2) (p 3)) := by
  have key : ∀ a c i v, val_main_v247 x0 x1 x3 (ix4 a c i v) = val_main_v179 x0 x1 x3 (ix5 a 2 c i v) := by
    intro a c i v
    unfold val_main_v247 val_main_v246
    generalize val_main_v179 x0 x1 x3 = y
    pointwise
    all_goals rfl
  exact (congrArg _ (eq_ix4 p)).trans (key _ _ _ _)
/-- Chunk 2 of the keys decayed to the end of the chunk, as cut out. -/
theorem kd_2 (p : S2x24x64x128.Idx) : val_main_v256 x1 x3 p = val_main_v189 x1 x3 (ix5 (p 0) 2 (p 1) (p 2) (p 3)) := by
  have key : ∀ a c i v, val_main_v256 x1 x3 (ix4 a c i v) = val_main_v189 x1 x3 (ix5 a 2 c i v) := by
    intro a c i v
    unfold val_main_v256 val_main_v255
    generalize val_main_v189 x1 x3 = y
    pointwise
    all_goals rfl
  exact (congrArg _ (eq_ix4 p)).trans (key _ _ _ _)
/-- Chunk 2 of the whole-chunk decay, as cut out. -/
theorem de_2 (p : S2x24.Idx) : val_main_v251 x3 p = val_main_v192 x3 (ix3 (p 0) 2 (p 1)) := by
  have key : ∀ a c, val_main_v251 x3 (ix2 a c) = val_main_v192 x3 (ix3 a 2 c) := by
    intro a c
    unfold val_main_v251 val_main_v250
    generalize val_main_v192 x3 = y
    pointwise
    all_goals rfl
  exact (congrArg _ (eq_ix2 p)).trans (key _ _)
/-- The values written at chunk 2. -/
theorem vn_2 (hx : RQK x1 K) (hv : RV x2 V) (hg : RP x3 G) (hb : RP x4 B) (hS : ∀ p : S2x24x128x256.Idx, val_main_v236 x1 x2 x3 x4 x5 p = ((hst K V G B S (p 0) (p 1) 2 (p 2) (p 3) : ℝ) : EReal)) (p : S2x24x64x256.Idx) :
    val_main_v242 x1 x2 x3 x4 x5 p = ((vnew (chQK K (p 0) (p 1) 2) (chV V (p 0) (p 1) 2) (chP G (p 0) (p 1) 2) (chP B (p 0) (p 1) 2) (hst K V G B S (p 0) (p 1) 2) (p 2) (p 3) : ℝ) : EReal) := by
  simp -implicitDefEqProofs only [val_main_v241_apply, val_main_v242_apply, Ideal.subf_def, u_2, w_2, u_eq hx hg hb hv, w_eq hx hg hb, hS, cmul, csum, cadd, csub]
  exact congrArg _ (vnew_eq (chQK K (p 0) (p 1) 2) (chV V (p 0) (p 1) 2) (chP G (p 0) (p 1) 2) (chP B (p 0) (p 1) 2) (hst K V G B S (p 0) (p 1) 2) (p 2) (p 3)).symm
/-- The output of chunk 2. -/
theorem o_2 (hx : RQK x1 K) (hv : RV x2 V) (hg : RP x3 G) (hb : RP x4 B) (hq : RQK x0 Q) (hS : ∀ p : S2x24x128x256.Idx, val_main_v236 x1 x2 x3 x4 x5 p = ((hst K V G B S (p 0) (p 1) 2 (p 2) (p 3) : ℝ) : EReal)) (p : S2x24x64x256.Idx) :
    val_main_v249 x0 x1 x2 x3 x4 x5 p = ((oOut (chQK Q (p 0) (p 1) 2) (chQK K (p 0) (p 1) 2) (chV V (p 0) (p 1) 2) (chP G (p 0) (p 1) 2) (chP B (p 0) (p 1) 2) (hst K V G B S (p 0) (p 1) 2) (p 2) (p 3) : ℝ) : EReal) := by
  simp -implicitDefEqProofs only [val_main_v245_apply, val_main_v248_apply, val_main_v249_apply, Ideal.addf_def, qg_2, pm_2, qg_eq hq hg, pm_eq hx hq hg, vn_2 hx hv hg hb hS, hS, cmul, csum, cadd, csub]
  rfl
/-- The state after chunk 2. -/
theorem s_2 (hx : RQK x1 K) (hv : RV x2 V) (hg : RP x3 G) (hb : RP x4 B) (hS : ∀ p : S2x24x128x256.Idx, val_main_v236 x1 x2 x3 x4 x5 p = ((hst K V G B S (p 0) (p 1) 2 (p 2) (p 3) : ℝ) : EReal)) (p : S2x24x128x256.Idx) :
    val_main_v258 x1 x2 x3 x4 x5 p = ((hst K V G B S (p 0) (p 1) 3 (p 2) (p 3) : ℝ) : EReal) := by
  simp -implicitDefEqProofs only [val_main_v252_apply, val_main_v253_apply, val_main_v254_apply, val_main_v257_apply, val_main_v258_apply, Ideal.addf_def, Ideal.mulf_def, de_2, kd_2, last_eq hg, kd_eq hx hg, vn_2 hx hv hg hb hS, hS, cmul, csum, cadd, csub]
  exact congrArg _ (congrFun (congrFun (hst_succ K V G B S (p 0) (p 1) 2) (p 2)) (p 3)).symm

/-! ### Chunk 3 -/

/-- Chunk 3 of the inverse applied to the values, as cut out. -/
theorem u_3 (p : S2x24x64x256.Idx) : val_main_v260 x1 x2 x3 x4 p = val_main_v178 x1 x2 x3 x4 (ix5 (p 0) 3 (p 1) (p 2) (p 3)) := by
  have key : ∀ a c i v, val_main_v260 x1 x2 x3 x4 (ix4 a c i v) = val_main_v178 x1 x2 x3 x4 (ix5 a 3 c i v) := by
    intro a c i v
    unfold val_main_v260 val_main_v259
    generalize val_main_v178 x1 x2 x3 x4 = y
    pointwise
    all_goals rfl
  exact (congrArg _ (eq_ix4 p)).trans (key _ _ _ _)
/-- Chunk 3 of the inverse applied to the decayed keys, as cut out. -/
theorem w_3 (p : S2x24x64x128.Idx) : val_main_v262 x1 x3 x4 p = val_main_v174 x1 x3 x4 (ix5 (p 0) 3 (p 1) (p 2) (p 3)) := by
  have key : ∀ a c i v, val_main_v262 x1 x3 x4 (ix4 a c i v) = val_main_v174 x1 x3 x4 (ix5 a 3 c i v) := by
    intro a c i v
    unfold val_main_v262 val_main_v261
    generalize val_main_v174 x1 x3 x4 = y
    pointwise
    all_goals rfl
  exact (congrArg _ (eq_ix4 p)).trans (key _ _ _ _)
/-- Chunk 3 of the decayed queries, as cut out. -/
theorem qg_3 (p : S2x24x64x128.Idx) : val_main_v266 x0 x3 p = val_main_v182 x0 x3 (ix5 (p 0) 3 (p 1) (p 2) (p 3)) := by
  have key : ∀ a c i v, val_main_v266 x0 x3 (ix4 a c i v) = val_main_v182 x0 x3 (ix5 a 3 c i v) := by
    intro a c i v
    unfold val_main_v266 val_main_v265
    generalize val_main_v182 x0 x3 = y
    pointwise
    all_goals rfl
  exact (congrArg _ (eq_ix4 p)).trans (key _ _ _ _)
/-- Chunk 3 of the decayed products, as cut out. -/
theorem pm_3 (p : S2x24x64x64.Idx) : val_main_v269 x0 x1 x3 p = val_main_v179 x0 x1 x3 (ix5 (p 0) 3 (p 1) (p 2) (p 3)) := by
  have key : ∀ a c i v, val_main_v269 x0 x1 x3 (ix4 a c i v) = val_main_v179 x0 x1 x3 (ix5 a 3 c i v) := by
    intro a c i v
    unfold val_main_v269 val_main_v268
    generalize val_main_v179 x0 x1 x3 = y
    pointwise
    all_goals rfl
  exact (congrArg _ (eq_ix4 p)).trans (key _ _ _ _)
/-- Chunk 3 of the keys decayed to the end of the chunk, as cut out. -/
theorem kd_3 (p : S2x24x64x128.Idx) : val_main_v278 x1 x3 p = val_main_v189 x1 x3 (ix5 (p 0) 3 (p 1) (p 2) (p 3)) := by
  have key : ∀ a c i v, val_main_v278 x1 x3 (ix4 a c i v) = val_main_v189 x1 x3 (ix5 a 3 c i v) := by
    intro a c i v
    unfold val_main_v278 val_main_v277
    generalize val_main_v189 x1 x3 = y
    pointwise
    all_goals rfl
  exact (congrArg _ (eq_ix4 p)).trans (key _ _ _ _)
/-- Chunk 3 of the whole-chunk decay, as cut out. -/
theorem de_3 (p : S2x24.Idx) : val_main_v273 x3 p = val_main_v192 x3 (ix3 (p 0) 3 (p 1)) := by
  have key : ∀ a c, val_main_v273 x3 (ix2 a c) = val_main_v192 x3 (ix3 a 3 c) := by
    intro a c
    unfold val_main_v273 val_main_v272
    generalize val_main_v192 x3 = y
    pointwise
    all_goals rfl
  exact (congrArg _ (eq_ix2 p)).trans (key _ _)
/-- The values written at chunk 3. -/
theorem vn_3 (hx : RQK x1 K) (hv : RV x2 V) (hg : RP x3 G) (hb : RP x4 B) (hS : ∀ p : S2x24x128x256.Idx, val_main_v258 x1 x2 x3 x4 x5 p = ((hst K V G B S (p 0) (p 1) 3 (p 2) (p 3) : ℝ) : EReal)) (p : S2x24x64x256.Idx) :
    val_main_v264 x1 x2 x3 x4 x5 p = ((vnew (chQK K (p 0) (p 1) 3) (chV V (p 0) (p 1) 3) (chP G (p 0) (p 1) 3) (chP B (p 0) (p 1) 3) (hst K V G B S (p 0) (p 1) 3) (p 2) (p 3) : ℝ) : EReal) := by
  simp -implicitDefEqProofs only [val_main_v263_apply, val_main_v264_apply, Ideal.subf_def, u_3, w_3, u_eq hx hg hb hv, w_eq hx hg hb, hS, cmul, csum, cadd, csub]
  exact congrArg _ (vnew_eq (chQK K (p 0) (p 1) 3) (chV V (p 0) (p 1) 3) (chP G (p 0) (p 1) 3) (chP B (p 0) (p 1) 3) (hst K V G B S (p 0) (p 1) 3) (p 2) (p 3)).symm
/-- The output of chunk 3. -/
theorem o_3 (hx : RQK x1 K) (hv : RV x2 V) (hg : RP x3 G) (hb : RP x4 B) (hq : RQK x0 Q) (hS : ∀ p : S2x24x128x256.Idx, val_main_v258 x1 x2 x3 x4 x5 p = ((hst K V G B S (p 0) (p 1) 3 (p 2) (p 3) : ℝ) : EReal)) (p : S2x24x64x256.Idx) :
    val_main_v271 x0 x1 x2 x3 x4 x5 p = ((oOut (chQK Q (p 0) (p 1) 3) (chQK K (p 0) (p 1) 3) (chV V (p 0) (p 1) 3) (chP G (p 0) (p 1) 3) (chP B (p 0) (p 1) 3) (hst K V G B S (p 0) (p 1) 3) (p 2) (p 3) : ℝ) : EReal) := by
  simp -implicitDefEqProofs only [val_main_v267_apply, val_main_v270_apply, val_main_v271_apply, Ideal.addf_def, qg_3, pm_3, qg_eq hq hg, pm_eq hx hq hg, vn_3 hx hv hg hb hS, hS, cmul, csum, cadd, csub]
  rfl
/-- The state after chunk 3. -/
theorem s_3 (hx : RQK x1 K) (hv : RV x2 V) (hg : RP x3 G) (hb : RP x4 B) (hS : ∀ p : S2x24x128x256.Idx, val_main_v258 x1 x2 x3 x4 x5 p = ((hst K V G B S (p 0) (p 1) 3 (p 2) (p 3) : ℝ) : EReal)) (p : S2x24x128x256.Idx) :
    val_main_v280 x1 x2 x3 x4 x5 p = ((hst K V G B S (p 0) (p 1) 4 (p 2) (p 3) : ℝ) : EReal) := by
  simp -implicitDefEqProofs only [val_main_v274_apply, val_main_v275_apply, val_main_v276_apply, val_main_v279_apply, val_main_v280_apply, Ideal.addf_def, Ideal.mulf_def, de_3, kd_3, last_eq hg, kd_eq hx hg, vn_3 hx hv hg hb hS, hS, cmul, csum, cadd, csub]
  exact congrArg _ (congrFun (congrFun (hst_succ K V G B S (p 0) (p 1) 3) (p 2)) (p 3)).symm

/-! ### Chunk 4 -/

/-- Chunk 4 of the inverse applied to the values, as cut out. -/
theorem u_4 (p : S2x24x64x256.Idx) : val_main_v282 x1 x2 x3 x4 p = val_main_v178 x1 x2 x3 x4 (ix5 (p 0) 4 (p 1) (p 2) (p 3)) := by
  have key : ∀ a c i v, val_main_v282 x1 x2 x3 x4 (ix4 a c i v) = val_main_v178 x1 x2 x3 x4 (ix5 a 4 c i v) := by
    intro a c i v
    unfold val_main_v282 val_main_v281
    generalize val_main_v178 x1 x2 x3 x4 = y
    pointwise
    all_goals rfl
  exact (congrArg _ (eq_ix4 p)).trans (key _ _ _ _)
/-- Chunk 4 of the inverse applied to the decayed keys, as cut out. -/
theorem w_4 (p : S2x24x64x128.Idx) : val_main_v284 x1 x3 x4 p = val_main_v174 x1 x3 x4 (ix5 (p 0) 4 (p 1) (p 2) (p 3)) := by
  have key : ∀ a c i v, val_main_v284 x1 x3 x4 (ix4 a c i v) = val_main_v174 x1 x3 x4 (ix5 a 4 c i v) := by
    intro a c i v
    unfold val_main_v284 val_main_v283
    generalize val_main_v174 x1 x3 x4 = y
    pointwise
    all_goals rfl
  exact (congrArg _ (eq_ix4 p)).trans (key _ _ _ _)
/-- Chunk 4 of the decayed queries, as cut out. -/
theorem qg_4 (p : S2x24x64x128.Idx) : val_main_v288 x0 x3 p = val_main_v182 x0 x3 (ix5 (p 0) 4 (p 1) (p 2) (p 3)) := by
  have key : ∀ a c i v, val_main_v288 x0 x3 (ix4 a c i v) = val_main_v182 x0 x3 (ix5 a 4 c i v) := by
    intro a c i v
    unfold val_main_v288 val_main_v287
    generalize val_main_v182 x0 x3 = y
    pointwise
    all_goals rfl
  exact (congrArg _ (eq_ix4 p)).trans (key _ _ _ _)
/-- Chunk 4 of the decayed products, as cut out. -/
theorem pm_4 (p : S2x24x64x64.Idx) : val_main_v291 x0 x1 x3 p = val_main_v179 x0 x1 x3 (ix5 (p 0) 4 (p 1) (p 2) (p 3)) := by
  have key : ∀ a c i v, val_main_v291 x0 x1 x3 (ix4 a c i v) = val_main_v179 x0 x1 x3 (ix5 a 4 c i v) := by
    intro a c i v
    unfold val_main_v291 val_main_v290
    generalize val_main_v179 x0 x1 x3 = y
    pointwise
    all_goals rfl
  exact (congrArg _ (eq_ix4 p)).trans (key _ _ _ _)
/-- Chunk 4 of the keys decayed to the end of the chunk, as cut out. -/
theorem kd_4 (p : S2x24x64x128.Idx) : val_main_v300 x1 x3 p = val_main_v189 x1 x3 (ix5 (p 0) 4 (p 1) (p 2) (p 3)) := by
  have key : ∀ a c i v, val_main_v300 x1 x3 (ix4 a c i v) = val_main_v189 x1 x3 (ix5 a 4 c i v) := by
    intro a c i v
    unfold val_main_v300 val_main_v299
    generalize val_main_v189 x1 x3 = y
    pointwise
    all_goals rfl
  exact (congrArg _ (eq_ix4 p)).trans (key _ _ _ _)
/-- Chunk 4 of the whole-chunk decay, as cut out. -/
theorem de_4 (p : S2x24.Idx) : val_main_v295 x3 p = val_main_v192 x3 (ix3 (p 0) 4 (p 1)) := by
  have key : ∀ a c, val_main_v295 x3 (ix2 a c) = val_main_v192 x3 (ix3 a 4 c) := by
    intro a c
    unfold val_main_v295 val_main_v294
    generalize val_main_v192 x3 = y
    pointwise
    all_goals rfl
  exact (congrArg _ (eq_ix2 p)).trans (key _ _)
/-- The values written at chunk 4. -/
theorem vn_4 (hx : RQK x1 K) (hv : RV x2 V) (hg : RP x3 G) (hb : RP x4 B) (hS : ∀ p : S2x24x128x256.Idx, val_main_v280 x1 x2 x3 x4 x5 p = ((hst K V G B S (p 0) (p 1) 4 (p 2) (p 3) : ℝ) : EReal)) (p : S2x24x64x256.Idx) :
    val_main_v286 x1 x2 x3 x4 x5 p = ((vnew (chQK K (p 0) (p 1) 4) (chV V (p 0) (p 1) 4) (chP G (p 0) (p 1) 4) (chP B (p 0) (p 1) 4) (hst K V G B S (p 0) (p 1) 4) (p 2) (p 3) : ℝ) : EReal) := by
  simp -implicitDefEqProofs only [val_main_v285_apply, val_main_v286_apply, Ideal.subf_def, u_4, w_4, u_eq hx hg hb hv, w_eq hx hg hb, hS, cmul, csum, cadd, csub]
  exact congrArg _ (vnew_eq (chQK K (p 0) (p 1) 4) (chV V (p 0) (p 1) 4) (chP G (p 0) (p 1) 4) (chP B (p 0) (p 1) 4) (hst K V G B S (p 0) (p 1) 4) (p 2) (p 3)).symm
/-- The output of chunk 4. -/
theorem o_4 (hx : RQK x1 K) (hv : RV x2 V) (hg : RP x3 G) (hb : RP x4 B) (hq : RQK x0 Q) (hS : ∀ p : S2x24x128x256.Idx, val_main_v280 x1 x2 x3 x4 x5 p = ((hst K V G B S (p 0) (p 1) 4 (p 2) (p 3) : ℝ) : EReal)) (p : S2x24x64x256.Idx) :
    val_main_v293 x0 x1 x2 x3 x4 x5 p = ((oOut (chQK Q (p 0) (p 1) 4) (chQK K (p 0) (p 1) 4) (chV V (p 0) (p 1) 4) (chP G (p 0) (p 1) 4) (chP B (p 0) (p 1) 4) (hst K V G B S (p 0) (p 1) 4) (p 2) (p 3) : ℝ) : EReal) := by
  simp -implicitDefEqProofs only [val_main_v289_apply, val_main_v292_apply, val_main_v293_apply, Ideal.addf_def, qg_4, pm_4, qg_eq hq hg, pm_eq hx hq hg, vn_4 hx hv hg hb hS, hS, cmul, csum, cadd, csub]
  rfl
/-- The state after chunk 4. -/
theorem s_4 (hx : RQK x1 K) (hv : RV x2 V) (hg : RP x3 G) (hb : RP x4 B) (hS : ∀ p : S2x24x128x256.Idx, val_main_v280 x1 x2 x3 x4 x5 p = ((hst K V G B S (p 0) (p 1) 4 (p 2) (p 3) : ℝ) : EReal)) (p : S2x24x128x256.Idx) :
    val_main_v302 x1 x2 x3 x4 x5 p = ((hst K V G B S (p 0) (p 1) 5 (p 2) (p 3) : ℝ) : EReal) := by
  simp -implicitDefEqProofs only [val_main_v296_apply, val_main_v297_apply, val_main_v298_apply, val_main_v301_apply, val_main_v302_apply, Ideal.addf_def, Ideal.mulf_def, de_4, kd_4, last_eq hg, kd_eq hx hg, vn_4 hx hv hg hb hS, hS, cmul, csum, cadd, csub]
  exact congrArg _ (congrFun (congrFun (hst_succ K V G B S (p 0) (p 1) 4) (p 2)) (p 3)).symm

end Cert.ReferenceIdeal.Read

end
-- ==== Proof.RefStepsB.lean ====
/- The reference's recurrence, chunks 5 to 9, over the real numbers. -/
module

public import proofs.«01_k».proof.Proof.Gen.ReferenceIdeal.Read
public import proofs.«01_k».proof.Proof.Chunks
public import proofs.«01_k».proof.Proof.RefChunk

@[expose] public section

set_option maxRecDepth 16384

noncomputable section

namespace Cert.ReferenceIdeal.Read

open Idealize.ShloMosaic Idealize.ShloMosaic.TcCoe Idealize.ShloMosaic.Tactic Cert.ReferenceIdeal
open Cert.Quant Cert.Spec Cert.Inverse

variable {x0 x1 : (⟨S2x640x24x128, .bf16⟩ : BufTy).Contents (Elt Ideal)} {K Q : AQK}
variable {x2 : (⟨S2x640x24x256, .bf16⟩ : BufTy).Contents (Elt Ideal)} {V : AV}
variable {x3 x4 : (⟨S2x640x24, .f32⟩ : BufTy).Contents (Elt Ideal)} {G B : AP}
variable {x5 : (⟨S2x24x128x256, .f32⟩ : BufTy).Contents (Elt Ideal)} {S : AS}

/-! ### Chunk 5 -/

/-- Chunk 5 of the inverse applied to the values, as cut out. -/
theorem u_5 (p : S2x24x64x256.Idx) : val_main_v304 x1 x2 x3 x4 p = val_main_v178 x1 x2 x3 x4 (ix5 (p 0) 5 (p 1) (p 2) (p 3)) := by
  have key : ∀ a c i v, val_main_v304 x1 x2 x3 x4 (ix4 a c i v) = val_main_v178 x1 x2 x3 x4 (ix5 a 5 c i v) := by
    intro a c i v
    unfold val_main_v304 val_main_v303
    generalize val_main_v178 x1 x2 x3 x4 = y
    pointwise
    all_goals rfl
  exact (congrArg _ (eq_ix4 p)).trans (key _ _ _ _)
/-- Chunk 5 of the inverse applied to the decayed keys, as cut out. -/
theorem w_5 (p : S2x24x64x128.Idx) : val_main_v306 x1 x3 x4 p = val_main_v174 x1 x3 x4 (ix5 (p 0) 5 (p 1) (p 2) (p 3)) := by
  have key : ∀ a c i v, val_main_v306 x1 x3 x4 (ix4 a c i v) = val_main_v174 x1 x3 x4 (ix5 a 5 c i v) := by
    intro a c i v
    unfold val_main_v306 val_main_v305
    generalize val_main_v174 x1 x3 x4 = y
    pointwise
    all_goals rfl
  exact (congrArg _ (eq_ix4 p)).trans (key _ _ _ _)
/-- Chunk 5 of the decayed queries, as cut out. -/
theorem qg_5 (p : S2x24x64x128.Idx) : val_main_v310 x0 x3 p = val_main_v182 x0 x3 (ix5 (p 0) 5 (p 1) (p 2) (p 3)) := by
  have key : ∀ a c i v, val_main_v310 x0 x3 (ix4 a c i v) = val_main_v182 x0 x3 (ix5 a 5 c i v) := by
    intro a c i v
    unfold val_main_v310 val_main_v309
    generalize val_main_v182 x0 x3 = y
    pointwise
    all_goals rfl
  exact (congrArg _ (eq_ix4 p)).trans (key _ _ _ _)
/-- Chunk 5 of the decayed products, as cut out. -/
theorem pm_5 (p : S2x24x64x64.Idx) : val_main_v313 x0 x1 x3 p = val_main_v179 x0 x1 x3 (ix5 (p 0) 5 (p 1) (p 2) (p 3)) := by
  have key : ∀ a c i v, val_main_v313 x0 x1 x3 (ix4 a c i v) = val_main_v179 x0 x1 x3 (ix5 a 5 c i v) := by
    intro a c i v
    unfold val_main_v313 val_main_v312
    generalize val_main_v179 x0 x1 x3 = y
    pointwise
    all_goals rfl
  exact (congrArg _ (eq_ix4 p)).trans (key _ _ _ _)
/-- Chunk 5 of the keys decayed to the end of the chunk, as cut out. -/
theorem kd_5 (p : S2x24x64x128.Idx) : val_main_v322 x1 x3 p = val_main_v189 x1 x3 (ix5 (p 0) 5 (p 1) (p 2) (p 3)) := by
  have key : ∀ a c i v, val_main_v322 x1 x3 (ix4 a c i v) = val_main_v189 x1 x3 (ix5 a 5 c i v) := by
    intro a c i v
    unfold val_main_v322 val_main_v321
    generalize val_main_v189 x1 x3 = y
    pointwise
    all_goals rfl
  exact (congrArg _ (eq_ix4 p)).trans (key _ _ _ _)
/-- Chunk 5 of the whole-chunk decay, as cut out. -/
theorem de_5 (p : S2x24.Idx) : val_main_v317 x3 p = val_main_v192 x3 (ix3 (p 0) 5 (p 1)) := by
  have key : ∀ a c, val_main_v317 x3 (ix2 a c) = val_main_v192 x3 (ix3 a 5 c) := by
    intro a c
    unfold val_main_v317 val_main_v316
    generalize val_main_v192 x3 = y
    pointwise
    all_goals rfl
  exact (congrArg _ (eq_ix2 p)).trans (key _ _)
/-- The values written at chunk 5. -/
theorem vn_5 (hx : RQK x1 K) (hv : RV x2 V) (hg : RP x3 G) (hb : RP x4 B) (hS : ∀ p : S2x24x128x256.Idx, val_main_v302 x1 x2 x3 x4 x5 p = ((hst K V G B S (p 0) (p 1) 5 (p 2) (p 3) : ℝ) : EReal)) (p : S2x24x64x256.Idx) :
    val_main_v308 x1 x2 x3 x4 x5 p = ((vnew (chQK K (p 0) (p 1) 5) (chV V (p 0) (p 1) 5) (chP G (p 0) (p 1) 5) (chP B (p 0) (p 1) 5) (hst K V G B S (p 0) (p 1) 5) (p 2) (p 3) : ℝ) : EReal) := by
  simp -implicitDefEqProofs only [val_main_v307_apply, val_main_v308_apply, Ideal.subf_def, u_5, w_5, u_eq hx hg hb hv, w_eq hx hg hb, hS, cmul, csum, cadd, csub]
  exact congrArg _ (vnew_eq (chQK K (p 0) (p 1) 5) (chV V (p 0) (p 1) 5) (chP G (p 0) (p 1) 5) (chP B (p 0) (p 1) 5) (hst K V G B S (p 0) (p 1) 5) (p 2) (p 3)).symm
/-- The output of chunk 5. -/
theorem o_5 (hx : RQK x1 K) (hv : RV x2 V) (hg : RP x3 G) (hb : RP x4 B) (hq : RQK x0 Q) (hS : ∀ p : S2x24x128x256.Idx, val_main_v302 x1 x2 x3 x4 x5 p = ((hst K V G B S (p 0) (p 1) 5 (p 2) (p 3) : ℝ) : EReal)) (p : S2x24x64x256.Idx) :
    val_main_v315 x0 x1 x2 x3 x4 x5 p = ((oOut (chQK Q (p 0) (p 1) 5) (chQK K (p 0) (p 1) 5) (chV V (p 0) (p 1) 5) (chP G (p 0) (p 1) 5) (chP B (p 0) (p 1) 5) (hst K V G B S (p 0) (p 1) 5) (p 2) (p 3) : ℝ) : EReal) := by
  simp -implicitDefEqProofs only [val_main_v311_apply, val_main_v314_apply, val_main_v315_apply, Ideal.addf_def, qg_5, pm_5, qg_eq hq hg, pm_eq hx hq hg, vn_5 hx hv hg hb hS, hS, cmul, csum, cadd, csub]
  rfl
/-- The state after chunk 5. -/
theorem s_5 (hx : RQK x1 K) (hv : RV x2 V) (hg : RP x3 G) (hb : RP x4 B) (hS : ∀ p : S2x24x128x256.Idx, val_main_v302 x1 x2 x3 x4 x5 p = ((hst K V G B S (p 0) (p 1) 5 (p 2) (p 3) : ℝ) : EReal)) (p : S2x24x128x256.Idx) :
    val_main_v324 x1 x2 x3 x4 x5 p = ((hst K V G B S (p 0) (p 1) 6 (p 2) (p 3) : ℝ) : EReal) := by
  simp -implicitDefEqProofs only [val_main_v318_apply, val_main_v319_apply, val_main_v320_apply, val_main_v323_apply, val_main_v324_apply, Ideal.addf_def, Ideal.mulf_def, de_5, kd_5, last_eq hg, kd_eq hx hg, vn_5 hx hv hg hb hS, hS, cmul, csum, cadd, csub]
  exact congrArg _ (congrFun (congrFun (hst_succ K V G B S (p 0) (p 1) 5) (p 2)) (p 3)).symm

/-! ### Chunk 6 -/

/-- Chunk 6 of the inverse applied to the values, as cut out. -/
theorem u_6 (p : S2x24x64x256.Idx) : val_main_v326 x1 x2 x3 x4 p = val_main_v178 x1 x2 x3 x4 (ix5 (p 0) 6 (p 1) (p 2) (p 3)) := by
  have key : ∀ a c i v, val_main_v326 x1 x2 x3 x4 (ix4 a c i v) = val_main_v178 x1 x2 x3 x4 (ix5 a 6 c i v) := by
    intro a c i v
    unfold val_main_v326 val_main_v325
    generalize val_main_v178 x1 x2 x3 x4 = y
    pointwise
    all_goals rfl
  exact (congrArg _ (eq_ix4 p)).trans (key _ _ _ _)
/-- Chunk 6 of the inverse applied to the decayed keys, as cut out. -/
theorem w_6 (p : S2x24x64x128.Idx) : val_main_v328 x1 x3 x4 p = val_main_v174 x1 x3 x4 (ix5 (p 0) 6 (p 1) (p 2) (p 3)) := by
  have key : ∀ a c i v, val_main_v328 x1 x3 x4 (ix4 a c i v) = val_main_v174 x1 x3 x4 (ix5 a 6 c i v) := by
    intro a c i v
    unfold val_main_v328 val_main_v327
    generalize val_main_v174 x1 x3 x4 = y
    pointwise
    all_goals rfl
  exact (congrArg _ (eq_ix4 p)).trans (key _ _ _ _)
/-- Chunk 6 of the decayed queries, as cut out. -/
theorem qg_6 (p : S2x24x64x128.Idx) : val_main_v332 x0 x3 p = val_main_v182 x0 x3 (ix5 (p 0) 6 (p 1) (p 2) (p 3)) := by
  have key : ∀ a c i v, val_main_v332 x0 x3 (ix4 a c i v) = val_main_v182 x0 x3 (ix5 a 6 c i v) := by
    intro a c i v
    unfold val_main_v332 val_main_v331
    generalize val_main_v182 x0 x3 = y
    pointwise
    all_goals rfl
  exact (congrArg _ (eq_ix4 p)).trans (key _ _ _ _)
/-- Chunk 6 of the decayed products, as cut out. -/
theorem pm_6 (p : S2x24x64x64.Idx) : val_main_v335 x0 x1 x3 p = val_main_v179 x0 x1 x3 (ix5 (p 0) 6 (p 1) (p 2) (p 3)) := by
  have key : ∀ a c i v, val_main_v335 x0 x1 x3 (ix4 a c i v) = val_main_v179 x0 x1 x3 (ix5 a 6 c i v) := by
    intro a c i v
    unfold val_main_v335 val_main_v334
    generalize val_main_v179 x0 x1 x3 = y
    pointwise
    all_goals rfl
  exact (congrArg _ (eq_ix4 p)).trans (key _ _ _ _)
/-- Chunk 6 of the keys decayed to the end of the chunk, as cut out. -/
theorem kd_6 (p : S2x24x64x128.Idx) : val_main_v344 x1 x3 p = val_main_v189 x1 x3 (ix5 (p 0) 6 (p 1) (p 2) (p 3)) := by
  have key : ∀ a c i v, val_main_v344 x1 x3 (ix4 a c i v) = val_main_v189 x1 x3 (ix5 a 6 c i v) := by
    intro a c i v
    unfold val_main_v344 val_main_v343
    generalize val_main_v189 x1 x3 = y
    pointwise
    all_goals rfl
  exact (congrArg _ (eq_ix4 p)).trans (key _ _ _ _)
/-- Chunk 6 of the whole-chunk decay, as cut out. -/
theorem de_6 (p : S2x24.Idx) : val_main_v339 x3 p = val_main_v192 x3 (ix3 (p 0) 6 (p 1)) := by
  have key : ∀ a c, val_main_v339 x3 (ix2 a c) = val_main_v192 x3 (ix3 a 6 c) := by
    intro a c
    unfold val_main_v339 val_main_v338
    generalize val_main_v192 x3 = y
    pointwise
    all_goals rfl
  exact (congrArg _ (eq_ix2 p)).trans (key _ _)
/-- The values written at chunk 6. -/
theorem vn_6 (hx : RQK x1 K) (hv : RV x2 V) (hg : RP x3 G) (hb : RP x4 B) (hS : ∀ p : S2x24x128x256.Idx, val_main_v324 x1 x2 x3 x4 x5 p = ((hst K V G B S (p 0) (p 1) 6 (p 2) (p 3) : ℝ) : EReal)) (p : S2x24x64x256.Idx) :
    val_main_v330 x1 x2 x3 x4 x5 p = ((vnew (chQK K (p 0) (p 1) 6) (chV V (p 0) (p 1) 6) (chP G (p 0) (p 1) 6) (chP B (p 0) (p 1) 6) (hst K V G B S (p 0) (p 1) 6) (p 2) (p 3) : ℝ) : EReal) := by
  simp -implicitDefEqProofs only [val_main_v329_apply, val_main_v330_apply, Ideal.subf_def, u_6, w_6, u_eq hx hg hb hv, w_eq hx hg hb, hS, cmul, csum, cadd, csub]
  exact congrArg _ (vnew_eq (chQK K (p 0) (p 1) 6) (chV V (p 0) (p 1) 6) (chP G (p 0) (p 1) 6) (chP B (p 0) (p 1) 6) (hst K V G B S (p 0) (p 1) 6) (p 2) (p 3)).symm
/-- The output of chunk 6. -/
theorem o_6 (hx : RQK x1 K) (hv : RV x2 V) (hg : RP x3 G) (hb : RP x4 B) (hq : RQK x0 Q) (hS : ∀ p : S2x24x128x256.Idx, val_main_v324 x1 x2 x3 x4 x5 p = ((hst K V G B S (p 0) (p 1) 6 (p 2) (p 3) : ℝ) : EReal)) (p : S2x24x64x256.Idx) :
    val_main_v337 x0 x1 x2 x3 x4 x5 p = ((oOut (chQK Q (p 0) (p 1) 6) (chQK K (p 0) (p 1) 6) (chV V (p 0) (p 1) 6) (chP G (p 0) (p 1) 6) (chP B (p 0) (p 1) 6) (hst K V G B S (p 0) (p 1) 6) (p 2) (p 3) : ℝ) : EReal) := by
  simp -implicitDefEqProofs only [val_main_v333_apply, val_main_v336_apply, val_main_v337_apply, Ideal.addf_def, qg_6, pm_6, qg_eq hq hg, pm_eq hx hq hg, vn_6 hx hv hg hb hS, hS, cmul, csum, cadd, csub]
  rfl
/-- The state after chunk 6. -/
theorem s_6 (hx : RQK x1 K) (hv : RV x2 V) (hg : RP x3 G) (hb : RP x4 B) (hS : ∀ p : S2x24x128x256.Idx, val_main_v324 x1 x2 x3 x4 x5 p = ((hst K V G B S (p 0) (p 1) 6 (p 2) (p 3) : ℝ) : EReal)) (p : S2x24x128x256.Idx) :
    val_main_v346 x1 x2 x3 x4 x5 p = ((hst K V G B S (p 0) (p 1) 7 (p 2) (p 3) : ℝ) : EReal) := by
  simp -implicitDefEqProofs only [val_main_v340_apply, val_main_v341_apply, val_main_v342_apply, val_main_v345_apply, val_main_v346_apply, Ideal.addf_def, Ideal.mulf_def, de_6, kd_6, last_eq hg, kd_eq hx hg, vn_6 hx hv hg hb hS, hS, cmul, csum, cadd, csub]
  exact congrArg _ (congrFun (congrFun (hst_succ K V G B S (p 0) (p 1) 6) (p 2)) (p 3)).symm

/-! ### Chunk 7 -/

/-- Chunk 7 of the inverse applied to the values, as cut out. -/
theorem u_7 (p : S2x24x64x256.Idx) : val_main_v348 x1 x2 x3 x4 p = val_main_v178 x1 x2 x3 x4 (ix5 (p 0) 7 (p 1) (p 2) (p 3)) := by
  have key : ∀ a c i v, val_main_v348 x1 x2 x3 x4 (ix4 a c i v) = val_main_v178 x1 x2 x3 x4 (ix5 a 7 c i v) := by
    intro a c i v
    unfold val_main_v348 val_main_v347
    generalize val_main_v178 x1 x2 x3 x4 = y
    pointwise
    all_goals rfl
  exact (congrArg _ (eq_ix4 p)).trans (key _ _ _ _)
/-- Chunk 7 of the inverse applied to the decayed keys, as cut out. -/
theorem w_7 (p : S2x24x64x128.Idx) : val_main_v350 x1 x3 x4 p = val_main_v174 x1 x3 x4 (ix5 (p 0) 7 (p 1) (p 2) (p 3)) := by
  have key : ∀ a c i v, val_main_v350 x1 x3 x4 (ix4 a c i v) = val_main_v174 x1 x3 x4 (ix5 a 7 c i v) := by
    intro a c i v
    unfold val_main_v350 val_main_v349
    generalize val_main_v174 x1 x3 x4 = y
    pointwise
    all_goals rfl
  exact (congrArg _ (eq_ix4 p)).trans (key _ _ _ _)
/-- Chunk 7 of the decayed queries, as cut out. -/
theorem qg_7 (p : S2x24x64x128.Idx) : val_main_v354 x0 x3 p = val_main_v182 x0 x3 (ix5 (p 0) 7 (p 1) (p 2) (p 3)) := by
  have key : ∀ a c i v, val_main_v354 x0 x3 (ix4 a c i v) = val_main_v182 x0 x3 (ix5 a 7 c i v) := by
    intro a c i v
    unfold val_main_v354 val_main_v353
    generalize val_main_v182 x0 x3 = y
    pointwise
    all_goals rfl
  exact (congrArg _ (eq_ix4 p)).trans (key _ _ _ _)
/-- Chunk 7 of the decayed products, as cut out. -/
theorem pm_7 (p : S2x24x64x64.Idx) : val_main_v357 x0 x1 x3 p = val_main_v179 x0 x1 x3 (ix5 (p 0) 7 (p 1) (p 2) (p 3)) := by
  have key : ∀ a c i v, val_main_v357 x0 x1 x3 (ix4 a c i v) = val_main_v179 x0 x1 x3 (ix5 a 7 c i v) := by
    intro a c i v
    unfold val_main_v357 val_main_v356
    generalize val_main_v179 x0 x1 x3 = y
    pointwise
    all_goals rfl
  exact (congrArg _ (eq_ix4 p)).trans (key _ _ _ _)
/-- Chunk 7 of the keys decayed to the end of the chunk, as cut out. -/
theorem kd_7 (p : S2x24x64x128.Idx) : val_main_v366 x1 x3 p = val_main_v189 x1 x3 (ix5 (p 0) 7 (p 1) (p 2) (p 3)) := by
  have key : ∀ a c i v, val_main_v366 x1 x3 (ix4 a c i v) = val_main_v189 x1 x3 (ix5 a 7 c i v) := by
    intro a c i v
    unfold val_main_v366 val_main_v365
    generalize val_main_v189 x1 x3 = y
    pointwise
    all_goals rfl
  exact (congrArg _ (eq_ix4 p)).trans (key _ _ _ _)
/-- Chunk 7 of the whole-chunk decay, as cut out. -/
theorem de_7 (p : S2x24.Idx) : val_main_v361 x3 p = val_main_v192 x3 (ix3 (p 0) 7 (p 1)) := by
  have key : ∀ a c, val_main_v361 x3 (ix2 a c) = val_main_v192 x3 (ix3 a 7 c) := by
    intro a c
    unfold val_main_v361 val_main_v360
    generalize val_main_v192 x3 = y
    pointwise
    all_goals rfl
  exact (congrArg _ (eq_ix2 p)).trans (key _ _)
/-- The values written at chunk 7. -/
theorem vn_7 (hx : RQK x1 K) (hv : RV x2 V) (hg : RP x3 G) (hb : RP x4 B) (hS : ∀ p : S2x24x128x256.Idx, val_main_v346 x1 x2 x3 x4 x5 p = ((hst K V G B S (p 0) (p 1) 7 (p 2) (p 3) : ℝ) : EReal)) (p : S2x24x64x256.Idx) :
    val_main_v352 x1 x2 x3 x4 x5 p = ((vnew (chQK K (p 0) (p 1) 7) (chV V (p 0) (p 1) 7) (chP G (p 0) (p 1) 7) (chP B (p 0) (p 1) 7) (hst K V G B S (p 0) (p 1) 7) (p 2) (p 3) : ℝ) : EReal) := by
  simp -implicitDefEqProofs only [val_main_v351_apply, val_main_v352_apply, Ideal.subf_def, u_7, w_7, u_eq hx hg hb hv, w_eq hx hg hb, hS, cmul, csum, cadd, csub]
  exact congrArg _ (vnew_eq (chQK K (p 0) (p 1) 7) (chV V (p 0) (p 1) 7) (chP G (p 0) (p 1) 7) (chP B (p 0) (p 1) 7) (hst K V G B S (p 0) (p 1) 7) (p 2) (p 3)).symm
/-- The output of chunk 7. -/
theorem o_7 (hx : RQK x1 K) (hv : RV x2 V) (hg : RP x3 G) (hb : RP x4 B) (hq : RQK x0 Q) (hS : ∀ p : S2x24x128x256.Idx, val_main_v346 x1 x2 x3 x4 x5 p = ((hst K V G B S (p 0) (p 1) 7 (p 2) (p 3) : ℝ) : EReal)) (p : S2x24x64x256.Idx) :
    val_main_v359 x0 x1 x2 x3 x4 x5 p = ((oOut (chQK Q (p 0) (p 1) 7) (chQK K (p 0) (p 1) 7) (chV V (p 0) (p 1) 7) (chP G (p 0) (p 1) 7) (chP B (p 0) (p 1) 7) (hst K V G B S (p 0) (p 1) 7) (p 2) (p 3) : ℝ) : EReal) := by
  simp -implicitDefEqProofs only [val_main_v355_apply, val_main_v358_apply, val_main_v359_apply, Ideal.addf_def, qg_7, pm_7, qg_eq hq hg, pm_eq hx hq hg, vn_7 hx hv hg hb hS, hS, cmul, csum, cadd, csub]
  rfl
/-- The state after chunk 7. -/
theorem s_7 (hx : RQK x1 K) (hv : RV x2 V) (hg : RP x3 G) (hb : RP x4 B) (hS : ∀ p : S2x24x128x256.Idx, val_main_v346 x1 x2 x3 x4 x5 p = ((hst K V G B S (p 0) (p 1) 7 (p 2) (p 3) : ℝ) : EReal)) (p : S2x24x128x256.Idx) :
    val_main_v368 x1 x2 x3 x4 x5 p = ((hst K V G B S (p 0) (p 1) 8 (p 2) (p 3) : ℝ) : EReal) := by
  simp -implicitDefEqProofs only [val_main_v362_apply, val_main_v363_apply, val_main_v364_apply, val_main_v367_apply, val_main_v368_apply, Ideal.addf_def, Ideal.mulf_def, de_7, kd_7, last_eq hg, kd_eq hx hg, vn_7 hx hv hg hb hS, hS, cmul, csum, cadd, csub]
  exact congrArg _ (congrFun (congrFun (hst_succ K V G B S (p 0) (p 1) 7) (p 2)) (p 3)).symm

/-! ### Chunk 8 -/

/-- Chunk 8 of the inverse applied to the values, as cut out. -/
theorem u_8 (p : S2x24x64x256.Idx) : val_main_v370 x1 x2 x3 x4 p = val_main_v178 x1 x2 x3 x4 (ix5 (p 0) 8 (p 1) (p 2) (p 3)) := by
  have key : ∀ a c i v, val_main_v370 x1 x2 x3 x4 (ix4 a c i v) = val_main_v178 x1 x2 x3 x4 (ix5 a 8 c i v) := by
    intro a c i v
    unfold val_main_v370 val_main_v369
    generalize val_main_v178 x1 x2 x3 x4 = y
    pointwise
    all_goals rfl
  exact (congrArg _ (eq_ix4 p)).trans (key _ _ _ _)
/-- Chunk 8 of the inverse applied to the decayed keys, as cut out. -/
theorem w_8 (p : S2x24x64x128.Idx) : val_main_v372 x1 x3 x4 p = val_main_v174 x1 x3 x4 (ix5 (p 0) 8 (p 1) (p 2) (p 3)) := by
  have key : ∀ a c i v, val_main_v372 x1 x3 x4 (ix4 a c i v) = val_main_v174 x1 x3 x4 (ix5 a 8 c i v) := by
    intro a c i v
    unfold val_main_v372 val_main_v371
    generalize val_main_v174 x1 x3 x4 = y
    pointwise
    all_goals rfl
  exact (congrArg _ (eq_ix4 p)).trans (key _ _ _ _)
/-- Chunk 8 of the decayed queries, as cut out. -/
theorem qg_8 (p : S2x24x64x128.Idx) : val_main_v376 x0 x3 p = val_main_v182 x0 x3 (ix5 (p 0) 8 (p 1) (p 2) (p 3)) := by
  have key : ∀ a c i v, val_main_v376 x0 x3 (ix4 a c i v) = val_main_v182 x0 x3 (ix5 a 8 c i v) := by
    intro a c i v
    unfold val_main_v376 val_main_v375
    generalize val_main_v182 x0 x3 = y
    pointwise
    all_goals rfl
  exact (congrArg _ (eq_ix4 p)).trans (key _ _ _ _)
/-- Chunk 8 of the decayed products, as cut out. -/
theorem pm_8 (p : S2x24x64x64.Idx) : val_main_v379 x0 x1 x3 p = val_main_v179 x0 x1 x3 (ix5 (p 0) 8 (p 1) (p 2) (p 3)) := by
  have key : ∀ a c i v, val_main_v379 x0 x1 x3 (ix4 a c i v) = val_main_v179 x0 x1 x3 (ix5 a 8 c i v) := by
    intro a c i v
    unfold val_main_v379 val_main_v378
    generalize val_main_v179 x0 x1 x3 = y
    pointwise
    all_goals rfl
  exact (congrArg _ (eq_ix4 p)).trans (key _ _ _ _)
/-- Chunk 8 of the keys decayed to the end of the chunk, as cut out. -/
theorem kd_8 (p : S2x24x64x128.Idx) : val_main_v388 x1 x3 p = val_main_v189 x1 x3 (ix5 (p 0) 8 (p 1) (p 2) (p 3)) := by
  have key : ∀ a c i v, val_main_v388 x1 x3 (ix4 a c i v) = val_main_v189 x1 x3 (ix5 a 8 c i v) := by
    intro a c i v
    unfold val_main_v388 val_main_v387
    generalize val_main_v189 x1 x3 = y
    pointwise
    all_goals rfl
  exact (congrArg _ (eq_ix4 p)).trans (key _ _ _ _)
/-- Chunk 8 of the whole-chunk decay, as cut out. -/
theorem de_8 (p : S2x24.Idx) : val_main_v383 x3 p = val_main_v192 x3 (ix3 (p 0) 8 (p 1)) := by
  have key : ∀ a c, val_main_v383 x3 (ix2 a c) = val_main_v192 x3 (ix3 a 8 c) := by
    intro a c
    unfold val_main_v383 val_main_v382
    generalize val_main_v192 x3 = y
    pointwise
    all_goals rfl
  exact (congrArg _ (eq_ix2 p)).trans (key _ _)
/-- The values written at chunk 8. -/
theorem vn_8 (hx : RQK x1 K) (hv : RV x2 V) (hg : RP x3 G) (hb : RP x4 B) (hS : ∀ p : S2x24x128x256.Idx, val_main_v368 x1 x2 x3 x4 x5 p = ((hst K V G B S (p 0) (p 1) 8 (p 2) (p 3) : ℝ) : EReal)) (p : S2x24x64x256.Idx) :
    val_main_v374 x1 x2 x3 x4 x5 p = ((vnew (chQK K (p 0) (p 1) 8) (chV V (p 0) (p 1) 8) (chP G (p 0) (p 1) 8) (chP B (p 0) (p 1) 8) (hst K V G B S (p 0) (p 1) 8) (p 2) (p 3) : ℝ) : EReal) := by
  simp -implicitDefEqProofs only [val_main_v373_apply, val_main_v374_apply, Ideal.subf_def, u_8, w_8, u_eq hx hg hb hv, w_eq hx hg hb, hS, cmul, csum, cadd, csub]
  exact congrArg _ (vnew_eq (chQK K (p 0) (p 1) 8) (chV V (p 0) (p 1) 8) (chP G (p 0) (p 1) 8) (chP B (p 0) (p 1) 8) (hst K V G B S (p 0) (p 1) 8) (p 2) (p 3)).symm
/-- The output of chunk 8. -/
theorem o_8 (hx : RQK x1 K) (hv : RV x2 V) (hg : RP x3 G) (hb : RP x4 B) (hq : RQK x0 Q) (hS : ∀ p : S2x24x128x256.Idx, val_main_v368 x1 x2 x3 x4 x5 p = ((hst K V G B S (p 0) (p 1) 8 (p 2) (p 3) : ℝ) : EReal)) (p : S2x24x64x256.Idx) :
    val_main_v381 x0 x1 x2 x3 x4 x5 p = ((oOut (chQK Q (p 0) (p 1) 8) (chQK K (p 0) (p 1) 8) (chV V (p 0) (p 1) 8) (chP G (p 0) (p 1) 8) (chP B (p 0) (p 1) 8) (hst K V G B S (p 0) (p 1) 8) (p 2) (p 3) : ℝ) : EReal) := by
  simp -implicitDefEqProofs only [val_main_v377_apply, val_main_v380_apply, val_main_v381_apply, Ideal.addf_def, qg_8, pm_8, qg_eq hq hg, pm_eq hx hq hg, vn_8 hx hv hg hb hS, hS, cmul, csum, cadd, csub]
  rfl
/-- The state after chunk 8. -/
theorem s_8 (hx : RQK x1 K) (hv : RV x2 V) (hg : RP x3 G) (hb : RP x4 B) (hS : ∀ p : S2x24x128x256.Idx, val_main_v368 x1 x2 x3 x4 x5 p = ((hst K V G B S (p 0) (p 1) 8 (p 2) (p 3) : ℝ) : EReal)) (p : S2x24x128x256.Idx) :
    val_main_v390 x1 x2 x3 x4 x5 p = ((hst K V G B S (p 0) (p 1) 9 (p 2) (p 3) : ℝ) : EReal) := by
  simp -implicitDefEqProofs only [val_main_v384_apply, val_main_v385_apply, val_main_v386_apply, val_main_v389_apply, val_main_v390_apply, Ideal.addf_def, Ideal.mulf_def, de_8, kd_8, last_eq hg, kd_eq hx hg, vn_8 hx hv hg hb hS, hS, cmul, csum, cadd, csub]
  exact congrArg _ (congrFun (congrFun (hst_succ K V G B S (p 0) (p 1) 8) (p 2)) (p 3)).symm

/-! ### Chunk 9 -/

/-- Chunk 9 of the inverse applied to the values, as cut out. -/
theorem u_9 (p : S2x24x64x256.Idx) : val_main_v392 x1 x2 x3 x4 p = val_main_v178 x1 x2 x3 x4 (ix5 (p 0) 9 (p 1) (p 2) (p 3)) := by
  have key : ∀ a c i v, val_main_v392 x1 x2 x3 x4 (ix4 a c i v) = val_main_v178 x1 x2 x3 x4 (ix5 a 9 c i v) := by
    intro a c i v
    unfold val_main_v392 val_main_v391
    generalize val_main_v178 x1 x2 x3 x4 = y
    pointwise
    all_goals rfl
  exact (congrArg _ (eq_ix4 p)).trans (key _ _ _ _)
/-- Chunk 9 of the inverse applied to the decayed keys, as cut out. -/
theorem w_9 (p : S2x24x64x128.Idx) : val_main_v394 x1 x3 x4 p = val_main_v174 x1 x3 x4 (ix5 (p 0) 9 (p 1) (p 2) (p 3)) := by
  have key : ∀ a c i v, val_main_v394 x1 x3 x4 (ix4 a c i v) = val_main_v174 x1 x3 x4 (ix5 a 9 c i v) := by
    intro a c i v
    unfold val_main_v394 val_main_v393
    generalize val_main_v174 x1 x3 x4 = y
    pointwise
    all_goals rfl
  exact (congrArg _ (eq_ix4 p)).trans (key _ _ _ _)
/-- Chunk 9 of the decayed queries, as cut out. -/
theorem qg_9 (p : S2x24x64x128.Idx) : val_main_v398 x0 x3 p = val_main_v182 x0 x3 (ix5 (p 0) 9 (p 1) (p 2) (p 3)) := by
  have key : ∀ a c i v, val_main_v398 x0 x3 (ix4 a c i v) = val_main_v182 x0 x3 (ix5 a 9 c i v) := by
    intro a c i v
    unfold val_main_v398 val_main_v397
    generalize val_main_v182 x0 x3 = y
    pointwise
    all_goals rfl
  exact (congrArg _ (eq_ix4 p)).trans (key _ _ _ _)
/-- Chunk 9 of the decayed products, as cut out. -/
theorem pm_9 (p : S2x24x64x64.Idx) : val_main_v401 x0 x1 x3 p = val_main_v179 x0 x1 x3 (ix5 (p 0) 9 (p 1) (p 2) (p 3)) := by
  have key : ∀ a c i v, val_main_v401 x0 x1 x3 (ix4 a c i v) = val_main_v179 x0 x1 x3 (ix5 a 9 c i v) := by
    intro a c i v
    unfold val_main_v401 val_main_v400
    generalize val_main_v179 x0 x1 x3 = y
    pointwise
    all_goals rfl
  exact (congrArg _ (eq_ix4 p)).trans (key _ _ _ _)
/-- Chunk 9 of the keys decayed to the end of the chunk, as cut out. -/
theorem kd_9 (p : S2x24x64x128.Idx) : val_main_v410 x1 x3 p = val_main_v189 x1 x3 (ix5 (p 0) 9 (p 1) (p 2) (p 3)) := by
  have key : ∀ a c i v, val_main_v410 x1 x3 (ix4 a c i v) = val_main_v189 x1 x3 (ix5 a 9 c i v) := by
    intro a c i v
    unfold val_main_v410 val_main_v409
    generalize val_main_v189 x1 x3 = y
    pointwise
    all_goals rfl
  exact (congrArg _ (eq_ix4 p)).trans (key _ _ _ _)
/-- Chunk 9 of the whole-chunk decay, as cut out. -/
theorem de_9 (p : S2x24.Idx) : val_main_v405 x3 p = val_main_v192 x3 (ix3 (p 0) 9 (p 1)) := by
  have key : ∀ a c, val_main_v405 x3 (ix2 a c) = val_main_v192 x3 (ix3 a 9 c) := by
    intro a c
    unfold val_main_v405 val_main_v404
    generalize val_main_v192 x3 = y
    pointwise
    all_goals rfl
  exact (congrArg _ (eq_ix2 p)).trans (key _ _)
/-- The values written at chunk 9. -/
theorem vn_9 (hx : RQK x1 K) (hv : RV x2 V) (hg : RP x3 G) (hb : RP x4 B) (hS : ∀ p : S2x24x128x256.Idx, val_main_v390 x1 x2 x3 x4 x5 p = ((hst K V G B S (p 0) (p 1) 9 (p 2) (p 3) : ℝ) : EReal)) (p : S2x24x64x256.Idx) :
    val_main_v396 x1 x2 x3 x4 x5 p = ((vnew (chQK K (p 0) (p 1) 9) (chV V (p 0) (p 1) 9) (chP G (p 0) (p 1) 9) (chP B (p 0) (p 1) 9) (hst K V G B S (p 0) (p 1) 9) (p 2) (p 3) : ℝ) : EReal) := by
  simp -implicitDefEqProofs only [val_main_v395_apply, val_main_v396_apply, Ideal.subf_def, u_9, w_9, u_eq hx hg hb hv, w_eq hx hg hb, hS, cmul, csum, cadd, csub]
  exact congrArg _ (vnew_eq (chQK K (p 0) (p 1) 9) (chV V (p 0) (p 1) 9) (chP G (p 0) (p 1) 9) (chP B (p 0) (p 1) 9) (hst K V G B S (p 0) (p 1) 9) (p 2) (p 3)).symm
/-- The output of chunk 9. -/
theorem o_9 (hx : RQK x1 K) (hv : RV x2 V) (hg : RP x3 G) (hb : RP x4 B) (hq : RQK x0 Q) (hS : ∀ p : S2x24x128x256.Idx, val_main_v390 x1 x2 x3 x4 x5 p = ((hst K V G B S (p 0) (p 1) 9 (p 2) (p 3) : ℝ) : EReal)) (p : S2x24x64x256.Idx) :
    val_main_v403 x0 x1 x2 x3 x4 x5 p = ((oOut (chQK Q (p 0) (p 1) 9) (chQK K (p 0) (p 1) 9) (chV V (p 0) (p 1) 9) (chP G (p 0) (p 1) 9) (chP B (p 0) (p 1) 9) (hst K V G B S (p 0) (p 1) 9) (p 2) (p 3) : ℝ) : EReal) := by
  simp -implicitDefEqProofs only [val_main_v399_apply, val_main_v402_apply, val_main_v403_apply, Ideal.addf_def, qg_9, pm_9, qg_eq hq hg, pm_eq hx hq hg, vn_9 hx hv hg hb hS, hS, cmul, csum, cadd, csub]
  rfl
/-- The state after chunk 9. -/
theorem s_9 (hx : RQK x1 K) (hv : RV x2 V) (hg : RP x3 G) (hb : RP x4 B) (hS : ∀ p : S2x24x128x256.Idx, val_main_v390 x1 x2 x3 x4 x5 p = ((hst K V G B S (p 0) (p 1) 9 (p 2) (p 3) : ℝ) : EReal)) (p : S2x24x128x256.Idx) :
    val_main_v412 x1 x2 x3 x4 x5 p = ((hst K V G B S (p 0) (p 1) 10 (p 2) (p 3) : ℝ) : EReal) := by
  simp -implicitDefEqProofs only [val_main_v406_apply, val_main_v407_apply, val_main_v408_apply, val_main_v411_apply, val_main_v412_apply, Ideal.addf_def, Ideal.mulf_def, de_9, kd_9, last_eq hg, kd_eq hx hg, vn_9 hx hv hg hb hS, hS, cmul, csum, cadd, csub]
  exact congrArg _ (congrFun (congrFun (hst_succ K V G B S (p 0) (p 1) 9) (p 2)) (p 3)).symm

end Cert.ReferenceIdeal.Read

end
-- ==== Proof.RefResults.lean ====
/- The reference's six results over the real numbers. -/
module

public import proofs.«01_k».proof.Proof.RefStepsA
public import proofs.«01_k».proof.Proof.RefStepsB
public import proofs.«01_k».proof.Proof.RefQuant
public import proofs.«01_k».proof.Proof.Results

@[expose] public section

set_option maxRecDepth 16384

noncomputable section

namespace Cert.ReferenceIdeal.Read

open Idealize.ShloMosaic Idealize.ShloMosaic.TcCoe Idealize.ShloMosaic.Tactic Cert.ReferenceIdeal
open Cert.Quant Cert.Spec Cert.Inverse

variable {x0 x1 : (⟨S2x640x24x128, .bf16⟩ : BufTy).Contents (Elt Ideal)} {K Q : AQK}
variable {x2 : (⟨S2x640x24x256, .bf16⟩ : BufTy).Contents (Elt Ideal)} {V : AV}
variable {x3 x4 : (⟨S2x640x24, .f32⟩ : BufTy).Contents (Elt Ideal)} {G B : AP}
variable {x5 : (⟨S2x24x128x256, .f32⟩ : BufTy).Contents (Elt Ideal)} {S : AS}

/-- An array with one real number per head and entry of the state. -/
def RS (x : (⟨S2x24x128x256, .f32⟩ : BufTy).Contents (Elt Ideal)) (S : AS) : Prop := ∀ b h d v, x (ix4 b h d v) = ((S b h d v : ℝ) : EReal)

/-! ### The states -/

/-- The reference's state before chunk 0. -/
theorem st_0 (hs : RS x5 S) (p : S2x24x128x256.Idx) : x5 p = ((hst K V G B S (p 0) (p 1) 0 (p 2) (p 3) : ℝ) : EReal) :=
  (congrArg x5 (eq_ix4 p)).trans (hs (p 0) (p 1) (p 2) (p 3))
/-- The reference's state before chunk 1. -/
theorem st_1 (hx : RQK x1 K) (hv : RV x2 V) (hg : RP x3 G) (hb : RP x4 B) (hs : RS x5 S) (p : S2x24x128x256.Idx) :
    val_main_v214 x1 x2 x3 x4 x5 p = ((hst K V G B S (p 0) (p 1) 1 (p 2) (p 3) : ℝ) : EReal) :=
  s_0 hx hv hg hb (st_0 hs) p
/-- The reference's state before chunk 2. -/
theorem st_2 (hx : RQK x1 K) (hv : RV x2 V) (hg : RP x3 G) (hb : RP x4 B) (hs : RS x5 S) (p : S2x24x128x256.Idx) :
    val_main_v236 x1 x2 x3 x4 x5 p = ((hst K V G B S (p 0) (p 1) 2 (p 2) (p 3) : ℝ) : EReal) :=
  s_1 hx hv hg hb (st_1 hx hv hg hb hs) p
/-- The reference's state before chunk 3. -/
theorem st_3 (hx : RQK x1 K) (hv : RV x2 V) (hg : RP x3 G) (hb : RP x4 B) (hs : RS x5 S) (p : S2x24x128x256.Idx) :
    val_main_v258 x1 x2 x3 x4 x5 p = ((hst K V G B S (p 0) (p 1) 3 (p 2) (p 3) : ℝ) : EReal) :=
  s_2 hx hv hg hb (st_2 hx hv hg hb hs) p
/-- The reference's state before chunk 4. -/
theorem st_4 (hx : RQK x1 K) (hv : RV x2 V) (hg : RP x3 G) (hb : RP x4 B) (hs : RS x5 S) (p : S2x24x128x256.Idx) :
    val_main_v280 x1 x2 x3 x4 x5 p = ((hst K V G B S (p 0) (p 1) 4 (p 2) (p 3) : ℝ) : EReal) :=
  s_3 hx hv hg hb (st_3 hx hv hg hb hs) p
/-- The reference's state before chunk 5. -/
theorem st_5 (hx : RQK x1 K) (hv : RV x2 V) (hg : RP x3 G) (hb : RP x4 B) (hs : RS x5 S) (p : S2x24x128x256.Idx) :
    val_main_v302 x1 x2 x3 x4 x5 p = ((hst K V G B S (p 0) (p 1) 5 (p 2) (p 3) : ℝ) : EReal) :=
  s_4 hx hv hg hb (st_4 hx hv hg hb hs) p
/-- The reference's state before chunk 6. -/
theorem st_6 (hx : RQK x1 K) (hv : RV x2 V) (hg : RP x3 G) (hb : RP x4 B) (hs : RS x5 S) (p : S2x24x128x256.Idx) :
    val_main_v324 x1 x2 x3 x4 x5 p = ((hst K V G B S (p 0) (p 1) 6 (p 2) (p 3) : ℝ) : EReal) :=
  s_5 hx hv hg hb (st_5 hx hv hg hb hs) p
/-- The reference's state before chunk 7. -/
theorem st_7 (hx : RQK x1 K) (hv : RV x2 V) (hg : RP x3 G) (hb : RP x4 B) (hs : RS x5 S) (p : S2x24x128x256.Idx) :
    val_main_v346 x1 x2 x3 x4 x5 p = ((hst K V G B S (p 0) (p 1) 7 (p 2) (p 3) : ℝ) : EReal) :=
  s_6 hx hv hg hb (st_6 hx hv hg hb hs) p
/-- The reference's state before chunk 8. -/
theorem st_8 (hx : RQK x1 K) (hv : RV x2 V) (hg : RP x3 G) (hb : RP x4 B) (hs : RS x5 S) (p : S2x24x128x256.Idx) :
    val_main_v368 x1 x2 x3 x4 x5 p = ((hst K V G B S (p 0) (p 1) 8 (p 2) (p 3) : ℝ) : EReal) :=
  s_7 hx hv hg hb (st_7 hx hv hg hb hs) p
/-- The reference's state before chunk 9. -/
theorem st_9 (hx : RQK x1 K) (hv : RV x2 V) (hg : RP x3 G) (hb : RP x4 B) (hs : RS x5 S) (p : S2x24x128x256.Idx) :
    val_main_v390 x1 x2 x3 x4 x5 p = ((hst K V G B S (p 0) (p 1) 9 (p 2) (p 3) : ℝ) : EReal) :=
  s_8 hx hv hg hb (st_8 hx hv hg hb hs) p
/-- The reference's state after the last chunk. -/
theorem st_10 (hx : RQK x1 K) (hv : RV x2 V) (hg : RP x3 G) (hb : RP x4 B) (hs : RS x5 S) (p : S2x24x128x256.Idx) :
    val_main_v412 x1 x2 x3 x4 x5 p = ((hst K V G B S (p 0) (p 1) 10 (p 2) (p 3) : ℝ) : EReal) :=
  s_9 hx hv hg hb (st_9 hx hv hg hb hs) p

/-! ### The outputs of the chunks put together -/

/-- Ten arrays stacked along the chunk axis, read at an index. -/
theorem stack_read (f : Fin 10 → Vec Ideal S2x24x64x256 .f32) (b : Fin 2) (n : Fin 10) (h : Fin 24) (i : Fin 64) (v : Fin 256) :
    concatenate S2x10x24x64x256 1 [⟨S2x1x24x64x256, (broadcastInDim S2x1x24x64x256 ![0, 2, 3, 4] Gen.bcast_S2x24x64x256_S2x1x24x64x256_0_2_3_4 (f 0) : Vec Ideal S2x1x24x64x256 .f32)⟩, ⟨S2x1x24x64x256, (broadcastInDim S2x1x24x64x256 ![0, 2, 3, 4] Gen.bcast_S2x24x64x256_S2x1x24x64x256_0_2_3_4 (f 1) : Vec Ideal S2x1x24x64x256 .f32)⟩, ⟨S2x1x24x64x256, (broadcastInDim S2x1x24x64x256 ![0, 2, 3, 4] Gen.bcast_S2x24x64x256_S2x1x24x64x256_0_2_3_4 (f 2) : Vec Ideal S2x1x24x64x256 .f32)⟩, ⟨S2x1x24x64x256, (broadcastInDim S2x1x24x64x256 ![0, 2, 3, 4] Gen.bcast_S2x24x64x256_S2x1x24x64x256_0_2_3_4 (f 3) : Vec Ideal S2x1x24x64x256 .f32)⟩, ⟨S2x1x24x64x256, (broadcastInDim S2x1x24x64x256 ![0, 2, 3, 4] Gen.bcast_S2x24x64x256_S2x1x24x64x256_0_2_3_4 (f 4) : Vec Ideal S2x1x24x64x256 .f32)⟩, ⟨S2x1x24x64x256, (broadcastInDim S2x1x24x64x256 ![0, 2, 3, 4] Gen.bcast_S2x24x64x256_S2x1x24x64x256_0_2_3_4 (f 5) : Vec Ideal S2x1x24x64x256 .f32)⟩, ⟨S2x1x24x64x256, (broadcastInDim S2x1x24x64x256 ![0, 2, 3, 4] Gen.bcast_S2x24x64x256_S2x1x24x64x256_0_2_3_4 (f 6) : Vec Ideal S2x1x24x64x256 .f32)⟩, ⟨S2x1x24x64x256, (broadcastInDim S2x1x24x64x256 ![0, 2, 3, 4] Gen.bcast_S2x24x64x256_S2x1x24x64x256_0_2_3_4 (f 7) : Vec Ideal S2x1x24x64x256 .f32)⟩, ⟨S2x1x24x64x256, (broadcastInDim S2x1x24x64x256 ![0, 2, 3, 4] Gen.bcast_S2x24x64x256_S2x1x24x64x256_0_2_3_4 (f 8) : Vec Ideal S2x1x24x64x256 .f32)⟩, ⟨S2x1x24x64x256, (broadcastInDim S2x1x24x64x256 ![0, 2, 3, 4] Gen.bcast_S2x24x64x256_S2x1x24x64x256_0_2_3_4 (f 9) : Vec Ideal S2x1x24x64x256 .f32)⟩] Gen.concatenates_S2x1x24x64x256_S2x1x24x64x256_S2x1x24x64x256_S2x1x24x64x256_S2x1x24x64x256_S2x1x24x64x256_S2x1x24x64x256_S2x1x24x64x256_S2x1x24x64x256_S2x1x24x64x256_S2x10x24x64x256_d1 (ix5 b n h i v) = f n (ix4 b h i v) := by
  fin_cases n <;> pointwise

/-- The reference's outputs of all chunks, at written coordinates. -/
theorem v423_read (hx : RQK x1 K) (hq : RQK x0 Q) (hv : RV x2 V) (hg : RP x3 G) (hb : RP x4 B) (hs : RS x5 S) (b : Fin 2) (n : Fin 10) (h : Fin 24) (i : Fin 64) (v : Fin 256) :
    val_main_v423 x0 x1 x2 x3 x4 x5 (ix5 b n h i v)
      = ((oOut (chQK Q b h n) (chQK K b h n) (chV V b h n) (chP G b h n) (chP B b h n) (hst K V G B S b h n.val) i v : ℝ) : EReal) := by
  have e : val_main_v423 x0 x1 x2 x3 x4 x5 (ix5 b n h i v) = (![val_main_v205 x0 x1 x2 x3 x4 x5, val_main_v227 x0 x1 x2 x3 x4 x5, val_main_v249 x0 x1 x2 x3 x4 x5, val_main_v271 x0 x1 x2 x3 x4 x5, val_main_v293 x0 x1 x2 x3 x4 x5, val_main_v315 x0 x1 x2 x3 x4 x5, val_main_v337 x0 x1 x2 x3 x4 x5, val_main_v359 x0 x1 x2 x3 x4 x5, val_main_v381 x0 x1 x2 x3 x4 x5, val_main_v403 x0 x1 x2 x3 x4 x5] : Fin 10 → Vec Ideal S2x24x64x256 .f32) n (ix4 b h i v) := by
    unfold val_main_v423 val_main_v413 val_main_v414 val_main_v415 val_main_v416 val_main_v417 val_main_v418 val_main_v419 val_main_v420 val_main_v421 val_main_v422
    generalize val_main_v205 x0 x1 x2 x3 x4 x5 = y0
    generalize val_main_v227 x0 x1 x2 x3 x4 x5 = y1
    generalize val_main_v249 x0 x1 x2 x3 x4 x5 = y2
    generalize val_main_v271 x0 x1 x2 x3 x4 x5 = y3
    generalize val_main_v293 x0 x1 x2 x3 x4 x5 = y4
    generalize val_main_v315 x0 x1 x2 x3 x4 x5 = y5
    generalize val_main_v337 x0 x1 x2 x3 x4 x5 = y6
    generalize val_main_v359 x0 x1 x2 x3 x4 x5 = y7
    generalize val_main_v381 x0 x1 x2 x3 x4 x5 = y8
    generalize val_main_v403 x0 x1 x2 x3 x4 x5 = y9
    exact stack_read ![y0, y1, y2, y3, y4, y5, y6, y7, y8, y9] b n h i v
  rw [e]
  match n with
  | ⟨0, _⟩ => exact o_0 hx hv hg hb hq (st_0 hs) (ix4 b h i v)
  | ⟨1, _⟩ => exact o_1 hx hv hg hb hq (st_1 hx hv hg hb hs) (ix4 b h i v)
  | ⟨2, _⟩ => exact o_2 hx hv hg hb hq (st_2 hx hv hg hb hs) (ix4 b h i v)
  | ⟨3, _⟩ => exact o_3 hx hv hg hb hq (st_3 hx hv hg hb hs) (ix4 b h i v)
  | ⟨4, _⟩ => exact o_4 hx hv hg hb hq (st_4 hx hv hg hb hs) (ix4 b h i v)
  | ⟨5, _⟩ => exact o_5 hx hv hg hb hq (st_5 hx hv hg hb hs) (ix4 b h i v)
  | ⟨6, _⟩ => exact o_6 hx hv hg hb hq (st_6 hx hv hg hb hs) (ix4 b h i v)
  | ⟨7, _⟩ => exact o_7 hx hv hg hb hq (st_7 hx hv hg hb hs) (ix4 b h i v)
  | ⟨8, _⟩ => exact o_8 hx hv hg hb hq (st_8 hx hv hg hb hs) (ix4 b h i v)
  | ⟨9, _⟩ => exact o_9 hx hv hg hb hq (st_9 hx hv hg hb hs) (ix4 b h i v)

/-- The reference's outputs of all chunks. -/
theorem v423_eq (hx : RQK x1 K) (hq : RQK x0 Q) (hv : RV x2 V) (hg : RP x3 G) (hb : RP x4 B) (hs : RS x5 S) (p : S2x10x24x64x256.Idx) :
    val_main_v423 x0 x1 x2 x3 x4 x5 p
      = ((oOut (chQK Q (p 0) (p 2) (p 1)) (chQK K (p 0) (p 2) (p 1)) (chV V (p 0) (p 2) (p 1)) (chP G (p 0) (p 2) (p 1)) (chP B (p 0) (p 2) (p 1))
          (hst K V G B S (p 0) (p 2) (p 1 : Fin 10).val) (p 3) (p 4) : ℝ) : EReal) :=
  (congrArg _ (eq_ix5 p)).trans (v423_read hx hq hv hg hb hs (p 0) (p 1) (p 2) (p 3) (p 4))

/-- The chunks put back in one row of positions. -/
theorem row_425 (p : S2x640x24x256.Idx) : val_main_v425 x0 x1 x2 x3 x4 x5 p = val_main_v423 x0 x1 x2 x3 x4 x5 (ix5 (p 0) (chunkOf (p 1)) (p 2) (placeOf (p 1)) (p 3)) := by
  have key : ∀ b t h d, val_main_v425 x0 x1 x2 x3 x4 x5 (ix4 b t h d) = val_main_v423 x0 x1 x2 x3 x4 x5 (ix5 b (chunkOf t) h (placeOf t) d) := by
    intro b t h d
    unfold val_main_v425 val_main_v424
    generalize val_main_v423 x0 x1 x2 x3 x4 x5 = y
    pointwise
    rfl
  exact (congrArg _ (eq_ix4 p)).trans (key _ _ _ _)
/-- The key codes in the order of positions. -/
theorem row_428 (p : S2x640x24x128.Idx) : val_main_v428 x1 p = val_main_v38 x1 (ix5 (p 0) (chunkOf (p 1)) (p 2) (placeOf (p 1)) (p 3)) := by
  have key : ∀ b t h d, val_main_v428 x1 (ix4 b t h d) = val_main_v38 x1 (ix5 b (chunkOf t) h (placeOf t) d) := by
    intro b t h d
    unfold val_main_v428 val_main_v427
    generalize val_main_v38 x1 = y
    pointwise
    rfl
  exact (congrArg _ (eq_ix4 p)).trans (key _ _ _ _)
/-- The query codes in the order of positions. -/
theorem row_431 (p : S2x640x24x128.Idx) : val_main_v431 x0 p = val_main_v64 x0 (ix5 (p 0) (chunkOf (p 1)) (p 2) (placeOf (p 1)) (p 3)) := by
  have key : ∀ b t h d, val_main_v431 x0 (ix4 b t h d) = val_main_v64 x0 (ix5 b (chunkOf t) h (placeOf t) d) := by
    intro b t h d
    unfold val_main_v431 val_main_v430
    generalize val_main_v64 x0 = y
    pointwise
    rfl
  exact (congrArg _ (eq_ix4 p)).trans (key _ _ _ _)

/-! ### The six results -/

/-- The reference's first result: the outputs. -/
theorem res_o (hx : RQK x1 K) (hq : RQK x0 Q) (hv : RV x2 V) (hg : RP x3 G) (hb : RP x4 B) (hs : RS x5 S) :
    val_main_v426 x0 x1 x2 x3 x4 x5 = fun p : S2x640x24x256.Idx => ((outA Q K V G B S (p 0) (p 1) (p 2) (p 3) : ℝ) : EReal) := by
  funext p
  rw [val_main_v426_apply, row_425, v423_eq hx hq hv hg hb hs]
  rfl
/-- The reference's second result: the final state. -/
theorem res_s (hx : RQK x1 K) (hv : RV x2 V) (hg : RP x3 G) (hb : RP x4 B) (hs : RS x5 S) :
    val_main_v412 x1 x2 x3 x4 x5 = fun p : S2x24x128x256.Idx => ((hst K V G B S (p 0) (p 1) 10 (p 2) (p 3) : ℝ) : EReal) :=
  funext fun p => st_10 hx hv hg hb hs p
/-- The reference's third result: the key codes. -/
theorem res_k (hx : RQK x1 K) : val_main_v429 x1 = fun p : S2x640x24x128.Idx => ((codeA K (p 0) (p 1) (p 2) (p 3) : ℝ) : EReal) := by
  funext p
  rw [val_main_v429_apply, row_428, kcode_eq hx]
  rfl
/-- The reference's fourth result: the key scales. -/
theorem res_ks (hx : RQK x1 K) : val_main_v31 x1 = fun p : S2x10x24.Idx => ((scaleA K (p 0) (p 1) (p 2) : ℝ) : EReal) :=
  funext fun p => kscale_eq hx p
/-- The reference's fifth result: the query codes. -/
theorem res_q (hq : RQK x0 Q) : val_main_v432 x0 = fun p : S2x640x24x128.Idx => ((codeA Q (p 0) (p 1) (p 2) (p 3) : ℝ) : EReal) := by
  funext p
  rw [val_main_v432_apply, row_431, qcode_eq hq]
  rfl
/-- The reference's sixth result: the query scales. -/
theorem res_qs (hq : RQK x0 Q) : val_main_v57 x0 = fun p : S2x10x24.Idx => ((scaleA Q (p 0) (p 1) (p 2) : ℝ) : EReal) :=
  funext fun p => qscale_eq hq p

end Cert.ReferenceIdeal.Read

end
-- ==== Proof.Algebraic.lean ====
/- The reference's frame, and the agreement of the kernel's six results with the reference's, over the extended reals. -/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.FiniteArgs
public import proofs.«01_k».proof.Proof.IdealRun
public import proofs.«01_k».proof.Proof.KernelResults
public import proofs.«01_k».proof.Proof.RefResults

@[expose] public section

noncomputable section

namespace Cert.Proof

open Idealize.ShloMosaic Idealize.SL.Sem Cert.Spec

/-- The reference, from any memory, runs, leaves its arguments unchanged and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m g)

/-- From finite arguments the kernel and the reference end with equal outputs, states, codes and scales: each result is
    the same array of reals, a formula of the arguments. -/
theorem algebraic : Cert.algebraic_KernelIdeal_ReferenceIdeal_pre_finite := by
  intro m g m' g' hpre hargs
  have hr (c : Dev Cert.KernelIdeal.nD) : ∃ (Q K : AQK) (V : AV) (G B : AP) (S : AS), Cert.KernelIdeal.Value.Reals m c Q K V G B S := by
    obtain ⟨⟨Q, hQ, hQ'⟩, ⟨K, hK, hK'⟩, ⟨V, hV⟩, ⟨G, hG⟩, ⟨B, hB⟩, ⟨S, hS⟩⟩ := Cert.Pre_finite.Read.arrays (hpre c)
    exact ⟨Q, K, V, G, B, S, ⟨hQ, hK, hV, hG, hB, hS, hQ', hK'⟩⟩
  choose Q K V G B S r using hr
  refine ⟨fun c p => ((outA (Q c) (K c) (V c) (G c) (B c) (S c) (p 0) (p 1) (p 2) (p 3) : ℝ) : EReal),
    fun c p => ((hst (K c) (V c) (G c) (B c) (S c) (p 0) (p 1) 10 (p 2) (p 3) : ℝ) : EReal),
    fun c p => ((codeA (K c) (p 0) (p 1) (p 2) (p 3) : ℝ) : EReal),
    fun c p => ((scaleA (K c) (p 0) (p 1) (p 2) : ℝ) : EReal),
    fun c p => ((codeA (Q c) (p 0) (p 1) (p 2) (p 3) : ℝ) : EReal),
    fun c p => ((scaleA (Q c) (p 0) (p 1) (p 2) : ℝ) : EReal), ?_, ?_⟩
  · exact (θ_run Cert.KernelIdeal.defs _ _).mono (fun _ h c =>
      ⟨(h c).1.trans (Cert.KernelIdeal.Value.res_o (r c)), (h c).2.1.trans (Cert.KernelIdeal.Value.res_s (r c)),
        (h c).2.2.1.trans (Cert.KernelIdeal.Value.res_k (r c)), (h c).2.2.2.1.trans (Cert.KernelIdeal.Value.res_ks (r c)),
        (h c).2.2.2.2.1.trans (Cert.KernelIdeal.Value.res_q (r c)), (h c).2.2.2.2.2.1.trans (Cert.KernelIdeal.Value.res_qs (r c)),
        (h c).2.2.2.2.2.2⟩)
      (Cert.KernelIdeal.Value.run m g)
  · refine (θ_run Cert.ReferenceIdeal.defs _ _).mono (fun _ h c => ?_) (Cert.ReferenceIdeal.Value.run (F := Ideal) m' g')
    have hq : Cert.ReferenceIdeal.Read.RQK (StableHlo.launchContents m' c (Proc.devRef .tc Cert.ReferenceIdeal.main_arg0)) (Q c) :=
      ⟨fun b t h d => (congrFun (hargs c).1 _).trans ((r c).q b t h d), (r c).qlt⟩
    have hx : Cert.ReferenceIdeal.Read.RQK (StableHlo.launchContents m' c (Proc.devRef .tc Cert.ReferenceIdeal.main_arg1)) (K c) :=
      ⟨fun b t h d => (congrFun (hargs c).2.1 _).trans ((r c).k b t h d), (r c).klt⟩
    have hv : Cert.ReferenceIdeal.Read.RV (StableHlo.launchContents m' c (Proc.devRef .tc Cert.ReferenceIdeal.main_arg2)) (V c) :=
      fun b t h d => (congrFun (hargs c).2.2.1 _).trans ((r c).v b t h d)
    have hg : Cert.ReferenceIdeal.Read.RP (StableHlo.launchContents m' c (Proc.devRef .tc Cert.ReferenceIdeal.main_arg3)) (G c) :=
      fun b t h => (congrFun (hargs c).2.2.2.1 _).trans ((r c).g b t h)
    have hb : Cert.ReferenceIdeal.Read.RP (StableHlo.launchContents m' c (Proc.devRef .tc Cert.ReferenceIdeal.main_arg4)) (B c) :=
      fun b t h => (congrFun (hargs c).2.2.2.2.1 _).trans ((r c).b b t h)
    have hs : Cert.ReferenceIdeal.Read.RS (StableHlo.launchContents m' c (Proc.devRef .tc Cert.ReferenceIdeal.main_arg5)) (S c) :=
      fun b h d v => (congrFun (hargs c).2.2.2.2.2 _).trans ((r c).s b h d v)
    exact ⟨(h c).1.trans ((Cert.ReferenceIdeal.Read.val_main_v426_eq _).trans (Cert.ReferenceIdeal.Read.res_o hx hq hv hg hb hs)),
      (h c).2.1.trans ((Cert.ReferenceIdeal.Read.val_main_v412_eq _).trans (Cert.ReferenceIdeal.Read.res_s hx hv hg hb hs)),
      (h c).2.2.1.trans ((Cert.ReferenceIdeal.Read.val_main_v429_eq _).trans (Cert.ReferenceIdeal.Read.res_k hx)),
      (h c).2.2.2.1.trans ((Cert.ReferenceIdeal.Read.val_main_v31_eq _).trans (Cert.ReferenceIdeal.Read.res_ks hx)),
      (h c).2.2.2.2.1.trans ((Cert.ReferenceIdeal.Read.val_main_v432_eq _).trans (Cert.ReferenceIdeal.Read.res_q hq)),
      (h c).2.2.2.2.2.1.trans ((Cert.ReferenceIdeal.Read.val_main_v57_eq _).trans (Cert.ReferenceIdeal.Read.res_qs hq)),
      (h c).2.2.2.2.2.2⟩

end Cert.Proof

end
-- ==== Proof.lean ====
/- The proof of the claims about the chunked gated delta rule. The modules under Proof/ hold the parts. -/
module

public import proofs.«01_k».proof.Defs
public import proofs.«01_k».proof.Proof.Gen.Kernel
public import proofs.«01_k».proof.Proof.Gen.KernelIdeal
public import proofs.«01_k».proof.Proof.KernelFrame
public import proofs.«01_k».proof.Proof.IdealFrame
public import proofs.«01_k».proof.Proof.Algebraic
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import Idealize.ShloMosaic.Adequacy
public import Idealize.ShloMosaic.Init

@[expose] public section

noncomputable section

namespace Cert.Proof

open Idealize.ShloMosaic Idealize.SL.Sem

/-- Every claim of this directory: the frames of the kernel, of its ideal reading and of the reference, and the equality
    of all six results of the kernel and the reference from finite arguments. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    trivial,
    algebraic⟩

end Cert.Proof

end
